-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_valid : Cert.Pre_valid.Facts),
    quiescent_Kernel (hKernel := hKernel) (hPre_in_range := hPre_in_range)
    ∧ quiescent_KernelIdeal (hKernelIdeal := hKernelIdeal) (hPre_in_range := hPre_in_range)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_in_range.lean ====
abbrev S18432x1408 : Shape := ⟨2, ![18432, 1408]⟩
abbrev S18432 : Shape := ⟨1, ![18432]⟩
abbrev S65 : Shape := ⟨1, ![65]⟩
abbrev S64x1408x1408 : Shape := ⟨3, ![64, 1408, 1408]⟩
abbrev S64 : Shape := ⟨1, ![64]⟩
abbrev S_ : Shape := ⟨0, ![]⟩

class Facts : Prop where
  bcast_S_S65 : S_.BroadcastsInDim S65 (![] : Fin 0 → Fin S65.rank)
  reducesTo_S65_S_d0 : S65.ReducesTo [0] S_
  h_S_ : 0 < S_.numel
  slices_S65_S64_0 : S65.Slices ![0] S64
  slices_S65_S64_1 : S65.Slices ![1] S64
  reducesTo_S64_S_d0 : S64.ReducesTo [0] S_

variable [Facts]

def fn {F : FTy → Type} [FloatOps F] (main_arg0 : FVec F S18432x1408 .fp8e4m3) (main_arg1 : FVec F S18432 .f32) (main_arg2 : IVec S65 32) (main_arg3 : FVec F S64x1408x1408 .f32) (main_arg4 : IVec S64 32) : IVec S_ 1 :=
  let main_c : IVec S_ 32 := constantI S_ 32 0#32
  let main_v0 : IVec S65 32 := broadcastInDim S65 ![] bcast_S_S65 main_c
  let main_v1 : IVec S65 1 := cmpi .sge main_arg2 main_v0
  let main_c_0 : IVec S_ 1 := constantI S_ 1 1#1
  let main_v2 : IVec S_ 1 := (fun x v => Host.reduce IntOp.andi x v reducesTo_S65_S_d0 h_S_) main_v1 main_c_0
  let main_c_1 : IVec S_ 32 := constantI S_ 32 18432#32
  let main_v3 : IVec S65 32 := broadcastInDim S65 ![] bcast_S_S65 main_c_1
  let main_v4 : IVec S65 1 := cmpi .sle main_arg2 main_v3
  let main_c_2 : IVec S_ 1 := constantI S_ 1 1#1
  let main_v5 : IVec S_ 1 := (fun x v => Host.reduce IntOp.andi x v reducesTo_S65_S_d0 h_S_) main_v4 main_c_2
  let main_v6 : IVec S_ 1 := andi main_v2 main_v5
  let main_v7 : IVec S64 32 := (extractStridedSlice S64 ![0] · slices_S65_S64_0) main_arg2
  let main_v8 : IVec S64 32 := (extractStridedSlice S64 ![1] · slices_S65_S64_1) main_arg2
  let main_v9 : IVec S64 1 := cmpi .sle main_v7 main_v8
  let main_c_3 : IVec S_ 1 := constantI S_ 1 1#1
  let main_v10 : IVec S_ 1 := (fun x v => Host.reduce IntOp.andi x v reducesTo_S64_S_d0 h_S_) main_v9 main_c_3
  let main_v11 : IVec S_ 1 := andi main_v6 main_v10
  main_v11
-- ==== Pre_valid.lean ====
abbrev S18432x1408 : Shape := ⟨2, ![18432, 1408]⟩
abbrev S18432 : Shape := ⟨1, ![18432]⟩
abbrev S65 : Shape := ⟨1, ![65]⟩
abbrev S64x1408x1408 : Shape := ⟨3, ![64, 1408, 1408]⟩
abbrev S64 : Shape := ⟨1, ![64]⟩
abbrev S_ : Shape := ⟨0, ![]⟩

class Facts : Prop where
  bcast_S_S65 : S_.BroadcastsInDim S65 (![] : Fin 0 → Fin S65.rank)
  reducesTo_S65_S_d0 : S65.ReducesTo [0] S_
  h_S_ : 0 < S_.numel
  slices_S65_S64_0 : S65.Slices ![0] S64
  slices_S65_S64_1 : S65.Slices ![1] S64
  reducesTo_S64_S_d0 : S64.ReducesTo [0] S_
  bcast_S_S64 : S_.BroadcastsInDim S64 (![] : Fin 0 → Fin S64.rank)

variable [Facts]

def fn {F : FTy → Type} [FloatOps F] (main_arg0 : FVec F S18432x1408 .fp8e4m3) (main_arg1 : FVec F S18432 .f32) (main_arg2 : IVec S65 32) (main_arg3 : FVec F S64x1408x1408 .f32) (main_arg4 : IVec S64 32) : IVec S_ 1 :=
  let main_c : IVec S_ 32 := constantI S_ 32 0#32
  let main_v0 : IVec S65 32 := broadcastInDim S65 ![] bcast_S_S65 main_c
  let main_v1 : IVec S65 1 := cmpi .sge main_arg2 main_v0
  let main_c_0 : IVec S_ 1 := constantI S_ 1 1#1
  let main_v2 : IVec S_ 1 := (fun x v => Host.reduce IntOp.andi x v reducesTo_S65_S_d0 h_S_) main_v1 main_c_0
  let main_c_1 : IVec S_ 32 := constantI S_ 32 18432#32
  let main_v3 : IVec S65 32 := broadcastInDim S65 ![] bcast_S_S65 main_c_1
  let main_v4 : IVec S65 1 := cmpi .sle main_arg2 main_v3
  let main_c_2 : IVec S_ 1 := constantI S_ 1 1#1
  let main_v5 : IVec S_ 1 := (fun x v => Host.reduce IntOp.andi x v reducesTo_S65_S_d0 h_S_) main_v4 main_c_2
  let main_v6 : IVec S_ 1 := andi main_v2 main_v5
  let main_v7 : IVec S64 32 := (extractStridedSlice S64 ![0] · slices_S65_S64_0) main_arg2
  let main_v8 : IVec S64 32 := (extractStridedSlice S64 ![1] · slices_S65_S64_1) main_arg2
  let main_v9 : IVec S64 1 := cmpi .sle main_v7 main_v8
  let main_c_3 : IVec S_ 1 := constantI S_ 1 1#1
  let main_v10 : IVec S_ 1 := (fun x v => Host.reduce IntOp.andi x v reducesTo_S64_S_d0 h_S_) main_v9 main_c_3
  let main_v11 : IVec S_ 1 := andi main_v6 main_v10
  let main_c_4 : IVec S_ 32 := constantI S_ 32 0#32
  let main_v12 : IVec S64 32 := broadcastInDim S64 ![] bcast_S_S64 main_c_4
  let main_v13 : IVec S64 1 := cmpi .sge main_arg4 main_v12
  let main_c_5 : IVec S_ 1 := constantI S_ 1 1#1
  let main_v14 : IVec S_ 1 := (fun x v => Host.reduce IntOp.andi x v reducesTo_S64_S_d0 h_S_) main_v13 main_c_5
  let main_v15 : IVec S_ 1 := andi main_v11 main_v14
  main_v15
-- ==== Kernel.lean ====
abbrev S18432x1408 : Shape := ⟨2, ![18432, 1408]⟩
abbrev S18432 : Shape := ⟨1, ![18432]⟩
abbrev S65 : Shape := ⟨1, ![65]⟩
abbrev S64x1408x1408 : Shape := ⟨3, ![64, 1408, 1408]⟩
abbrev S64 : Shape := ⟨1, ![64]⟩
abbrev S144x128 : Shape := ⟨2, ![144, 128]⟩
abbrev S7x1408x1408 : Shape := ⟨3, ![7, 1408, 1408]⟩
abbrev S4x256x1408 : Shape := ⟨3, ![4, 256, 1408]⟩
abbrev S256x1408 : Shape := ⟨2, ![256, 1408]⟩
abbrev S1408x256 : Shape := ⟨2, ![1408, 256]⟩
abbrev S200 : Shape := ⟨1, ![200]⟩
abbrev S7 : Shape := ⟨1, ![7]⟩
abbrev S4 : Shape := ⟨1, ![4]⟩
abbrev S1 : Shape := ⟨1, ![1]⟩
abbrev S_ : Shape := ⟨0, ![]⟩
abbrev S1x1408x1408 : Shape := ⟨3, ![1, 1408, 1408]⟩
abbrev S1408x1408 : Shape := ⟨2, ![1408, 1408]⟩
abbrev S1x256x1408 : Shape := ⟨3, ![1, 256, 1408]⟩
abbrev S1x256 : Shape := ⟨2, ![1, 256]⟩
abbrev S1x128 : Shape := ⟨2, ![1, 128]⟩
abbrev S128x256 : Shape := ⟨2, ![128, 256]⟩
abbrev S256x128 : Shape := ⟨2, ![256, 128]⟩
abbrev S1x256x128 : Shape := ⟨3, ![1, 256, 128]⟩
abbrev S256x256 : Shape := ⟨2, ![256, 256]⟩
abbrev S1x1408x256 : Shape := ⟨3, ![1, 1408, 256]⟩
abbrev S1408x128 : Shape := ⟨2, ![1408, 128]⟩
abbrev S1x1408x128 : Shape := ⟨3, ![1, 1408, 128]⟩

abbrev nBuf : Space → Nat
  | .hbm => 8
  | .vmem => 5
  | .smem => 4
  | _ => 0

abbrev bufTy : (tb : Table) → Fin (tcTables nBuf tb) → BufTy
  | .hbm, ⟨0, _⟩ => ⟨S18432x1408, .fp8e4m3⟩
  | .hbm, ⟨1, _⟩ => ⟨S18432, .f32⟩
  | .hbm, ⟨2, _⟩ => ⟨S65, .i32⟩
  | .hbm, ⟨3, _⟩ => ⟨S64x1408x1408, .f32⟩
  | .hbm, ⟨4, _⟩ => ⟨S64, .i32⟩
  | .hbm, ⟨5, _⟩ => ⟨S144x128, .f32⟩
  | .hbm, ⟨6, _⟩ => ⟨S64x1408x1408, .f32⟩
  | .hbm, ⟨7, _⟩ => ⟨S64, .i32⟩
  | .local _ .vmem, ⟨0, _⟩ => ⟨S144x128, .f32⟩
  | .local _ .vmem, ⟨1, _⟩ => ⟨S7x1408x1408, .f32⟩
  | .local _ .vmem, ⟨2, _⟩ => ⟨S4x256x1408, .fp8e4m3⟩
  | .local _ .vmem, ⟨3, _⟩ => ⟨S256x1408, .bf16⟩
  | .local _ .vmem, ⟨4, _⟩ => ⟨S1408x256, .bf16⟩
  | .local _ .smem, ⟨0, _⟩ => ⟨S65, .i32⟩
  | .local _ .smem, ⟨1, _⟩ => ⟨S64, .i32⟩
  | .local _ .smem, ⟨2, _⟩ => ⟨S64, .i32⟩
  | .local _ .smem, ⟨3, _⟩ => ⟨S200, .i32⟩
  | _, _ => ⟨S18432x1408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_stg3_0 : Ref sig .tc := ⟨.smem, 2, rfl⟩
abbrev cc0_scratch4 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (c0_i32 : BitVec 32) : Fin 1 → Nat :=
  let c7_i32 : BitVec 32 := 7#32
  let v0 : BitVec 32 := Scalar.remsi c0_i32 c7_i32
  ![v0.toNat]
def k0_off2 (c0_i32 : BitVec 32) : Fin 3 → Nat :=
  let c7_i32 : BitVec 32 := 7#32
  let v0 : BitVec 32 := Scalar.remsi c0_i32 c7_i32
  let c0_i32_1 : BitVec 32 := 0#32
  let c0_i32_2 : BitVec 32 := 0#32
  ![v0.toNat, 0, 0]
@[reducible] def k0_t1_loop : Scf.Loop 32 :=
  let c0_i32_42 : BitVec 32 := 0#32
  let c64_i32 : BitVec 32 := 64#32
  let v49 : BitVec 32 := Scalar.addi c0_i32_42 c64_i32
  let c1_i32_43 : BitVec 32 := 1#32
  ⟨c0_i32_42, v49, c1_i32_43⟩
def k0_off3 (k0_t1 : Fin k0_t1_loop.trips) : Fin 1 → Nat :=
  let c0_i32_42 : BitVec 32 := 0#32
  let c1_i32_43 : BitVec 32 := 1#32
  let arg15 : BitVec 32 := Scf.iv c0_i32_42 c1_i32_43 k0_t1
  let v86 : Index := Scalar.indexCast arg15
  ![v86.toNat]
def k0_off4 (k0_t1 : Fin k0_t1_loop.trips) : Fin 1 → Nat :=
  let c0_i32_42 : BitVec 32 := 0#32
  let c1_i32_43 : BitVec 32 := 1#32
  let arg15 : BitVec 32 := Scf.iv c0_i32_42 c1_i32_43 k0_t1
  let c1_i32_76 : BitVec 32 := 1#32
  let v88 : BitVec 32 := Scalar.addi arg15 c1_i32_76
  let v89 : Index := Scalar.indexCast v88
  ![v89.toNat]
def k0_off5 (k0_t1 : Fin k0_t1_loop.trips) : Fin 1 → Nat :=
  let c0_i32_42 : BitVec 32 := 0#32
  let c1_i32_43 : BitVec 32 := 1#32
  let arg15 : BitVec 32 := Scf.iv c0_i32_42 c1_i32_43 k0_t1
  let v91 : Index := Scalar.indexCast arg15
  ![v91.toNat]
@[reducible] def k0_t2_loop (v87 : BitVec 32) (v90 : BitVec 32) : Scf.Loop 32 :=
  let c0_i32_102 : BitVec 32 := 0#32
  let v133 : BitVec 1 := Scalar.cmpi .sgt v90 v87
  let c0_i32_85 : BitVec 32 := 0#32
  let v116 : BitVec 1 := Scalar.cmpi .sgt v87 c0_i32_85
  let v117 : BitVec 32 := Scalar.extui v116
  let c0_i32_86 : BitVec 32 := 0#32
  let v118 : BitVec 1 := Scalar.cmpi .slt v87 c0_i32_86
  let v119 : BitVec 32 := Scalar.extui v118
  let v120 : BitVec 32 := Scalar.subi v117 v119
  let c128_i32_84 : BitVec 32 := 128#32
  let c0_i32_87 : BitVec 32 := 0#32
  let v121 : BitVec 1 := Scalar.cmpi .sgt c128_i32_84 c0_i32_87
  let v122 : BitVec 32 := Scalar.extui v121
  let c0_i32_88 : BitVec 32 := 0#32
  let v123 : BitVec 1 := Scalar.cmpi .slt c128_i32_84 c0_i32_88
  let v124 : BitVec 32 := Scalar.extui v123
  let v125 : BitVec 32 := Scalar.subi v122 v124
  let v126 : BitVec 1 := Scalar.cmpi .ne v120 v125
  let v127 : BitVec 32 := Scalar.remsi v87 c128_i32_84
  let c0_i32_89 : BitVec 32 := 0#32
  let v128 : BitVec 1 := Scalar.cmpi .ne v127 c0_i32_89
  let v129 : BitVec 1 := Scalar.andi v126 v128
  let v115 : BitVec 32 := Scalar.divsi v87 c128_i32_84
  let c1_i32_90 : BitVec 32 := 1#32
  let v130 : BitVec 32 := Scalar.subi v115 c1_i32_90
  let v131 : BitVec 32 := Scalar.select v129 v130 v115
  let c128_i32_91 : BitVec 32 := 128#32
  let v132 : BitVec 32 := Scalar.muli v131 c128_i32_91
  let v134 : BitVec 32 := Scalar.subi v90 v132
  let c256_i32 : BitVec 32 := 256#32
  let v135 : BitVec 32 := Scalar.addi v134 c256_i32
  let c1_i32_92 : BitVec 32 := 1#32
  let v136 : BitVec 32 := Scalar.subi v135 c1_i32_92
  let c0_i32_94 : BitVec 32 := 0#32
  let v138 : BitVec 1 := Scalar.cmpi .sgt v136 c0_i32_94
  let v139 : BitVec 32 := Scalar.extui v138
  let c0_i32_95 : BitVec 32 := 0#32
  let v140 : BitVec 1 := Scalar.cmpi .slt v136 c0_i32_95
  let v141 : BitVec 32 := Scalar.extui v140
  let v142 : BitVec 32 := Scalar.subi v139 v141
  let c256_i32_93 : BitVec 32 := 256#32
  let c0_i32_96 : BitVec 32 := 0#32
  let v143 : BitVec 1 := Scalar.cmpi .sgt c256_i32_93 c0_i32_96
  let v144 : BitVec 32 := Scalar.extui v143
  let c0_i32_97 : BitVec 32 := 0#32
  let v145 : BitVec 1 := Scalar.cmpi .slt c256_i32_93 c0_i32_97
  let v146 : BitVec 32 := Scalar.extui v145
  let v147 : BitVec 32 := Scalar.subi v144 v146
  let v148 : BitVec 1 := Scalar.cmpi .ne v142 v147
  let v149 : BitVec 32 := Scalar.remsi v136 c256_i32_93
  let c0_i32_98 : BitVec 32 := 0#32
  let v150 : BitVec 1 := Scalar.cmpi .ne v149 c0_i32_98
  let v151 : BitVec 1 := Scalar.andi v148 v150
  let v137 : BitVec 32 := Scalar.divsi v136 c256_i32_93
  let c1_i32_99 : BitVec 32 := 1#32
  let v152 : BitVec 32 := Scalar.subi v137 c1_i32_99
  let v153 : BitVec 32 := Scalar.select v151 v152 v137
  let c0_i32_100 : BitVec 32 := 0#32
  let v154 : BitVec 32 := Scalar.select v133 v153 c0_i32_100
  let v155 : BitVec 32 := Scalar.subi v154 c0_i32_102
  let c1_i32_103 : BitVec 32 := 1#32
  let v157 : BitVec 32 := Scalar.divsi v155 c1_i32_103
  let v158 : BitVec 32 := Scalar.muli v157 c1_i32_103
  let v159 : BitVec 32 := Scalar.addi c0_i32_102 v158
  let c1_i32_104 : BitVec 32 := 1#32
  ⟨c0_i32_102, v159, c1_i32_104⟩

def k0_off6 (arg16 : BitVec 32) (v87 : BitVec 32) (v90 : BitVec 32) (k0_t2 : Fin (k0_t2_loop v87 v90).trips) : Fin 1 → Nat :=
  let c0_i32_102 : BitVec 32 := 0#32
  let c1_i32_104 : BitVec 32 := 1#32
  let arg17 : BitVec 32 := Scf.iv c0_i32_102 c1_i32_104 k0_t2
  let v163 : BitVec 32 := Scalar.addi arg16 arg17
  let v164 : Index := Scalar.indexCast v163
  ![v164.toNat]
@[reducible] def k0_t3_loop (v87 : BitVec 32) (v90 : BitVec 32) : Scf.Loop 32 :=
  let c0_i32_102 : BitVec 32 := 0#32
  let v133 : BitVec 1 := Scalar.cmpi .sgt v90 v87
  let c0_i32_85 : BitVec 32 := 0#32
  let v116 : BitVec 1 := Scalar.cmpi .sgt v87 c0_i32_85
  let v117 : BitVec 32 := Scalar.extui v116
  let c0_i32_86 : BitVec 32 := 0#32
  let v118 : BitVec 1 := Scalar.cmpi .slt v87 c0_i32_86
  let v119 : BitVec 32 := Scalar.extui v118
  let v120 : BitVec 32 := Scalar.subi v117 v119
  let c128_i32_84 : BitVec 32 := 128#32
  let c0_i32_87 : BitVec 32 := 0#32
  let v121 : BitVec 1 := Scalar.cmpi .sgt c128_i32_84 c0_i32_87
  let v122 : BitVec 32 := Scalar.extui v121
  let c0_i32_88 : BitVec 32 := 0#32
  let v123 : BitVec 1 := Scalar.cmpi .slt c128_i32_84 c0_i32_88
  let v124 : BitVec 32 := Scalar.extui v123
  let v125 : BitVec 32 := Scalar.subi v122 v124
  let v126 : BitVec 1 := Scalar.cmpi .ne v120 v125
  let v127 : BitVec 32 := Scalar.remsi v87 c128_i32_84
  let c0_i32_89 : BitVec 32 := 0#32
  let v128 : BitVec 1 := Scalar.cmpi .ne v127 c0_i32_89
  let v129 : BitVec 1 := Scalar.andi v126 v128
  let v115 : BitVec 32 := Scalar.divsi v87 c128_i32_84
  let c1_i32_90 : BitVec 32 := 1#32
  let v130 : BitVec 32 := Scalar.subi v115 c1_i32_90
  let v131 : BitVec 32 := Scalar.select v129 v130 v115
  let c128_i32_91 : BitVec 32 := 128#32
  let v132 : BitVec 32 := Scalar.muli v131 c128_i32_91
  let v134 : BitVec 32 := Scalar.subi v90 v132
  let c256_i32 : BitVec 32 := 256#32
  let v135 : BitVec 32 := Scalar.addi v134 c256_i32
  let c1_i32_92 : BitVec 32 := 1#32
  let v136 : BitVec 32 := Scalar.subi v135 c1_i32_92
  let c0_i32_94 : BitVec 32 := 0#32
  let v138 : BitVec 1 := Scalar.cmpi .sgt v136 c0_i32_94
  let v139 : BitVec 32 := Scalar.extui v138
  let c0_i32_95 : BitVec 32 := 0#32
  let v140 : BitVec 1 := Scalar.cmpi .slt v136 c0_i32_95
  let v141 : BitVec 32 := Scalar.extui v140
  let v142 : BitVec 32 := Scalar.subi v139 v141
  let c256_i32_93 : BitVec 32 := 256#32
  let c0_i32_96 : BitVec 32 := 0#32
  let v143 : BitVec 1 := Scalar.cmpi .sgt c256_i32_93 c0_i32_96
  let v144 : BitVec 32 := Scalar.extui v143
  let c0_i32_97 : BitVec 32 := 0#32
  let v145 : BitVec 1 := Scalar.cmpi .slt c256_i32_93 c0_i32_97
  let v146 : BitVec 32 := Scalar.extui v145
  let v147 : BitVec 32 := Scalar.subi v144 v146
  let v148 : BitVec 1 := Scalar.cmpi .ne v142 v147
  let v149 : BitVec 32 := Scalar.remsi v136 c256_i32_93
  let c0_i32_98 : BitVec 32 := 0#32
  let v150 : BitVec 1 := Scalar.cmpi .ne v149 c0_i32_98
  let v151 : BitVec 1 := Scalar.andi v148 v150
  let v137 : BitVec 32 := Scalar.divsi v136 c256_i32_93
  let c1_i32_99 : BitVec 32 := 1#32
  let v152 : BitVec 32 := Scalar.subi v137 c1_i32_99
  let v153 : BitVec 32 := Scalar.select v151 v152 v137
  let c0_i32_100 : BitVec 32 := 0#32
  let v154 : BitVec 32 := Scalar.select v133 v153 c0_i32_100
  let v155 : BitVec 32 := Scalar.subi v154 c0_i32_102
  let c1_i32_103 : BitVec 32 := 1#32
  let v157 : BitVec 32 := Scalar.divsi v155 c1_i32_103
  let v158 : BitVec 32 := Scalar.muli v157 c1_i32_103
  let v159 : BitVec 32 := Scalar.addi c0_i32_102 v158
  let v156 : BitVec 32 := Scalar.addi c0_i32_102 v155
  let c1_i32_105 : BitVec 32 := 1#32
  ⟨v159, v156, c1_i32_105⟩
def k0_off7 (arg16 : BitVec 32) (v87 : BitVec 32) (v90 : BitVec 32) (k0_t3 : Fin (k0_t3_loop v87 v90).trips) : Fin 1 → Nat :=
  let c0_i32_102 : BitVec 32 := 0#32
  let v133 : BitVec 1 := Scalar.cmpi .sgt v90 v87
  let c0_i32_85 : BitVec 32 := 0#32
  let v116 : BitVec 1 := Scalar.cmpi .sgt v87 c0_i32_85
  let v117 : BitVec 32 := Scalar.extui v116
  let c0_i32_86 : BitVec 32 := 0#32
  let v118 : BitVec 1 := Scalar.cmpi .slt v87 c0_i32_86
  let v119 : BitVec 32 := Scalar.extui v118
  let v120 : BitVec 32 := Scalar.subi v117 v119
  let c128_i32_84 : BitVec 32 := 128#32
  let c0_i32_87 : BitVec 32 := 0#32
  let v121 : BitVec 1 := Scalar.cmpi .sgt c128_i32_84 c0_i32_87
  let v122 : BitVec 32 := Scalar.extui v121
  let c0_i32_88 : BitVec 32 := 0#32
  let v123 : BitVec 1 := Scalar.cmpi .slt c128_i32_84 c0_i32_88
  let v124 : BitVec 32 := Scalar.extui v123
  let v125 : BitVec 32 := Scalar.subi v122 v124
  let v126 : BitVec 1 := Scalar.cmpi .ne v120 v125
  let v127 : BitVec 32 := Scalar.remsi v87 c128_i32_84
  let c0_i32_89 : BitVec 32 := 0#32
  let v128 : BitVec 1 := Scalar.cmpi .ne v127 c0_i32_89
  let v129 : BitVec 1 := Scalar.andi v126 v128
  let v115 : BitVec 32 := Scalar.divsi v87 c128_i32_84
  let c1_i32_90 : BitVec 32 := 1#32
  let v130 : BitVec 32 := Scalar.subi v115 c1_i32_90
  let v131 : BitVec 32 := Scalar.select v129 v130 v115
  let c128_i32_91 : BitVec 32 := 128#32
  let v132 : BitVec 32 := Scalar.muli v131 c128_i32_91
  let v134 : BitVec 32 := Scalar.subi v90 v132
  let c256_i32 : BitVec 32 := 256#32
  let v135 : BitVec 32 := Scalar.addi v134 c256_i32
  let c1_i32_92 : BitVec 32 := 1#32
  let v136 : BitVec 32 := Scalar.subi v135 c1_i32_92
  let c0_i32_94 : BitVec 32 := 0#32
  let v138 : BitVec 1 := Scalar.cmpi .sgt v136 c0_i32_94
  let v139 : BitVec 32 := Scalar.extui v138
  let c0_i32_95 : BitVec 32 := 0#32
  let v140 : BitVec 1 := Scalar.cmpi .slt v136 c0_i32_95
  let v141 : BitVec 32 := Scalar.extui v140
  let v142 : BitVec 32 := Scalar.subi v139 v141
  let c256_i32_93 : BitVec 32 := 256#32
  let c0_i32_96 : BitVec 32 := 0#32
  let v143 : BitVec 1 := Scalar.cmpi .sgt c256_i32_93 c0_i32_96
  let v144 : BitVec 32 := Scalar.extui v143
  let c0_i32_97 : BitVec 32 := 0#32
  let v145 : BitVec 1 := Scalar.cmpi .slt c256_i32_93 c0_i32_97
  let v146 : BitVec 32 := Scalar.extui v145
  let v147 : BitVec 32 := Scalar.subi v144 v146
  let v148 : BitVec 1 := Scalar.cmpi .ne v142 v147
  let v149 : BitVec 32 := Scalar.remsi v136 c256_i32_93
  let c0_i32_98 : BitVec 32 := 0#32
  let v150 : BitVec 1 := Scalar.cmpi .ne v149 c0_i32_98
  let v151 : BitVec 1 := Scalar.andi v148 v150
  let v137 : BitVec 32 := Scalar.divsi v136 c256_i32_93
  let c1_i32_99 : BitVec 32 := 1#32
  let v152 : BitVec 32 := Scalar.subi v137 c1_i32_99
  let v153 : BitVec 32 := Scalar.select v151 v152 v137
  let c0_i32_100 : BitVec 32 := 0#32
  let v154 : BitVec 32 := Scalar.select v133 v153 c0_i32_100
  let v155 : BitVec 32 := Scalar.subi v154 c0_i32_102
  let c1_i32_103 : BitVec 32 := 1#32
  let v157 : BitVec 32 := Scalar.divsi v155 c1_i32_103
  let v158 : BitVec 32 := Scalar.muli v157 c1_i32_103
  let v159 : BitVec 32 := Scalar.addi c0_i32_102 v158
  let c1_i32_105 : BitVec 32 := 1#32
  let arg17 : BitVec 32 := Scf.iv v159 c1_i32_105 k0_t3
  let v163 : BitVec 32 := Scalar.addi arg16 arg17
  let v164 : Index := Scalar.indexCast v163
  ![v164.toNat]

def k0_chk1 (arg16 : BitVec 32) (v87 : BitVec 32) (v90 : BitVec 32) : Prop :=
  ((k0_t2_loop v87 v90).OK) ∧
  (∀ k0_t2 : Fin (k0_t2_loop v87 v90).trips, ∀ a, (k0_off6 arg16 v87 v90 k0_t2) a + S1.size a ≤ S200.size a) ∧
  ((k0_t3_loop v87 v90).OK) ∧
  (∀ k0_t3 : Fin (k0_t3_loop v87 v90).trips, ∀ a, (k0_off7 arg16 v87 v90 k0_t3) a + S1.size a ≤ S200.size a)
theorem k0_t2_ok : ∀ (arg16 : BitVec 32) (v87 : BitVec 32) (v90 : BitVec 32) (k0_hw1 : k0_chk1 arg16 v87 v90), (k0_t2_loop v87 v90).OK := fun arg16 v87 v90 k0_hw1 => k0_hw1.1
theorem k0_off6_inb : ∀ (arg16 : BitVec 32) (v87 : BitVec 32) (v90 : BitVec 32) (k0_hw1 : k0_chk1 arg16 v87 v90) (k0_t2 : Fin (k0_t2_loop v87 v90).trips), ∀ a, (k0_off6 arg16 v87 v90 k0_t2) a + S1.size a ≤ S200.size a := fun arg16 v87 v90 k0_hw1 k0_t2 => k0_hw1.2.1 k0_t2
theorem k0_t3_ok : ∀ (arg16 : BitVec 32) (v87 : BitVec 32) (v90 : BitVec 32) (k0_hw1 : k0_chk1 arg16 v87 v90), (k0_t3_loop v87 v90).OK := fun arg16 v87 v90 k0_hw1 => k0_hw1.2.2.1
theorem k0_off7_inb : ∀ (arg16 : BitVec 32) (v87 : BitVec 32) (v90 : BitVec 32) (k0_hw1 : k0_chk1 arg16 v87 v90) (k0_t3 : Fin (k0_t3_loop v87 v90).trips), ∀ a, (k0_off7 arg16 v87 v90 k0_t3) a + S1.size a ≤ S200.size a := fun arg16 v87 v90 k0_hw1 k0_t3 => k0_hw1.2.2.2 k0_t3

def k0_mult1 (v87 : BitVec 32) : BitVec 32 :=
  let c18176_i32 : BitVec 32 := 18176#32
  let v88 : BitVec 32 := Scalar.minsi v87 c18176_i32
  v88
def k0_cond1 (v50 : BitVec 32) : BitVec 1 :=
  let c0_i32_45 : BitVec 32 := 0#32
  let v51 : BitVec 1 := Scalar.cmpi .sgt v50 c0_i32_45
  let v52 : BitVec 32 := Scalar.extui v51
  let c0_i32_46 : BitVec 32 := 0#32
  let v53 : BitVec 1 := Scalar.cmpi .ne v52 c0_i32_46
  v53

def k0_off8 : Fin 1 → Nat :=
  let c0_i32_76 : BitVec 32 := 0#32
  let c4_i32_77 : BitVec 32 := 4#32
  let v86 : BitVec 32 := Scalar.remsi c0_i32_76 c4_i32_77
  ![v86.toNat]
def k0_off9 : Fin 3 → Nat :=
  let c0_i32_76 : BitVec 32 := 0#32
  let c4_i32_77 : BitVec 32 := 4#32
  let v86 : BitVec 32 := Scalar.remsi c0_i32_76 c4_i32_77
  let c0_i32_78 : BitVec 32 := 0#32
  let c0_i32_79 : BitVec 32 := 0#32
  ![v86.toNat, 0, 0]
def k0_off10 (v87 : BitVec 32) : Fin 2 → Nat :=
  let c18176_i32 : BitVec 32 := 18176#32
  let v88 : BitVec 32 := Scalar.minsi v87 c18176_i32
  let v89 : BitVec 32 := v88
  let c0_i32_80 : BitVec 32 := 0#32
  ![v89.toNat, 0]

def k0_chk2 (v50 : BitVec 32) (v87 : BitVec 32) : Prop :=
  (∀ (k0_h1 : k0_cond1 v50 = 1#1), 128 ∣ (k0_mult1 v87).toNat) ∧
  (∀ (k0_h1 : k0_cond1 v50 = 1#1), ∀ a, (k0_off10 v87) a + S256x1408.size a ≤ S18432x1408.size a) ∧
  (∀ (k0_h1 : k0_cond1 v50 = 1#1), ∀ (hinb : ∀ a, (k0_off10 v87) a + S256x1408.size a ≤ S18432x1408.size a), (Rect.unit (s := S18432x1408) (k0_off10 v87) S256x1408.size hinb).WholeWords (EltTy.packing .fp8e4m3))
theorem k0_mult1_dvd : ∀ (v50 : BitVec 32) (v87 : BitVec 32) (k0_hw2 : k0_chk2 v50 v87), ∀ (k0_h1 : k0_cond1 v50 = 1#1), 128 ∣ (k0_mult1 v87).toNat := fun v50 v87 k0_hw2 k0_h1 => k0_hw2.1 k0_h1
theorem k0_off10_inb : ∀ (v50 : BitVec 32) (v87 : BitVec 32) (k0_hw2 : k0_chk2 v50 v87), ∀ (k0_h1 : k0_cond1 v50 = 1#1), ∀ a, (k0_off10 v87) a + S256x1408.size a ≤ S18432x1408.size a := fun v50 v87 k0_hw2 k0_h1 => k0_hw2.2.1 k0_h1
theorem k0_off10_wordsfp8e4m3 : ∀ (v50 : BitVec 32) (v87 : BitVec 32) (k0_hw2 : k0_chk2 v50 v87), ∀ (k0_h1 : k0_cond1 v50 = 1#1), (Rect.unit (s := S18432x1408) (k0_off10 v87) S256x1408.size (k0_off10_inb v50 v87 k0_hw2 k0_h1)).WholeWords (EltTy.packing .fp8e4m3) := fun v50 v87 k0_hw2 k0_h1 => k0_hw2.2.2 k0_h1 (k0_off10_inb v50 v87 k0_hw2 k0_h1)

def k0_mult2 (v87 : BitVec 32) : BitVec 32 :=
  let c18176_i32 : BitVec 32 := 18176#32
  let v88 : BitVec 32 := Scalar.minsi v87 c18176_i32
  v88
def k0_cond2 (v50 : BitVec 32) : BitVec 1 :=
  let c1_i32_47 : BitVec 32 := 1#32
  let v54 : BitVec 1 := Scalar.cmpi .sgt v50 c1_i32_47
  let v55 : BitVec 32 := Scalar.extui v54
  let c0_i32_48 : BitVec 32 := 0#32
  let v56 : BitVec 1 := Scalar.cmpi .ne v55 c0_i32_48
  v56

def k0_off11 : Fin 1 → Nat :=
  let c1_i32_76 : BitVec 32 := 1#32
  let c4_i32_77 : BitVec 32 := 4#32
  let v86 : BitVec 32 := Scalar.remsi c1_i32_76 c4_i32_77
  ![v86.toNat]
def k0_off12 : Fin 3 → Nat :=
  let c1_i32_76 : BitVec 32 := 1#32
  let c4_i32_77 : BitVec 32 := 4#32
  let v86 : BitVec 32 := Scalar.remsi c1_i32_76 c4_i32_77
  let c0_i32_78 : BitVec 32 := 0#32
  let c0_i32_79 : BitVec 32 := 0#32
  ![v86.toNat, 0, 0]
def k0_off13 (v87 : BitVec 32) : Fin 2 → Nat :=
  let c18176_i32 : BitVec 32 := 18176#32
  let v88 : BitVec 32 := Scalar.minsi v87 c18176_i32
  let v89 : BitVec 32 := v88
  let c0_i32_80 : BitVec 32 := 0#32
  ![v89.toNat, 0]

def k0_chk3 (v50 : BitVec 32) (v87 : BitVec 32) : Prop :=
  (∀ (k0_h2 : k0_cond2 v50 = 1#1), 128 ∣ (k0_mult2 v87).toNat) ∧
  (∀ (k0_h2 : k0_cond2 v50 = 1#1), ∀ a, (k0_off13 v87) a + S256x1408.size a ≤ S18432x1408.size a) ∧
  (∀ (k0_h2 : k0_cond2 v50 = 1#1), ∀ (hinb : ∀ a, (k0_off13 v87) a + S256x1408.size a ≤ S18432x1408.size a), (Rect.unit (s := S18432x1408) (k0_off13 v87) S256x1408.size hinb).WholeWords (EltTy.packing .fp8e4m3))
theorem k0_mult2_dvd : ∀ (v50 : BitVec 32) (v87 : BitVec 32) (k0_hw3 : k0_chk3 v50 v87), ∀ (k0_h2 : k0_cond2 v50 = 1#1), 128 ∣ (k0_mult2 v87).toNat := fun v50 v87 k0_hw3 k0_h2 => k0_hw3.1 k0_h2
theorem k0_off13_inb : ∀ (v50 : BitVec 32) (v87 : BitVec 32) (k0_hw3 : k0_chk3 v50 v87), ∀ (k0_h2 : k0_cond2 v50 = 1#1), ∀ a, (k0_off13 v87) a + S256x1408.size a ≤ S18432x1408.size a := fun v50 v87 k0_hw3 k0_h2 => k0_hw3.2.1 k0_h2
theorem k0_off13_wordsfp8e4m3 : ∀ (v50 : BitVec 32) (v87 : BitVec 32) (k0_hw3 : k0_chk3 v50 v87), ∀ (k0_h2 : k0_cond2 v50 = 1#1), (Rect.unit (s := S18432x1408) (k0_off13 v87) S256x1408.size (k0_off13_inb v50 v87 k0_hw3 k0_h2)).WholeWords (EltTy.packing .fp8e4m3) := fun v50 v87 k0_hw3 k0_h2 => k0_hw3.2.2 k0_h2 (k0_off13_inb v50 v87 k0_hw3 k0_h2)

def k0_mult3 (v87 : BitVec 32) : BitVec 32 :=
  let c18176_i32 : BitVec 32 := 18176#32
  let v88 : BitVec 32 := Scalar.minsi v87 c18176_i32
  v88
def k0_cond3 (v50 : BitVec 32) : BitVec 1 :=
  let c2_i32_49 : BitVec 32 := 2#32
  let v57 : BitVec 1 := Scalar.cmpi .sgt v50 c2_i32_49
  let v58 : BitVec 32 := Scalar.extui v57
  let c0_i32_50 : BitVec 32 := 0#32
  let v59 : BitVec 1 := Scalar.cmpi .ne v58 c0_i32_50
  v59

def k0_off14 : Fin 1 → Nat :=
  let c2_i32_76 : BitVec 32 := 2#32
  let c4_i32_77 : BitVec 32 := 4#32
  let v86 : BitVec 32 := Scalar.remsi c2_i32_76 c4_i32_77
  ![v86.toNat]
def k0_off15 : Fin 3 → Nat :=
  let c2_i32_76 : BitVec 32 := 2#32
  let c4_i32_77 : BitVec 32 := 4#32
  let v86 : BitVec 32 := Scalar.remsi c2_i32_76 c4_i32_77
  let c0_i32_78 : BitVec 32 := 0#32
  let c0_i32_79 : BitVec 32 := 0#32
  ![v86.toNat, 0, 0]
def k0_off16 (v87 : BitVec 32) : Fin 2 → Nat :=
  let c18176_i32 : BitVec 32 := 18176#32
  let v88 : BitVec 32 := Scalar.minsi v87 c18176_i32
  let v89 : BitVec 32 := v88
  let c0_i32_80 : BitVec 32 := 0#32
  ![v89.toNat, 0]

def k0_chk4 (v50 : BitVec 32) (v87 : BitVec 32) : Prop :=
  (∀ (k0_h3 : k0_cond3 v50 = 1#1), 128 ∣ (k0_mult3 v87).toNat) ∧
  (∀ (k0_h3 : k0_cond3 v50 = 1#1), ∀ a, (k0_off16 v87) a + S256x1408.size a ≤ S18432x1408.size a) ∧
  (∀ (k0_h3 : k0_cond3 v50 = 1#1), ∀ (hinb : ∀ a, (k0_off16 v87) a + S256x1408.size a ≤ S18432x1408.size a), (Rect.unit (s := S18432x1408) (k0_off16 v87) S256x1408.size hinb).WholeWords (EltTy.packing .fp8e4m3))
theorem k0_mult3_dvd : ∀ (v50 : BitVec 32) (v87 : BitVec 32) (k0_hw4 : k0_chk4 v50 v87), ∀ (k0_h3 : k0_cond3 v50 = 1#1), 128 ∣ (k0_mult3 v87).toNat := fun v50 v87 k0_hw4 k0_h3 => k0_hw4.1 k0_h3
theorem k0_off16_inb : ∀ (v50 : BitVec 32) (v87 : BitVec 32) (k0_hw4 : k0_chk4 v50 v87), ∀ (k0_h3 : k0_cond3 v50 = 1#1), ∀ a, (k0_off16 v87) a + S256x1408.size a ≤ S18432x1408.size a := fun v50 v87 k0_hw4 k0_h3 => k0_hw4.2.1 k0_h3
theorem k0_off16_wordsfp8e4m3 : ∀ (v50 : BitVec 32) (v87 : BitVec 32) (k0_hw4 : k0_chk4 v50 v87), ∀ (k0_h3 : k0_cond3 v50 = 1#1), (Rect.unit (s := S18432x1408) (k0_off16 v87) S256x1408.size (k0_off16_inb v50 v87 k0_hw4 k0_h3)).WholeWords (EltTy.packing .fp8e4m3) := fun v50 v87 k0_hw4 k0_h3 => k0_hw4.2.2 k0_h3 (k0_off16_inb v50 v87 k0_hw4 k0_h3)

def k0_mult4 (v87 : BitVec 32) : BitVec 32 :=
  let c18176_i32 : BitVec 32 := 18176#32
  let v88 : BitVec 32 := Scalar.minsi v87 c18176_i32
  v88
def k0_cond4 (v50 : BitVec 32) : BitVec 1 :=
  let c3_i32_51 : BitVec 32 := 3#32
  let v60 : BitVec 1 := Scalar.cmpi .sgt v50 c3_i32_51
  let v61 : BitVec 32 := Scalar.extui v60
  let c0_i32_52 : BitVec 32 := 0#32
  let v62 : BitVec 1 := Scalar.cmpi .ne v61 c0_i32_52
  v62

def k0_off17 : Fin 1 → Nat :=
  let c3_i32_76 : BitVec 32 := 3#32
  let c4_i32_77 : BitVec 32 := 4#32
  let v86 : BitVec 32 := Scalar.remsi c3_i32_76 c4_i32_77
  ![v86.toNat]
def k0_off18 : Fin 3 → Nat :=
  let c3_i32_76 : BitVec 32 := 3#32
  let c4_i32_77 : BitVec 32 := 4#32
  let v86 : BitVec 32 := Scalar.remsi c3_i32_76 c4_i32_77
  let c0_i32_78 : BitVec 32 := 0#32
  let c0_i32_79 : BitVec 32 := 0#32
  ![v86.toNat, 0, 0]
def k0_off19 (v87 : BitVec 32) : Fin 2 → Nat :=
  let c18176_i32 : BitVec 32 := 18176#32
  let v88 : BitVec 32 := Scalar.minsi v87 c18176_i32
  let v89 : BitVec 32 := v88
  let c0_i32_80 : BitVec 32 := 0#32
  ![v89.toNat, 0]

def k0_chk5 (v50 : BitVec 32) (v87 : BitVec 32) : Prop :=
  (∀ (k0_h4 : k0_cond4 v50 = 1#1), 128 ∣ (k0_mult4 v87).toNat) ∧
  (∀ (k0_h4 : k0_cond4 v50 = 1#1), ∀ a, (k0_off19 v87) a + S256x1408.size a ≤ S18432x1408.size a) ∧
  (∀ (k0_h4 : k0_cond4 v50 = 1#1), ∀ (hinb : ∀ a, (k0_off19 v87) a + S256x1408.size a ≤ S18432x1408.size a), (Rect.unit (s := S18432x1408) (k0_off19 v87) S256x1408.size hinb).WholeWords (EltTy.packing .fp8e4m3))
theorem k0_mult4_dvd : ∀ (v50 : BitVec 32) (v87 : BitVec 32) (k0_hw5 : k0_chk5 v50 v87), ∀ (k0_h4 : k0_cond4 v50 = 1#1), 128 ∣ (k0_mult4 v87).toNat := fun v50 v87 k0_hw5 k0_h4 => k0_hw5.1 k0_h4
theorem k0_off19_inb : ∀ (v50 : BitVec 32) (v87 : BitVec 32) (k0_hw5 : k0_chk5 v50 v87), ∀ (k0_h4 : k0_cond4 v50 = 1#1), ∀ a, (k0_off19 v87) a + S256x1408.size a ≤ S18432x1408.size a := fun v50 v87 k0_hw5 k0_h4 => k0_hw5.2.1 k0_h4
theorem k0_off19_wordsfp8e4m3 : ∀ (v50 : BitVec 32) (v87 : BitVec 32) (k0_hw5 : k0_chk5 v50 v87), ∀ (k0_h4 : k0_cond4 v50 = 1#1), (Rect.unit (s := S18432x1408) (k0_off19 v87) S256x1408.size (k0_off19_inb v50 v87 k0_hw5 k0_h4)).WholeWords (EltTy.packing .fp8e4m3) := fun v50 v87 k0_hw5 k0_h4 => k0_hw5.2.2 k0_h4 (k0_off19_inb v50 v87 k0_hw5 k0_h4)

@[reducible] def k0_t4_loop : Scf.Loop 32 :=
  let c0_i32_54 : BitVec 32 := 0#32
  let c64_i32_55 : BitVec 32 := 64#32
  let v63 : BitVec 32 := Scalar.addi c0_i32_54 c64_i32_55
  let c1_i32_56 : BitVec 32 := 1#32
  ⟨c0_i32_54, v63, c1_i32_56⟩
def k0_off20 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let v87 : Index := Scalar.indexCast arg15
  ![v87.toNat]
def k0_off21 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let c1_i32_77 : BitVec 32 := 1#32
  let v89 : BitVec 32 := Scalar.addi arg15 c1_i32_77
  let v90 : Index := Scalar.indexCast v89
  ![v90.toNat]
def k0_off22 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let v132 : Index := Scalar.indexCast arg15
  ![v132.toNat]
def k0_off23 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let c7_i32_95 : BitVec 32 := 7#32
  let v147 : BitVec 32 := Scalar.remsi arg15 c7_i32_95
  ![v147.toNat]
def k0_off24 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_95 : BitVec 32 := 7#32
  let v147 : BitVec 32 := Scalar.remsi arg15 c7_i32_95
  let c0_i32_96 : BitVec 32 := 0#32
  let c0_i32_97 : BitVec 32 := 0#32
  ![v147.toNat, 0, 0]
def k0_off25 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c0_i32_98 : BitVec 32 := 0#32
  let c0_i32_99 : BitVec 32 := 0#32
  ![arg15.toNat, 0, 0]
@[reducible] def k0_t5_loop (v88 : BitVec 32) (v91 : BitVec 32) : Scf.Loop 32 :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_103 : BitVec 32 := 1#32
  ⟨c0_i32_101, v158, c1_i32_103⟩

def k0_off26 (arg16 : BitVec 32) (v88 : BitVec 32) (v91 : BitVec 32) (k0_t5 : Fin (k0_t5_loop v88 v91).trips) : Fin 1 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let v172 : Index := Scalar.indexCast v170
  ![v172.toNat]
def k0_mult5 (v173 : BitVec 32) : BitVec 32 :=
  let c18176_i32 : BitVec 32 := 18176#32
  let v174 : BitVec 32 := Scalar.minsi v173 c18176_i32
  v174

def k0_off27 (arg16 : BitVec 32) (v88 : BitVec 32) (v91 : BitVec 32) (k0_t5 : Fin (k0_t5_loop v88 v91).trips) : Fin 1 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_112 : BitVec 32 := 4#32
  let v171 : BitVec 32 := Scalar.remsi v170 c4_i32_112
  ![v171.toNat]
def k0_off28 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_112 : BitVec 32 := 4#32
  let v171 : BitVec 32 := Scalar.remsi v170 c4_i32_112
  let c0_i32_113 : BitVec 32 := 0#32
  let c0_i32_114 : BitVec 32 := 0#32
  ![v171.toNat, 0, 0]
def k0_off29 (v173 : BitVec 32) : Fin 2 → Nat :=
  let c18176_i32 : BitVec 32 := 18176#32
  let v174 : BitVec 32 := Scalar.minsi v173 c18176_i32
  let v175 : BitVec 32 := v174
  let c0_i32_115 : BitVec 32 := 0#32
  ![v175.toNat, 0]

def k0_chk7 (v173 : BitVec 32) : Prop :=
  (128 ∣ (k0_mult5 v173).toNat) ∧
  (∀ a, (k0_off29 v173) a + S256x1408.size a ≤ S18432x1408.size a) ∧
  (∀ (hinb : ∀ a, (k0_off29 v173) a + S256x1408.size a ≤ S18432x1408.size a), (Rect.unit (s := S18432x1408) (k0_off29 v173) S256x1408.size hinb).WholeWords (EltTy.packing .fp8e4m3))
theorem k0_mult5_dvd : ∀ (v173 : BitVec 32) (k0_hw7 : k0_chk7 v173), 128 ∣ (k0_mult5 v173).toNat := fun v173 k0_hw7 => k0_hw7.1
theorem k0_off29_inb : ∀ (v173 : BitVec 32) (k0_hw7 : k0_chk7 v173), ∀ a, (k0_off29 v173) a + S256x1408.size a ≤ S18432x1408.size a := fun v173 k0_hw7 => k0_hw7.2.1
theorem k0_off29_wordsfp8e4m3 : ∀ (v173 : BitVec 32) (k0_hw7 : k0_chk7 v173), (Rect.unit (s := S18432x1408) (k0_off29 v173) S256x1408.size (k0_off29_inb v173 k0_hw7)).WholeWords (EltTy.packing .fp8e4m3) := fun v173 k0_hw7 => k0_hw7.2.2 (k0_off29_inb v173 k0_hw7)

def k0_off30 (arg16 : BitVec 32) (v88 : BitVec 32) (v91 : BitVec 32) (k0_t5 : Fin (k0_t5_loop v88 v91).trips) : Fin 1 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let v181 : Index := Scalar.indexCast v170
  ![v181.toNat]
def k0_off31 (v182 : BitVec 32) (c0_i32_124 : BitVec 32) : Fin 2 → Nat :=
  let c18176_i32_116 : BitVec 32 := 18176#32
  let v183 : BitVec 32 := Scalar.minsi v182 c18176_i32_116
  let c0_i32_118 : BitVec 32 := 0#32
  let v185 : BitVec 1 := Scalar.cmpi .sgt v183 c0_i32_118
  let v186 : BitVec 32 := Scalar.extui v185
  let c0_i32_119 : BitVec 32 := 0#32
  let v187 : BitVec 1 := Scalar.cmpi .slt v183 c0_i32_119
  let v188 : BitVec 32 := Scalar.extui v187
  let v189 : BitVec 32 := Scalar.subi v186 v188
  let c128_i32_117 : BitVec 32 := 128#32
  let c0_i32_120 : BitVec 32 := 0#32
  let v190 : BitVec 1 := Scalar.cmpi .sgt c128_i32_117 c0_i32_120
  let v191 : BitVec 32 := Scalar.extui v190
  let c0_i32_121 : BitVec 32 := 0#32
  let v192 : BitVec 1 := Scalar.cmpi .slt c128_i32_117 c0_i32_121
  let v193 : BitVec 32 := Scalar.extui v192
  let v194 : BitVec 32 := Scalar.subi v191 v193
  let v195 : BitVec 1 := Scalar.cmpi .ne v189 v194
  let v196 : BitVec 32 := Scalar.remsi v183 c128_i32_117
  let c0_i32_122 : BitVec 32 := 0#32
  let v197 : BitVec 1 := Scalar.cmpi .ne v196 c0_i32_122
  let v198 : BitVec 1 := Scalar.andi v195 v197
  let v184 : BitVec 32 := Scalar.divsi v183 c128_i32_117
  let c1_i32_123 : BitVec 32 := 1#32
  let v199 : BitVec 32 := Scalar.subi v184 c1_i32_123
  let v200 : BitVec 32 := Scalar.select v198 v199 v184
  let v201 : BitVec 32 := Scalar.addi v200 c0_i32_124
  let v202 : Index := Scalar.indexCast v201
  let c0 : Index := 0#32
  ![v202.toNat, 0]

def k0_chk8 (v182 : BitVec 32) : Prop :=
  (∀ (r : Fin 2), ∀ a, (k0_off31 v182 (BitVec.ofNat 32 r.val)) a + S1x128.size a ≤ S144x128.size a)
theorem k0_off31_inb : ∀ (v182 : BitVec 32) (k0_hw8 : k0_chk8 v182), ∀ (r : Fin 2), ∀ a, (k0_off31 v182 (BitVec.ofNat 32 r.val)) a + S1x128.size a ≤ S144x128.size a := fun v182 k0_hw8 r => k0_hw8 r

def k0_off32 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v226 : Index := Scalar.indexCast v225
  let c0_129 : Index := 0#32
  let c0_130 : Index := 0#32
  ![v226.toNat, 0, 0]
def k0_off33 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v238 : Index := Scalar.indexCast v225
  let c0_135 : Index := 0#32
  let c128 : Index := 128#32
  ![v238.toNat, 0, 128]
def k0_off34 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v250 : Index := Scalar.indexCast v225
  let c0_140 : Index := 0#32
  let c256 : Index := 256#32
  ![v250.toNat, 0, 256]
def k0_off35 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v262 : Index := Scalar.indexCast v225
  let c0_145 : Index := 0#32
  let c384 : Index := 384#32
  ![v262.toNat, 0, 384]
def k0_off36 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v274 : Index := Scalar.indexCast v225
  let c0_150 : Index := 0#32
  let c512 : Index := 512#32
  ![v274.toNat, 0, 512]
def k0_off37 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v286 : Index := Scalar.indexCast v225
  let c0_155 : Index := 0#32
  let c640 : Index := 640#32
  ![v286.toNat, 0, 640]
def k0_off38 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v298 : Index := Scalar.indexCast v225
  let c0_160 : Index := 0#32
  let c768 : Index := 768#32
  ![v298.toNat, 0, 768]
def k0_off39 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v310 : Index := Scalar.indexCast v225
  let c0_165 : Index := 0#32
  let c896 : Index := 896#32
  ![v310.toNat, 0, 896]
def k0_off40 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v322 : Index := Scalar.indexCast v225
  let c0_170 : Index := 0#32
  let c1024 : Index := 1024#32
  ![v322.toNat, 0, 1024]
def k0_off41 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v334 : Index := Scalar.indexCast v225
  let c0_175 : Index := 0#32
  let c1152 : Index := 1152#32
  ![v334.toNat, 0, 1152]
def k0_off42 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_128 : BitVec 32 := 4#32
  let v225 : BitVec 32 := Scalar.remsi v170 c4_i32_128
  let v346 : Index := Scalar.indexCast v225
  let c0_180 : Index := 0#32
  let c1280 : Index := 1280#32
  ![v346.toNat, 0, 1280]
def k0_off43 (arg16 : BitVec 32) (v88 : BitVec 32) (v91 : BitVec 32) (k0_t5 : Fin (k0_t5_loop v88 v91).trips) : Fin 1 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_243 : BitVec 32 := 4#32
  let v457 : BitVec 32 := Scalar.addi v170 c4_i32_243
  let v459 : Index := Scalar.indexCast v457
  ![v459.toNat]
def k0_cond5 (v50 : BitVec 32) (arg16 : BitVec 32) (v88 : BitVec 32) (v91 : BitVec 32) (k0_t5 : Fin (k0_t5_loop v88 v91).trips) : BitVec 1 :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_185 : BitVec 32 := 4#32
  let v358 : BitVec 32 := Scalar.addi v170 c4_i32_185
  let v359 : BitVec 1 := Scalar.cmpi .slt v358 v50
  let v360 : BitVec 32 := Scalar.extui v359
  let c0_i32_186 : BitVec 32 := 0#32
  let v361 : BitVec 1 := Scalar.cmpi .ne v360 c0_i32_186
  v361

def k0_mult6 (v460 : BitVec 32) : BitVec 32 :=
  let c18176_i32_245 : BitVec 32 := 18176#32
  let v461 : BitVec 32 := Scalar.minsi v460 c18176_i32_245
  v461

def k0_off44 (arg16 : BitVec 32) (v88 : BitVec 32) (v91 : BitVec 32) (k0_t5 : Fin (k0_t5_loop v88 v91).trips) : Fin 1 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_243 : BitVec 32 := 4#32
  let v457 : BitVec 32 := Scalar.addi v170 c4_i32_243
  let c4_i32_244 : BitVec 32 := 4#32
  let v458 : BitVec 32 := Scalar.remsi v457 c4_i32_244
  ![v458.toNat]
def k0_off45 (arg16 : BitVec 32) (v88 : BitVec 32) (v91 : BitVec 32) (k0_t5 : Fin (k0_t5_loop v88 v91).trips) : Fin 3 → Nat :=
  let c0_i32_101 : BitVec 32 := 0#32
  let c1_i32_103 : BitVec 32 := 1#32
  let arg17 : BitVec 32 := Scf.iv c0_i32_101 c1_i32_103 k0_t5
  let v170 : BitVec 32 := Scalar.addi arg16 arg17
  let c4_i32_243 : BitVec 32 := 4#32
  let v457 : BitVec 32 := Scalar.addi v170 c4_i32_243
  let c4_i32_244 : BitVec 32 := 4#32
  let v458 : BitVec 32 := Scalar.remsi v457 c4_i32_244
  let c0_i32_246 : BitVec 32 := 0#32
  let c0_i32_247 : BitVec 32 := 0#32
  ![v458.toNat, 0, 0]
def k0_off46 (v460 : BitVec 32) : Fin 2 → Nat :=
  let c18176_i32_245 : BitVec 32 := 18176#32
  let v461 : BitVec 32 := Scalar.minsi v460 c18176_i32_245
  let v462 : BitVec 32 := v461
  let c0_i32_248 : BitVec 32 := 0#32
  ![v462.toNat, 0]

def k0_chk9 (v50 : BitVec 32) (arg16 : BitVec 32) (v88 : BitVec 32) (v91 : BitVec 32) (k0_t5 : Fin (k0_t5_loop v88 v91).trips) (v460 : BitVec 32) : Prop :=
  (∀ (k0_h5 : k0_cond5 v50 arg16 v88 v91 k0_t5 = 1#1), 128 ∣ (k0_mult6 v460).toNat) ∧
  (∀ (k0_h5 : k0_cond5 v50 arg16 v88 v91 k0_t5 = 1#1), ∀ a, (k0_off46 v460) a + S256x1408.size a ≤ S18432x1408.size a) ∧
  (∀ (k0_h5 : k0_cond5 v50 arg16 v88 v91 k0_t5 = 1#1), ∀ (hinb : ∀ a, (k0_off46 v460) a + S256x1408.size a ≤ S18432x1408.size a), (Rect.unit (s := S18432x1408) (k0_off46 v460) S256x1408.size hinb).WholeWords (EltTy.packing .fp8e4m3))
theorem k0_mult6_dvd : ∀ (v50 : BitVec 32) (arg16 : BitVec 32) (v88 : BitVec 32) (v91 : BitVec 32) (k0_t5 : Fin (k0_t5_loop v88 v91).trips) (v460 : BitVec 32) (k0_hw9 : k0_chk9 v50 arg16 v88 v91 k0_t5 v460), ∀ (k0_h5 : k0_cond5 v50 arg16 v88 v91 k0_t5 = 1#1), 128 ∣ (k0_mult6 v460).toNat := fun v50 arg16 v88 v91 k0_t5 v460 k0_hw9 k0_h5 => k0_hw9.1 k0_h5
theorem k0_off46_inb : ∀ (v50 : BitVec 32) (arg16 : BitVec 32) (v88 : BitVec 32) (v91 : BitVec 32) (k0_t5 : Fin (k0_t5_loop v88 v91).trips) (v460 : BitVec 32) (k0_hw9 : k0_chk9 v50 arg16 v88 v91 k0_t5 v460), ∀ (k0_h5 : k0_cond5 v50 arg16 v88 v91 k0_t5 = 1#1), ∀ a, (k0_off46 v460) a + S256x1408.size a ≤ S18432x1408.size a := fun v50 arg16 v88 v91 k0_t5 v460 k0_hw9 k0_h5 => k0_hw9.2.1 k0_h5
theorem k0_off46_wordsfp8e4m3 : ∀ (v50 : BitVec 32) (arg16 : BitVec 32) (v88 : BitVec 32) (v91 : BitVec 32) (k0_t5 : Fin (k0_t5_loop v88 v91).trips) (v460 : BitVec 32) (k0_hw9 : k0_chk9 v50 arg16 v88 v91 k0_t5 v460), ∀ (k0_h5 : k0_cond5 v50 arg16 v88 v91 k0_t5 = 1#1), (Rect.unit (s := S18432x1408) (k0_off46 v460) S256x1408.size (k0_off46_inb v50 arg16 v88 v91 k0_t5 v460 k0_hw9 k0_h5)).WholeWords (EltTy.packing .fp8e4m3) := fun v50 arg16 v88 v91 k0_t5 v460 k0_hw9 k0_h5 => k0_hw9.2.2 k0_h5 (k0_off46_inb v50 arg16 v88 v91 k0_t5 v460 k0_hw9 k0_h5)

def k0_off47 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v368 : Index := Scalar.indexCast v86
  let c0_194 : Index := 0#32
  let c0_195 : Index := 0#32
  ![v368.toNat, 0, 0]
def k0_off48 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v383 : Index := Scalar.indexCast v86
  let c0_203 : Index := 0#32
  let c256_204 : Index := 256#32
  ![v383.toNat, 0, 256]
def k0_off49 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v398 : Index := Scalar.indexCast v86
  let c0_212 : Index := 0#32
  let c512_213 : Index := 512#32
  ![v398.toNat, 0, 512]
def k0_off50 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v413 : Index := Scalar.indexCast v86
  let c0_221 : Index := 0#32
  let c768_222 : Index := 768#32
  ![v413.toNat, 0, 768]
def k0_off51 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v428 : Index := Scalar.indexCast v86
  let c0_230 : Index := 0#32
  let c1024_231 : Index := 1024#32
  ![v428.toNat, 0, 1024]
def k0_off52 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v443 : Index := Scalar.indexCast v86
  let c0_239 : Index := 0#32
  let c1280_240 : Index := 1280#32
  ![v443.toNat, 0, 1280]
@[reducible] def k0_t6_loop (v88 : BitVec 32) (v91 : BitVec 32) : Scf.Loop 32 :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let v155 : BitVec 32 := Scalar.addi c0_i32_101 v154
  let c1_i32_104 : BitVec 32 := 1#32
  ⟨v158, v155, c1_i32_104⟩
def k0_off53 (arg16 : BitVec 32) (v88 : BitVec 32) (v91 : BitVec 32) (k0_t6 : Fin (k0_t6_loop v88 v91).trips) : Fin 1 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let v172 : Index := Scalar.indexCast v170
  ![v172.toNat]
def k0_mult7 (v173 : BitVec 32) : BitVec 32 :=
  let c18176_i32 : BitVec 32 := 18176#32
  let v174 : BitVec 32 := Scalar.minsi v173 c18176_i32
  v174

def k0_off54 (arg16 : BitVec 32) (v88 : BitVec 32) (v91 : BitVec 32) (k0_t6 : Fin (k0_t6_loop v88 v91).trips) : Fin 1 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_112 : BitVec 32 := 4#32
  let v171 : BitVec 32 := Scalar.remsi v170 c4_i32_112
  ![v171.toNat]
def k0_off55 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_112 : BitVec 32 := 4#32
  let v171 : BitVec 32 := Scalar.remsi v170 c4_i32_112
  let c0_i32_113 : BitVec 32 := 0#32
  let c0_i32_114 : BitVec 32 := 0#32
  ![v171.toNat, 0, 0]
def k0_off56 (v173 : BitVec 32) : Fin 2 → Nat :=
  let c18176_i32 : BitVec 32 := 18176#32
  let v174 : BitVec 32 := Scalar.minsi v173 c18176_i32
  let v175 : BitVec 32 := v174
  let c0_i32_115 : BitVec 32 := 0#32
  ![v175.toNat, 0]

def k0_chk10 (v173 : BitVec 32) : Prop :=
  (128 ∣ (k0_mult7 v173).toNat) ∧
  (∀ a, (k0_off56 v173) a + S256x1408.size a ≤ S18432x1408.size a) ∧
  (∀ (hinb : ∀ a, (k0_off56 v173) a + S256x1408.size a ≤ S18432x1408.size a), (Rect.unit (s := S18432x1408) (k0_off56 v173) S256x1408.size hinb).WholeWords (EltTy.packing .fp8e4m3))
theorem k0_mult7_dvd : ∀ (v173 : BitVec 32) (k0_hw10 : k0_chk10 v173), 128 ∣ (k0_mult7 v173).toNat := fun v173 k0_hw10 => k0_hw10.1
theorem k0_off56_inb : ∀ (v173 : BitVec 32) (k0_hw10 : k0_chk10 v173), ∀ a, (k0_off56 v173) a + S256x1408.size a ≤ S18432x1408.size a := fun v173 k0_hw10 => k0_hw10.2.1
theorem k0_off56_wordsfp8e4m3 : ∀ (v173 : BitVec 32) (k0_hw10 : k0_chk10 v173), (Rect.unit (s := S18432x1408) (k0_off56 v173) S256x1408.size (k0_off56_inb v173 k0_hw10)).WholeWords (EltTy.packing .fp8e4m3) := fun v173 k0_hw10 => k0_hw10.2.2 (k0_off56_inb v173 k0_hw10)

def k0_off57 (arg16 : BitVec 32) (v88 : BitVec 32) (v91 : BitVec 32) (k0_t6 : Fin (k0_t6_loop v88 v91).trips) : Fin 1 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let v181 : Index := Scalar.indexCast v170
  ![v181.toNat]
def k0_off58 (v182 : BitVec 32) (c0_i32_124 : BitVec 32) : Fin 2 → Nat :=
  let c18176_i32_116 : BitVec 32 := 18176#32
  let v183 : BitVec 32 := Scalar.minsi v182 c18176_i32_116
  let c0_i32_118 : BitVec 32 := 0#32
  let v185 : BitVec 1 := Scalar.cmpi .sgt v183 c0_i32_118
  let v186 : BitVec 32 := Scalar.extui v185
  let c0_i32_119 : BitVec 32 := 0#32
  let v187 : BitVec 1 := Scalar.cmpi .slt v183 c0_i32_119
  let v188 : BitVec 32 := Scalar.extui v187
  let v189 : BitVec 32 := Scalar.subi v186 v188
  let c128_i32_117 : BitVec 32 := 128#32
  let c0_i32_120 : BitVec 32 := 0#32
  let v190 : BitVec 1 := Scalar.cmpi .sgt c128_i32_117 c0_i32_120
  let v191 : BitVec 32 := Scalar.extui v190
  let c0_i32_121 : BitVec 32 := 0#32
  let v192 : BitVec 1 := Scalar.cmpi .slt c128_i32_117 c0_i32_121
  let v193 : BitVec 32 := Scalar.extui v192
  let v194 : BitVec 32 := Scalar.subi v191 v193
  let v195 : BitVec 1 := Scalar.cmpi .ne v189 v194
  let v196 : BitVec 32 := Scalar.remsi v183 c128_i32_117
  let c0_i32_122 : BitVec 32 := 0#32
  let v197 : BitVec 1 := Scalar.cmpi .ne v196 c0_i32_122
  let v198 : BitVec 1 := Scalar.andi v195 v197
  let v184 : BitVec 32 := Scalar.divsi v183 c128_i32_117
  let c1_i32_123 : BitVec 32 := 1#32
  let v199 : BitVec 32 := Scalar.subi v184 c1_i32_123
  let v200 : BitVec 32 := Scalar.select v198 v199 v184
  let v201 : BitVec 32 := Scalar.addi v200 c0_i32_124
  let v202 : Index := Scalar.indexCast v201
  let c0 : Index := 0#32
  ![v202.toNat, 0]

def k0_chk11 (v182 : BitVec 32) : Prop :=
  (∀ (r : Fin 2), ∀ a, (k0_off58 v182 (BitVec.ofNat 32 r.val)) a + S1x128.size a ≤ S144x128.size a)
theorem k0_off58_inb : ∀ (v182 : BitVec 32) (k0_hw11 : k0_chk11 v182), ∀ (r : Fin 2), ∀ a, (k0_off58 v182 (BitVec.ofNat 32 r.val)) a + S1x128.size a ≤ S144x128.size a := fun v182 k0_hw11 r => k0_hw11 r

def k0_off59 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v226 : Index := Scalar.indexCast v225
  let c0_129 : Index := 0#32
  let c0_130 : Index := 0#32
  ![v226.toNat, 0, 0]
def k0_off60 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v238 : Index := Scalar.indexCast v225
  let c0_135 : Index := 0#32
  let c128 : Index := 128#32
  ![v238.toNat, 0, 128]
def k0_off61 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v250 : Index := Scalar.indexCast v225
  let c0_140 : Index := 0#32
  let c256 : Index := 256#32
  ![v250.toNat, 0, 256]
def k0_off62 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v262 : Index := Scalar.indexCast v225
  let c0_145 : Index := 0#32
  let c384 : Index := 384#32
  ![v262.toNat, 0, 384]
def k0_off63 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v274 : Index := Scalar.indexCast v225
  let c0_150 : Index := 0#32
  let c512 : Index := 512#32
  ![v274.toNat, 0, 512]
def k0_off64 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v286 : Index := Scalar.indexCast v225
  let c0_155 : Index := 0#32
  let c640 : Index := 640#32
  ![v286.toNat, 0, 640]
def k0_off65 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v298 : Index := Scalar.indexCast v225
  let c0_160 : Index := 0#32
  let c768 : Index := 768#32
  ![v298.toNat, 0, 768]
def k0_off66 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v310 : Index := Scalar.indexCast v225
  let c0_165 : Index := 0#32
  let c896 : Index := 896#32
  ![v310.toNat, 0, 896]
def k0_off67 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v322 : Index := Scalar.indexCast v225
  let c0_170 : Index := 0#32
  let c1024 : Index := 1024#32
  ![v322.toNat, 0, 1024]
def k0_off68 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v334 : Index := Scalar.indexCast v225
  let c0_175 : Index := 0#32
  let c1152 : Index := 1152#32
  ![v334.toNat, 0, 1152]
def k0_off69 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_128 : BitVec 32 := 4#32
  let v225 : BitVec 32 := Scalar.remsi v170 c4_i32_128
  let v346 : Index := Scalar.indexCast v225
  let c0_180 : Index := 0#32
  let c1280 : Index := 1280#32
  ![v346.toNat, 0, 1280]
def k0_off70 (arg16 : BitVec 32) (v88 : BitVec 32) (v91 : BitVec 32) (k0_t6 : Fin (k0_t6_loop v88 v91).trips) : Fin 1 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_243 : BitVec 32 := 4#32
  let v457 : BitVec 32 := Scalar.addi v170 c4_i32_243
  let v459 : Index := Scalar.indexCast v457
  ![v459.toNat]
def k0_cond6 (v50 : BitVec 32) (arg16 : BitVec 32) (v88 : BitVec 32) (v91 : BitVec 32) (k0_t6 : Fin (k0_t6_loop v88 v91).trips) : BitVec 1 :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_185 : BitVec 32 := 4#32
  let v358 : BitVec 32 := Scalar.addi v170 c4_i32_185
  let v359 : BitVec 1 := Scalar.cmpi .slt v358 v50
  let v360 : BitVec 32 := Scalar.extui v359
  let c0_i32_186 : BitVec 32 := 0#32
  let v361 : BitVec 1 := Scalar.cmpi .ne v360 c0_i32_186
  v361

def k0_mult8 (v460 : BitVec 32) : BitVec 32 :=
  let c18176_i32_245 : BitVec 32 := 18176#32
  let v461 : BitVec 32 := Scalar.minsi v460 c18176_i32_245
  v461

def k0_off71 (arg16 : BitVec 32) (v88 : BitVec 32) (v91 : BitVec 32) (k0_t6 : Fin (k0_t6_loop v88 v91).trips) : Fin 1 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_243 : BitVec 32 := 4#32
  let v457 : BitVec 32 := Scalar.addi v170 c4_i32_243
  let c4_i32_244 : BitVec 32 := 4#32
  let v458 : BitVec 32 := Scalar.remsi v457 c4_i32_244
  ![v458.toNat]
def k0_off72 (arg16 : BitVec 32) (v88 : BitVec 32) (v91 : BitVec 32) (k0_t6 : Fin (k0_t6_loop v88 v91).trips) : Fin 3 → Nat :=
  let c0_i32_101 : BitVec 32 := 0#32
  let v110 : BitVec 1 := Scalar.cmpi .sgt v91 v88
  let c0_i32_78 : BitVec 32 := 0#32
  let v93 : BitVec 1 := Scalar.cmpi .sgt v88 c0_i32_78
  let v94 : BitVec 32 := Scalar.extui v93
  let c0_i32_79 : BitVec 32 := 0#32
  let v95 : BitVec 1 := Scalar.cmpi .slt v88 c0_i32_79
  let v96 : BitVec 32 := Scalar.extui v95
  let v97 : BitVec 32 := Scalar.subi v94 v96
  let c128_i32 : BitVec 32 := 128#32
  let c0_i32_80 : BitVec 32 := 0#32
  let v98 : BitVec 1 := Scalar.cmpi .sgt c128_i32 c0_i32_80
  let v99 : BitVec 32 := Scalar.extui v98
  let c0_i32_81 : BitVec 32 := 0#32
  let v100 : BitVec 1 := Scalar.cmpi .slt c128_i32 c0_i32_81
  let v101 : BitVec 32 := Scalar.extui v100
  let v102 : BitVec 32 := Scalar.subi v99 v101
  let v103 : BitVec 1 := Scalar.cmpi .ne v97 v102
  let v104 : BitVec 32 := Scalar.remsi v88 c128_i32
  let c0_i32_82 : BitVec 32 := 0#32
  let v105 : BitVec 1 := Scalar.cmpi .ne v104 c0_i32_82
  let v106 : BitVec 1 := Scalar.andi v103 v105
  let v92 : BitVec 32 := Scalar.divsi v88 c128_i32
  let c1_i32_83 : BitVec 32 := 1#32
  let v107 : BitVec 32 := Scalar.subi v92 c1_i32_83
  let v108 : BitVec 32 := Scalar.select v106 v107 v92
  let c128_i32_84 : BitVec 32 := 128#32
  let v109 : BitVec 32 := Scalar.muli v108 c128_i32_84
  let v111 : BitVec 32 := Scalar.subi v91 v109
  let c256_i32 : BitVec 32 := 256#32
  let v112 : BitVec 32 := Scalar.addi v111 c256_i32
  let c1_i32_85 : BitVec 32 := 1#32
  let v113 : BitVec 32 := Scalar.subi v112 c1_i32_85
  let c0_i32_87 : BitVec 32 := 0#32
  let v115 : BitVec 1 := Scalar.cmpi .sgt v113 c0_i32_87
  let v116 : BitVec 32 := Scalar.extui v115
  let c0_i32_88 : BitVec 32 := 0#32
  let v117 : BitVec 1 := Scalar.cmpi .slt v113 c0_i32_88
  let v118 : BitVec 32 := Scalar.extui v117
  let v119 : BitVec 32 := Scalar.subi v116 v118
  let c256_i32_86 : BitVec 32 := 256#32
  let c0_i32_89 : BitVec 32 := 0#32
  let v120 : BitVec 1 := Scalar.cmpi .sgt c256_i32_86 c0_i32_89
  let v121 : BitVec 32 := Scalar.extui v120
  let c0_i32_90 : BitVec 32 := 0#32
  let v122 : BitVec 1 := Scalar.cmpi .slt c256_i32_86 c0_i32_90
  let v123 : BitVec 32 := Scalar.extui v122
  let v124 : BitVec 32 := Scalar.subi v121 v123
  let v125 : BitVec 1 := Scalar.cmpi .ne v119 v124
  let v126 : BitVec 32 := Scalar.remsi v113 c256_i32_86
  let c0_i32_91 : BitVec 32 := 0#32
  let v127 : BitVec 1 := Scalar.cmpi .ne v126 c0_i32_91
  let v128 : BitVec 1 := Scalar.andi v125 v127
  let v114 : BitVec 32 := Scalar.divsi v113 c256_i32_86
  let c1_i32_92 : BitVec 32 := 1#32
  let v129 : BitVec 32 := Scalar.subi v114 c1_i32_92
  let v130 : BitVec 32 := Scalar.select v128 v129 v114
  let c0_i32_93 : BitVec 32 := 0#32
  let v131 : BitVec 32 := Scalar.select v110 v130 c0_i32_93
  let v154 : BitVec 32 := Scalar.subi v131 c0_i32_101
  let c1_i32_102 : BitVec 32 := 1#32
  let v156 : BitVec 32 := Scalar.divsi v154 c1_i32_102
  let v157 : BitVec 32 := Scalar.muli v156 c1_i32_102
  let v158 : BitVec 32 := Scalar.addi c0_i32_101 v157
  let c1_i32_104 : BitVec 32 := 1#32
  let arg17 : BitVec 32 := Scf.iv v158 c1_i32_104 k0_t6
  let v170 : BitVec 32 := Scalar.addi arg16 arg17
  let c4_i32_243 : BitVec 32 := 4#32
  let v457 : BitVec 32 := Scalar.addi v170 c4_i32_243
  let c4_i32_244 : BitVec 32 := 4#32
  let v458 : BitVec 32 := Scalar.remsi v457 c4_i32_244
  let c0_i32_246 : BitVec 32 := 0#32
  let c0_i32_247 : BitVec 32 := 0#32
  ![v458.toNat, 0, 0]
def k0_off73 (v460 : BitVec 32) : Fin 2 → Nat :=
  let c18176_i32_245 : BitVec 32 := 18176#32
  let v461 : BitVec 32 := Scalar.minsi v460 c18176_i32_245
  let v462 : BitVec 32 := v461
  let c0_i32_248 : BitVec 32 := 0#32
  ![v462.toNat, 0]

def k0_chk12 (v50 : BitVec 32) (arg16 : BitVec 32) (v88 : BitVec 32) (v91 : BitVec 32) (k0_t6 : Fin (k0_t6_loop v88 v91).trips) (v460 : BitVec 32) : Prop :=
  (∀ (k0_h6 : k0_cond6 v50 arg16 v88 v91 k0_t6 = 1#1), 128 ∣ (k0_mult8 v460).toNat) ∧
  (∀ (k0_h6 : k0_cond6 v50 arg16 v88 v91 k0_t6 = 1#1), ∀ a, (k0_off73 v460) a + S256x1408.size a ≤ S18432x1408.size a) ∧
  (∀ (k0_h6 : k0_cond6 v50 arg16 v88 v91 k0_t6 = 1#1), ∀ (hinb : ∀ a, (k0_off73 v460) a + S256x1408.size a ≤ S18432x1408.size a), (Rect.unit (s := S18432x1408) (k0_off73 v460) S256x1408.size hinb).WholeWords (EltTy.packing .fp8e4m3))
theorem k0_mult8_dvd : ∀ (v50 : BitVec 32) (arg16 : BitVec 32) (v88 : BitVec 32) (v91 : BitVec 32) (k0_t6 : Fin (k0_t6_loop v88 v91).trips) (v460 : BitVec 32) (k0_hw12 : k0_chk12 v50 arg16 v88 v91 k0_t6 v460), ∀ (k0_h6 : k0_cond6 v50 arg16 v88 v91 k0_t6 = 1#1), 128 ∣ (k0_mult8 v460).toNat := fun v50 arg16 v88 v91 k0_t6 v460 k0_hw12 k0_h6 => k0_hw12.1 k0_h6
theorem k0_off73_inb : ∀ (v50 : BitVec 32) (arg16 : BitVec 32) (v88 : BitVec 32) (v91 : BitVec 32) (k0_t6 : Fin (k0_t6_loop v88 v91).trips) (v460 : BitVec 32) (k0_hw12 : k0_chk12 v50 arg16 v88 v91 k0_t6 v460), ∀ (k0_h6 : k0_cond6 v50 arg16 v88 v91 k0_t6 = 1#1), ∀ a, (k0_off73 v460) a + S256x1408.size a ≤ S18432x1408.size a := fun v50 arg16 v88 v91 k0_t6 v460 k0_hw12 k0_h6 => k0_hw12.2.1 k0_h6
theorem k0_off73_wordsfp8e4m3 : ∀ (v50 : BitVec 32) (arg16 : BitVec 32) (v88 : BitVec 32) (v91 : BitVec 32) (k0_t6 : Fin (k0_t6_loop v88 v91).trips) (v460 : BitVec 32) (k0_hw12 : k0_chk12 v50 arg16 v88 v91 k0_t6 v460), ∀ (k0_h6 : k0_cond6 v50 arg16 v88 v91 k0_t6 = 1#1), (Rect.unit (s := S18432x1408) (k0_off73 v460) S256x1408.size (k0_off73_inb v50 arg16 v88 v91 k0_t6 v460 k0_hw12 k0_h6)).WholeWords (EltTy.packing .fp8e4m3) := fun v50 arg16 v88 v91 k0_t6 v460 k0_hw12 k0_h6 => k0_hw12.2.2 k0_h6 (k0_off73_inb v50 arg16 v88 v91 k0_t6 v460 k0_hw12 k0_h6)

def k0_chk6_0 (v50 : BitVec 32) (arg16 : BitVec 32) (v88 : BitVec 32) (v91 : BitVec 32) : Prop :=
  ((k0_t5_loop v88 v91).OK) ∧
  (∀ k0_t5 : Fin (k0_t5_loop v88 v91).trips, ∀ a, (k0_off26 arg16 v88 v91 k0_t5) a + S1.size a ≤ S200.size a) ∧
  (∀ k0_t5 : Fin (k0_t5_loop v88 v91).trips, ∀ a, (k0_off27 arg16 v88 v91 k0_t5) a + S1.size a ≤ S4.size a) ∧
  (∀ k0_t5 : Fin (k0_t5_loop v88 v91).trips, ∀ a, (k0_off28 arg16 v88 v91 k0_t5) a + S1x256x1408.size a ≤ S4x256x1408.size a) ∧
  (∀ k0_t5 : Fin (k0_t5_loop v88 v91).trips, ∀ (hinb : ∀ a, (k0_off28 arg16 v88 v91 k0_t5) a + S1x256x1408.size a ≤ S4x256x1408.size a), (Rect.unit (s := S4x256x1408) (k0_off28 arg16 v88 v91 k0_t5) S1x256x1408.size hinb).WholeWords (EltTy.packing .fp8e4m3)) ∧
  (∀ k0_t5 : Fin (k0_t5_loop v88 v91).trips, ∀ a, (k0_off30 arg16 v88 v91 k0_t5) a + S1.size a ≤ S200.size a) ∧
  (∀ k0_t5 : Fin (k0_t5_loop v88 v91).trips, ∀ a, (k0_off32 arg16 v88 v91 k0_t5) a + S1x256x128.size a ≤ S4x256x1408.size a) ∧
  (∀ k0_t5 : Fin (k0_t5_loop v88 v91).trips, ∀ a, (k0_off33 arg16 v88 v91 k0_t5) a + S1x256x128.size a ≤ S4x256x1408.size a) ∧
  (∀ k0_t5 : Fin (k0_t5_loop v88 v91).trips, ∀ a, (k0_off34 arg16 v88 v91 k0_t5) a + S1x256x128.size a ≤ S4x256x1408.size a) ∧
  (∀ k0_t5 : Fin (k0_t5_loop v88 v91).trips, ∀ a, (k0_off35 arg16 v88 v91 k0_t5) a + S1x256x128.size a ≤ S4x256x1408.size a) ∧
  (∀ k0_t5 : Fin (k0_t5_loop v88 v91).trips, ∀ a, (k0_off36 arg16 v88 v91 k0_t5) a + S1x256x128.size a ≤ S4x256x1408.size a) ∧
  (∀ k0_t5 : Fin (k0_t5_loop v88 v91).trips, ∀ a, (k0_off37 arg16 v88 v91 k0_t5) a + S1x256x128.size a ≤ S4x256x1408.size a) ∧
  (∀ k0_t5 : Fin (k0_t5_loop v88 v91).trips, ∀ a, (k0_off38 arg16 v88 v91 k0_t5) a + S1x256x128.size a ≤ S4x256x1408.size a) ∧
  (∀ k0_t5 : Fin (k0_t5_loop v88 v91).trips, ∀ a, (k0_off39 arg16 v88 v91 k0_t5) a + S1x256x128.size a ≤ S4x256x1408.size a) ∧
  (∀ k0_t5 : Fin (k0_t5_loop v88 v91).trips, ∀ a, (k0_off40 arg16 v88 v91 k0_t5) a + S1x256x128.size a ≤ S4x256x1408.size a) ∧
  (∀ k0_t5 : Fin (k0_t5_loop v88 v91).trips, ∀ a, (k0_off41 arg16 v88 v91 k0_t5) a + S1x256x128.size a ≤ S4x256x1408.size a) ∧
  (∀ k0_t5 : Fin (k0_t5_loop v88 v91).trips, ∀ a, (k0_off42 arg16 v88 v91 k0_t5) a + S1x256x128.size a ≤ S4x256x1408.size a) ∧
  (∀ k0_t5 : Fin (k0_t5_loop v88 v91).trips, ∀ (k0_h5 : k0_cond5 v50 arg16 v88 v91 k0_t5 = 1#1), ∀ a, (k0_off43 arg16 v88 v91 k0_t5) a + S1.size a ≤ S200.size a) ∧
  (∀ k0_t5 : Fin (k0_t5_loop v88 v91).trips, ∀ (k0_h5 : k0_cond5 v50 arg16 v88 v91 k0_t5 = 1#1), ∀ a, (k0_off44 arg16 v88 v91 k0_t5) a + S1.size a ≤ S4.size a) ∧
  (∀ k0_t5 : Fin (k0_t5_loop v88 v91).trips, ∀ (k0_h5 : k0_cond5 v50 arg16 v88 v91 k0_t5 = 1#1), ∀ a, (k0_off45 arg16 v88 v91 k0_t5) a + S1x256x1408.size a ≤ S4x256x1408.size a) ∧
  (∀ k0_t5 : Fin (k0_t5_loop v88 v91).trips, ∀ (k0_h5 : k0_cond5 v50 arg16 v88 v91 k0_t5 = 1#1), ∀ (hinb : ∀ a, (k0_off45 arg16 v88 v91 k0_t5) a + S1x256x1408.size a ≤ S4x256x1408.size a), (Rect.unit (s := S4x256x1408) (k0_off45 arg16 v88 v91 k0_t5) S1x256x1408.size hinb).WholeWords (EltTy.packing .fp8e4m3)) ∧
  ((k0_t6_loop v88 v91).OK) ∧
  (∀ k0_t6 : Fin (k0_t6_loop v88 v91).trips, ∀ a, (k0_off53 arg16 v88 v91 k0_t6) a + S1.size a ≤ S200.size a) ∧
  (∀ k0_t6 : Fin (k0_t6_loop v88 v91).trips, ∀ a, (k0_off54 arg16 v88 v91 k0_t6) a + S1.size a ≤ S4.size a) ∧
  (∀ k0_t6 : Fin (k0_t6_loop v88 v91).trips, ∀ a, (k0_off55 arg16 v88 v91 k0_t6) a + S1x256x1408.size a ≤ S4x256x1408.size a) ∧
  (∀ k0_t6 : Fin (k0_t6_loop v88 v91).trips, ∀ (hinb : ∀ a, (k0_off55 arg16 v88 v91 k0_t6) a + S1x256x1408.size a ≤ S4x256x1408.size a), (Rect.unit (s := S4x256x1408) (k0_off55 arg16 v88 v91 k0_t6) S1x256x1408.size hinb).WholeWords (EltTy.packing .fp8e4m3)) ∧
  (∀ k0_t6 : Fin (k0_t6_loop v88 v91).trips, ∀ a, (k0_off57 arg16 v88 v91 k0_t6) a + S1.size a ≤ S200.size a) ∧
  (∀ k0_t6 : Fin (k0_t6_loop v88 v91).trips, ∀ a, (k0_off59 arg16 v88 v91 k0_t6) a + S1x256x128.size a ≤ S4x256x1408.size a) ∧
  (∀ k0_t6 : Fin (k0_t6_loop v88 v91).trips, ∀ a, (k0_off60 arg16 v88 v91 k0_t6) a + S1x256x128.size a ≤ S4x256x1408.size a) ∧
  (∀ k0_t6 : Fin (k0_t6_loop v88 v91).trips, ∀ a, (k0_off61 arg16 v88 v91 k0_t6) a + S1x256x128.size a ≤ S4x256x1408.size a) ∧
  (∀ k0_t6 : Fin (k0_t6_loop v88 v91).trips, ∀ a, (k0_off62 arg16 v88 v91 k0_t6) a + S1x256x128.size a ≤ S4x256x1408.size a) ∧
  (∀ k0_t6 : Fin (k0_t6_loop v88 v91).trips, ∀ a, (k0_off63 arg16 v88 v91 k0_t6) a + S1x256x128.size a ≤ S4x256x1408.size a)
def k0_chk6_1 (v50 : BitVec 32) (arg16 : BitVec 32) (v88 : BitVec 32) (v91 : BitVec 32) : Prop :=
  (∀ k0_t6 : Fin (k0_t6_loop v88 v91).trips, ∀ a, (k0_off64 arg16 v88 v91 k0_t6) a + S1x256x128.size a ≤ S4x256x1408.size a) ∧
  (∀ k0_t6 : Fin (k0_t6_loop v88 v91).trips, ∀ a, (k0_off65 arg16 v88 v91 k0_t6) a + S1x256x128.size a ≤ S4x256x1408.size a) ∧
  (∀ k0_t6 : Fin (k0_t6_loop v88 v91).trips, ∀ a, (k0_off66 arg16 v88 v91 k0_t6) a + S1x256x128.size a ≤ S4x256x1408.size a) ∧
  (∀ k0_t6 : Fin (k0_t6_loop v88 v91).trips, ∀ a, (k0_off67 arg16 v88 v91 k0_t6) a + S1x256x128.size a ≤ S4x256x1408.size a) ∧
  (∀ k0_t6 : Fin (k0_t6_loop v88 v91).trips, ∀ a, (k0_off68 arg16 v88 v91 k0_t6) a + S1x256x128.size a ≤ S4x256x1408.size a) ∧
  (∀ k0_t6 : Fin (k0_t6_loop v88 v91).trips, ∀ a, (k0_off69 arg16 v88 v91 k0_t6) a + S1x256x128.size a ≤ S4x256x1408.size a) ∧
  (∀ k0_t6 : Fin (k0_t6_loop v88 v91).trips, ∀ (k0_h6 : k0_cond6 v50 arg16 v88 v91 k0_t6 = 1#1), ∀ a, (k0_off70 arg16 v88 v91 k0_t6) a + S1.size a ≤ S200.size a) ∧
  (∀ k0_t6 : Fin (k0_t6_loop v88 v91).trips, ∀ (k0_h6 : k0_cond6 v50 arg16 v88 v91 k0_t6 = 1#1), ∀ a, (k0_off71 arg16 v88 v91 k0_t6) a + S1.size a ≤ S4.size a) ∧
  (∀ k0_t6 : Fin (k0_t6_loop v88 v91).trips, ∀ (k0_h6 : k0_cond6 v50 arg16 v88 v91 k0_t6 = 1#1), ∀ a, (k0_off72 arg16 v88 v91 k0_t6) a + S1x256x1408.size a ≤ S4x256x1408.size a) ∧
  (∀ k0_t6 : Fin (k0_t6_loop v88 v91).trips, ∀ (k0_h6 : k0_cond6 v50 arg16 v88 v91 k0_t6 = 1#1), ∀ (hinb : ∀ a, (k0_off72 arg16 v88 v91 k0_t6) a + S1x256x1408.size a ≤ S4x256x1408.size a), (Rect.unit (s := S4x256x1408) (k0_off72 arg16 v88 v91 k0_t6) S1x256x1408.size hinb).WholeWords (EltTy.packing .fp8e4m3))
def k0_chk6 (v50 : BitVec 32) (arg16 : BitVec 32) (v88 : BitVec 32) (v91 : BitVec 32) : Prop :=
  k0_chk6_0 v50 arg16 v88 v91 ∧
  k0_chk6_1 v50 arg16 v88 v91
theorem k0_t5_ok : ∀ (v50 : BitVec 32) (arg16 : BitVec 32) (v88 : BitVec 32) (v91 : BitVec 32) (k0_hw6 : k0_chk6 v50 arg16 v88 v91), (k0_t5_loop v88 v91).OK := fun v50 arg16 v88 v91 k0_hw6 => k0_hw6.1.1
theorem k0_off26_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off26 arg16 v88 v91 k0_t5) a + S1.size a ≤ S200.size a := fun v50 arg16 v88 v91 k0_hw6 k0_t5 => k0_hw6.1.2.1 k0_t5
theorem k0_off27_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off27 arg16 v88 v91 k0_t5) a + S1.size a ≤ S4.size a := fun v50 arg16 v88 v91 k0_hw6 k0_t5 => k0_hw6.1.2.2.1 k0_t5
theorem k0_off28_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off28 arg16 v88 v91 k0_t5) a + S1x256x1408.size a ≤ S4x256x1408.size a := fun v50 arg16 v88 v91 k0_hw6 k0_t5 => k0_hw6.1.2.2.2.1 k0_t5
theorem k0_off28_wordsfp8e4m3 : ∀ (v50 : BitVec 32) (arg16 : BitVec 32) (v88 : BitVec 32) (v91 : BitVec 32) (k0_hw6 : k0_chk6 v50 arg16 v88 v91) (k0_t5 : Fin (k0_t5_loop v88 v91).trips), (Rect.unit (s := S4x256x1408) (k0_off28 arg16 v88 v91 k0_t5) S1x256x1408.size (k0_off28_inb v50 arg16 v88 v91 k0_hw6 k0_t5)).WholeWords (EltTy.packing .fp8e4m3) := fun v50 arg16 v88 v91 k0_hw6 k0_t5 => k0_hw6.1.2.2.2.2.1 k0_t5 (k0_off28_inb v50 arg16 v88 v91 k0_hw6 k0_t5)
theorem k0_off30_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off30 arg16 v88 v91 k0_t5) a + S1.size a ≤ S200.size a := fun v50 arg16 v88 v91 k0_hw6 k0_t5 => k0_hw6.1.2.2.2.2.2.1 k0_t5
theorem k0_off32_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off32 arg16 v88 v91 k0_t5) a + S1x256x128.size a ≤ S4x256x1408.size a := fun v50 arg16 v88 v91 k0_hw6 k0_t5 => k0_hw6.1.2.2.2.2.2.2.1 k0_t5
theorem k0_off33_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off33 arg16 v88 v91 k0_t5) a + S1x256x128.size a ≤ S4x256x1408.size a := fun v50 arg16 v88 v91 k0_hw6 k0_t5 => k0_hw6.1.2.2.2.2.2.2.2.1 k0_t5
theorem k0_off34_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off34 arg16 v88 v91 k0_t5) a + S1x256x128.size a ≤ S4x256x1408.size a := fun v50 arg16 v88 v91 k0_hw6 k0_t5 => k0_hw6.1.2.2.2.2.2.2.2.2.1 k0_t5
theorem k0_off35_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off35 arg16 v88 v91 k0_t5) a + S1x256x128.size a ≤ S4x256x1408.size a := fun v50 arg16 v88 v91 k0_hw6 k0_t5 => k0_hw6.1.2.2.2.2.2.2.2.2.2.1 k0_t5
theorem k0_off36_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off36 arg16 v88 v91 k0_t5) a + S1x256x128.size a ≤ S4x256x1408.size a := fun v50 arg16 v88 v91 k0_hw6 k0_t5 => k0_hw6.1.2.2.2.2.2.2.2.2.2.2.1 k0_t5
theorem k0_off37_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off37 arg16 v88 v91 k0_t5) a + S1x256x128.size a ≤ S4x256x1408.size a := fun v50 arg16 v88 v91 k0_hw6 k0_t5 => k0_hw6.1.2.2.2.2.2.2.2.2.2.2.2.1 k0_t5
theorem k0_off38_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off38 arg16 v88 v91 k0_t5) a + S1x256x128.size a ≤ S4x256x1408.size a := fun v50 arg16 v88 v91 k0_hw6 k0_t5 => k0_hw6.1.2.2.2.2.2.2.2.2.2.2.2.2.1 k0_t5
theorem k0_off39_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off39 arg16 v88 v91 k0_t5) a + S1x256x128.size a ≤ S4x256x1408.size a := fun v50 arg16 v88 v91 k0_hw6 k0_t5 => k0_hw6.1.2.2.2.2.2.2.2.2.2.2.2.2.2.1 k0_t5
theorem k0_off40_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off40 arg16 v88 v91 k0_t5) a + S1x256x128.size a ≤ S4x256x1408.size a := fun v50 arg16 v88 v91 k0_hw6 k0_t5 => k0_hw6.1.2.2.2.2.2.2.2.2.2.2.2.2.2.2.1 k0_t5
theorem k0_off41_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off41 arg16 v88 v91 k0_t5) a + S1x256x128.size a ≤ S4x256x1408.size a := fun v50 arg16 v88 v91 k0_hw6 k0_t5 => k0_hw6.1.2.2.2.2.2.2.2.2.2.2.2.2.2.2.2.1 k0_t5
theorem k0_off42_inb : ∀ (v50 : BitVec 32) (arg16 : BitVec 32) (v88 : BitVec 32) (v91 : BitVec 32) (k0_hw6 : k0_chk6 v50 arg16 v88 v91) (k0_t5 : Fin (k0_t5_loop v88 v91).trips), ∀ a, (k0_off42 arg16 v88 v91 k0_t5) a + S1x256x128.size a ≤ S4x256x1408.size a := fun v50 arg16 v88 v91 k0_hw6 k0_t5 => k0_hw6.1.2.2.2.2.2.2.2.2.2.2.2.2.2.2.2.2.1 k0_t5
theorem k0_off43_inb : ∀ (v50 : BitVec 32) (arg16 : BitVec 32) (v88 : BitVec 32) (v91 : BitVec 32) (k0_hw6 : k0_chk6 v50 arg16 v88 v91) (k0_t5 : Fin (k0_t5_loop v88 v91).trips), ∀ (k0_h5 : k0_cond5 v50 arg16 v88 v91 k0_t5 = 1#1), ∀ a, (k0_off43 arg16 v88 v91 k0_t5) a + S1.size a ≤ S200.size a := fun v50 arg16 v88 v91 k0_hw6 k0_t5 k0_h5 => k0_hw6.1.2.2.2.2.2.2.2.2.2.2.2.2.2.2.2.2.2.1 k0_t5 k0_h5
theorem k0_off44_inb : ∀ (v50 : BitVec 32) (arg16 : BitVec 32) (v88 : BitVec 32) (v91 : BitVec 32) (k0_hw6 : k0_chk6 v50 arg16 v88 v91) (k0_t5 : Fin (k0_t5_loop v88 v91).trips), ∀ (k0_h5 : k0_cond5 v50 arg16 v88 v91 k0_t5 = 1#1), ∀ a, (k0_off44 arg16 v88 v91 k0_t5) a + S1.size a ≤ S4.size a := fun v50 arg16 v88 v91 k0_hw6 k0_t5 k0_h5 => k0_hw6.1.2.2.2.2.2.2.2.2.2.2.2.2.2.2.2.2.2.2.1 k0_t5 k0_h5
theorem k0_off45_inb : ∀ (v50 : BitVec 32) (arg16 : BitVec 32) (v88 : BitVec 32) (v91 : BitVec 32) (k0_hw6 : k0_chk6 v50 arg16 v88 v91) (k0_t5 : Fin (k0_t5_loop v88 v91).trips), ∀ (k0_h5 : k0_cond5 v50 arg16 v88 v91 k0_t5 = 1#1), ∀ a, (k0_off45 arg16 v88 v91 k0_t5) a + S1x256x1408.size a ≤ S4x256x1408.size a := fun v50 arg16 v88 v91 k0_hw6 k0_t5 k0_h5 => k0_hw6.1.2.2.2.2.2.2.2.2.2.2.2.2.2.2.2.2.2.2.2.1 k0_t5 k0_h5
theorem k0_off45_wordsfp8e4m3 : ∀ (v50 : BitVec 32) (arg16 : BitVec 32) (v88 : BitVec 32) (v91 : BitVec 32) (k0_hw6 : k0_chk6 v50 arg16 v88 v91) (k0_t5 : Fin (k0_t5_loop v88 v91).trips), ∀ (k0_h5 : k0_cond5 v50 arg16 v88 v91 k0_t5 = 1#1), (Rect.unit (s := S4x256x1408) (k0_off45 arg16 v88 v91 k0_t5) S1x256x1408.size (k0_off45_inb v50 arg16 v88 v91 k0_hw6 k0_t5 k0_h5)).WholeWords (EltTy.packing .fp8e4m3) := fun v50 arg16 v88 v91 k0_hw6 k0_t5 k0_h5 => k0_hw6.1.2.2.2.2.2.2.2.2.2.2.2.2.2.2.2.2.2.2.2.2.1 k0_t5 k0_h5 (k0_off45_inb v50 arg16 v88 v91 k0_hw6 k0_t5 k0_h5)
theorem k0_t6_ok : ∀ (v50 : BitVec 32) (arg16 : BitVec 32) (v88 : BitVec 32) (v91 : BitVec 32) (k0_hw6 : k0_chk6 v50 arg16 v88 v91), (k0_t6_loop v88 v91).OK := fun v50 arg16 v88 v91 k0_hw6 => k0_hw6.1.2.2.2.2.2.2.2.2.2.2.2.2.2.2.2.2.2.2.2.2.2.1
theorem k0_off53_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off53 arg16 v88 v91 k0_t6) a + S1.size a ≤ S200.size a := fun v50 arg16 v88 v91 k0_hw6 k0_t6 => k0_hw6.1.2.2.2.2.2.2.2.2.2.2.2.2.2.2.2.2.2.2.2.2.2.2.1 k0_t6
theorem k0_off54_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off54 arg16 v88 v91 k0_t6) a + S1.size a ≤ S4.size a := fun v50 arg16 v88 v91 k0_hw6 k0_t6 => k0_hw6.1.2.2.2.2.2.2.2.2.2.2.2.2.2.2.2.2.2.2.2.2.2.2.2.1 k0_t6
theorem k0_off55_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off55 arg16 v88 v91 k0_t6) a + S1x256x1408.size a ≤ S4x256x1408.size a := fun v50 arg16 v88 v91 k0_hw6 k0_t6 => k0_hw6.1.2.2.2.2.2.2.2.2.2.2.2.2.2.2.2.2.2.2.2.2.2.2.2.2.1 k0_t6
theorem k0_off55_wordsfp8e4m3 : ∀ (v50 : BitVec 32) (arg16 : BitVec 32) (v88 : BitVec 32) (v91 : BitVec 32) (k0_hw6 : k0_chk6 v50 arg16 v88 v91) (k0_t6 : Fin (k0_t6_loop v88 v91).trips), (Rect.unit (s := S4x256x1408) (k0_off55 arg16 v88 v91 k0_t6) S1x256x1408.size (k0_off55_inb v50 arg16 v88 v91 k0_hw6 k0_t6)).WholeWords (EltTy.packing .fp8e4m3) := fun v50 arg16 v88 v91 k0_hw6 k0_t6 => k0_hw6.1.2.2.2.2.2.2.2.2.2.2.2.2.2.2.2.2.2.2.2.2.2.2.2.2.2.1 k0_t6 (k0_off55_inb v50 arg16 v88 v91 k0_hw6 k0_t6)
theorem k0_off57_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off57 arg16 v88 v91 k0_t6) a + S1.size a ≤ S200.size a := fun v50 arg16 v88 v91 k0_hw6 k0_t6 => k0_hw6.1.2.2.2.2.2.2.2.2.2.2.2.2.2.2.2.2.2.2.2.2.2.2.2.2.2.2.1 k0_t6
theorem k0_off59_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off59 arg16 v88 v91 k0_t6) a + S1x256x128.size a ≤ S4x256x1408.size a := fun v50 arg16 v88 v91 k0_hw6 k0_t6 => k0_hw6.1.2.2.2.2.2.2.2.2.2.2.2.2.2.2.2.2.2.2.2.2.2.2.2.2.2.2.2.1 k0_t6
theorem k0_off60_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off60 arg16 v88 v91 k0_t6) a + S1x256x128.size a ≤ S4x256x1408.size a := fun v50 arg16 v88 v91 k0_hw6 k0_t6 => k0_hw6.1.2.2.2.2.2.2.2.2.2.2.2.2.2.2.2.2.2.2.2.2.2.2.2.2.2.2.2.2.1 k0_t6
theorem k0_off61_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off61 arg16 v88 v91 k0_t6) a + S1x256x128.size a ≤ S4x256x1408.size a := fun v50 arg16 v88 v91 k0_hw6 k0_t6 => k0_hw6.1.2.2.2.2.2.2.2.2.2.2.2.2.2.2.2.2.2.2.2.2.2.2.2.2.2.2.2.2.2.1 k0_t6
theorem k0_off62_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off62 arg16 v88 v91 k0_t6) a + S1x256x128.size a ≤ S4x256x1408.size a := fun v50 arg16 v88 v91 k0_hw6 k0_t6 => k0_hw6.1.2.2.2.2.2.2.2.2.2.2.2.2.2.2.2.2.2.2.2.2.2.2.2.2.2.2.2.2.2.2.1 k0_t6
theorem k0_off63_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off63 arg16 v88 v91 k0_t6) a + S1x256x128.size a ≤ S4x256x1408.size a := fun v50 arg16 v88 v91 k0_hw6 k0_t6 => k0_hw6.1.2.2.2.2.2.2.2.2.2.2.2.2.2.2.2.2.2.2.2.2.2.2.2.2.2.2.2.2.2.2.2 k0_t6
theorem k0_off64_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off64 arg16 v88 v91 k0_t6) a + S1x256x128.size a ≤ S4x256x1408.size a := fun v50 arg16 v88 v91 k0_hw6 k0_t6 => k0_hw6.2.1 k0_t6
theorem k0_off65_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off65 arg16 v88 v91 k0_t6) a + S1x256x128.size a ≤ S4x256x1408.size a := fun v50 arg16 v88 v91 k0_hw6 k0_t6 => k0_hw6.2.2.1 k0_t6
theorem k0_off66_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off66 arg16 v88 v91 k0_t6) a + S1x256x128.size a ≤ S4x256x1408.size a := fun v50 arg16 v88 v91 k0_hw6 k0_t6 => k0_hw6.2.2.2.1 k0_t6
theorem k0_off67_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off67 arg16 v88 v91 k0_t6) a + S1x256x128.size a ≤ S4x256x1408.size a := fun v50 arg16 v88 v91 k0_hw6 k0_t6 => k0_hw6.2.2.2.2.1 k0_t6
theorem k0_off68_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off68 arg16 v88 v91 k0_t6) a + S1x256x128.size a ≤ S4x256x1408.size a := fun v50 arg16 v88 v91 k0_hw6 k0_t6 => k0_hw6.2.2.2.2.2.1 k0_t6
theorem k0_off69_inb : ∀ (v50 : BitVec 32) (arg16 : BitVec 32) (v88 : BitVec 32) (v91 : BitVec 32) (k0_hw6 : k0_chk6 v50 arg16 v88 v91) (k0_t6 : Fin (k0_t6_loop v88 v91).trips), ∀ a, (k0_off69 arg16 v88 v91 k0_t6) a + S1x256x128.size a ≤ S4x256x1408.size a := fun v50 arg16 v88 v91 k0_hw6 k0_t6 => k0_hw6.2.2.2.2.2.2.1 k0_t6
theorem k0_off70_inb : ∀ (v50 : BitVec 32) (arg16 : BitVec 32) (v88 : BitVec 32) (v91 : BitVec 32) (k0_hw6 : k0_chk6 v50 arg16 v88 v91) (k0_t6 : Fin (k0_t6_loop v88 v91).trips), ∀ (k0_h6 : k0_cond6 v50 arg16 v88 v91 k0_t6 = 1#1), ∀ a, (k0_off70 arg16 v88 v91 k0_t6) a + S1.size a ≤ S200.size a := fun v50 arg16 v88 v91 k0_hw6 k0_t6 k0_h6 => k0_hw6.2.2.2.2.2.2.2.1 k0_t6 k0_h6
theorem k0_off71_inb : ∀ (v50 : BitVec 32) (arg16 : BitVec 32) (v88 : BitVec 32) (v91 : BitVec 32) (k0_hw6 : k0_chk6 v50 arg16 v88 v91) (k0_t6 : Fin (k0_t6_loop v88 v91).trips), ∀ (k0_h6 : k0_cond6 v50 arg16 v88 v91 k0_t6 = 1#1), ∀ a, (k0_off71 arg16 v88 v91 k0_t6) a + S1.size a ≤ S4.size a := fun v50 arg16 v88 v91 k0_hw6 k0_t6 k0_h6 => k0_hw6.2.2.2.2.2.2.2.2.1 k0_t6 k0_h6
theorem k0_off72_inb : ∀ (v50 : BitVec 32) (arg16 : BitVec 32) (v88 : BitVec 32) (v91 : BitVec 32) (k0_hw6 : k0_chk6 v50 arg16 v88 v91) (k0_t6 : Fin (k0_t6_loop v88 v91).trips), ∀ (k0_h6 : k0_cond6 v50 arg16 v88 v91 k0_t6 = 1#1), ∀ a, (k0_off72 arg16 v88 v91 k0_t6) a + S1x256x1408.size a ≤ S4x256x1408.size a := fun v50 arg16 v88 v91 k0_hw6 k0_t6 k0_h6 => k0_hw6.2.2.2.2.2.2.2.2.2.1 k0_t6 k0_h6
theorem k0_off72_wordsfp8e4m3 : ∀ (v50 : BitVec 32) (arg16 : BitVec 32) (v88 : BitVec 32) (v91 : BitVec 32) (k0_hw6 : k0_chk6 v50 arg16 v88 v91) (k0_t6 : Fin (k0_t6_loop v88 v91).trips), ∀ (k0_h6 : k0_cond6 v50 arg16 v88 v91 k0_t6 = 1#1), (Rect.unit (s := S4x256x1408) (k0_off72 arg16 v88 v91 k0_t6) S1x256x1408.size (k0_off72_inb v50 arg16 v88 v91 k0_hw6 k0_t6 k0_h6)).WholeWords (EltTy.packing .fp8e4m3) := fun v50 arg16 v88 v91 k0_hw6 k0_t6 k0_h6 => k0_hw6.2.2.2.2.2.2.2.2.2.2 k0_t6 k0_h6 (k0_off72_inb v50 arg16 v88 v91 k0_hw6 k0_t6 k0_h6)

def k0_off74 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v368 : Index := Scalar.indexCast v86
  let c0_194 : Index := 0#32
  let c0_195 : Index := 0#32
  ![v368.toNat, 0, 0]
def k0_off75 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v383 : Index := Scalar.indexCast v86
  let c0_203 : Index := 0#32
  let c256_204 : Index := 256#32
  ![v383.toNat, 0, 256]
def k0_off76 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v398 : Index := Scalar.indexCast v86
  let c0_212 : Index := 0#32
  let c512_213 : Index := 512#32
  ![v398.toNat, 0, 512]
def k0_off77 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v413 : Index := Scalar.indexCast v86
  let c0_221 : Index := 0#32
  let c768_222 : Index := 768#32
  ![v413.toNat, 0, 768]
def k0_off78 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v428 : Index := Scalar.indexCast v86
  let c0_230 : Index := 0#32
  let c1024_231 : Index := 1024#32
  ![v428.toNat, 0, 1024]
def k0_off79 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_76 : BitVec 32 := 7#32
  let v86 : BitVec 32 := Scalar.remsi arg15 c7_i32_76
  let v443 : Index := Scalar.indexCast v86
  let c0_239 : Index := 0#32
  let c1280_240 : Index := 1280#32
  ![v443.toNat, 0, 1280]
def k0_off80 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let c7_i32_105 : BitVec 32 := 7#32
  let v159 : BitVec 32 := Scalar.remsi arg15 c7_i32_105
  ![v159.toNat]
def k0_off81 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c0_i32_106 : BitVec 32 := 0#32
  let c0_i32_107 : BitVec 32 := 0#32
  ![arg15.toNat, 0, 0]
def k0_off82 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c7_i32_105 : BitVec 32 := 7#32
  let v159 : BitVec 32 := Scalar.remsi arg15 c7_i32_105
  let c0_i32_108 : BitVec 32 := 0#32
  let c0_i32_109 : BitVec 32 := 0#32
  ![v159.toNat, 0, 0]
def k0_cond7 (k0_t4 : Fin k0_t4_loop.trips) : BitVec 1 :=
  let c0_i32_54 : BitVec 32 := 0#32
  let c1_i32_56 : BitVec 32 := 1#32
  let arg15 : BitVec 32 := Scf.iv c0_i32_54 c1_i32_56 k0_t4
  let c3_i32_110 : BitVec 32 := 3#32
  let v166 : BitVec 1 := Scalar.cmpi .sge arg15 c3_i32_110
  let v167 : BitVec 32 := Scalar.extui v166
  let c0_i32_111 : BitVec 32 := 0#32
  let v168 : BitVec 1 := Scalar.cmpi .ne v167 c0_i32_111
  v168

def k0_off83 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let c3_i32_112 : BitVec 32 := 3#32
  let v170 : BitVec 32 := Scalar.subi arg15 c3_i32_112
  let c7_i32_113 : BitVec 32 := 7#32
  let v171 : BitVec 32 := Scalar.remsi v170 c7_i32_113
  ![v171.toNat]
def k0_off84 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c3_i32_112 : BitVec 32 := 3#32
  let v170 : BitVec 32 := Scalar.subi arg15 c3_i32_112
  let c0_i32_114 : BitVec 32 := 0#32
  let c0_i32_115 : BitVec 32 := 0#32
  ![v170.toNat, 0, 0]
def k0_off85 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c3_i32_112 : BitVec 32 := 3#32
  let v170 : BitVec 32 := Scalar.subi arg15 c3_i32_112
  let c7_i32_113 : BitVec 32 := 7#32
  let v171 : BitVec 32 := Scalar.remsi v170 c7_i32_113
  let c0_i32_116 : BitVec 32 := 0#32
  let c0_i32_117 : BitVec 32 := 0#32
  ![v171.toNat, 0, 0]
def k0_cond8 (k0_t4 : Fin k0_t4_loop.trips) : BitVec 1 :=
  let c0_i32_54 : BitVec 32 := 0#32
  let c1_i32_56 : BitVec 32 := 1#32
  let arg15 : BitVec 32 := Scf.iv c0_i32_54 c1_i32_56 k0_t4
  let c3_i32_118 : BitVec 32 := 3#32
  let v178 : BitVec 32 := Scalar.subi arg15 c3_i32_118
  let c7_i32_119 : BitVec 32 := 7#32
  let v179 : BitVec 32 := Scalar.addi v178 c7_i32_119
  let c64_i32_120 : BitVec 32 := 64#32
  let v180 : BitVec 1 := Scalar.cmpi .slt v179 c64_i32_120
  let v181 : BitVec 32 := Scalar.extui v180
  let c0_i32_121 : BitVec 32 := 0#32
  let v182 : BitVec 1 := Scalar.cmpi .ne v181 c0_i32_121
  v182

def k0_off86 (k0_t4 : Fin k0_t4_loop.trips) : Fin 1 → Nat :=
  let c0_i32_54 : BitVec 32 := 0#32
  let c1_i32_56 : BitVec 32 := 1#32
  let arg15 : BitVec 32 := Scf.iv c0_i32_54 c1_i32_56 k0_t4
  let c3_i32_122 : BitVec 32 := 3#32
  let v183 : BitVec 32 := Scalar.subi arg15 c3_i32_122
  let c7_i32_123 : BitVec 32 := 7#32
  let v184 : BitVec 32 := Scalar.addi v183 c7_i32_123
  let c7_i32_124 : BitVec 32 := 7#32
  let v185 : BitVec 32 := Scalar.remsi v184 c7_i32_124
  ![v185.toNat]
def k0_off87 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c3_i32_122 : BitVec 32 := 3#32
  let v183 : BitVec 32 := Scalar.subi arg15 c3_i32_122
  let c7_i32_123 : BitVec 32 := 7#32
  let v184 : BitVec 32 := Scalar.addi v183 c7_i32_123
  let c7_i32_124 : BitVec 32 := 7#32
  let v185 : BitVec 32 := Scalar.remsi v184 c7_i32_124
  let c0_i32_125 : BitVec 32 := 0#32
  let c0_i32_126 : BitVec 32 := 0#32
  ![v185.toNat, 0, 0]
def k0_off88 (k0_t4 : Fin k0_t4_loop.trips) : Fin 3 → Nat :=
  let c0_i32_54 : BitVec 32 := 0#32
  let c1_i32_56 : BitVec 32 := 1#32
  let arg15 : BitVec 32 := Scf.iv c0_i32_54 c1_i32_56 k0_t4
  let c3_i32_122 : BitVec 32 := 3#32
  let v183 : BitVec 32 := Scalar.subi arg15 c3_i32_122
  let c7_i32_123 : BitVec 32 := 7#32
  let v184 : BitVec 32 := Scalar.addi v183 c7_i32_123
  let c0_i32_127 : BitVec 32 := 0#32
  let c0_i32_128 : BitVec 32 := 0#32
  ![v184.toNat, 0, 0]
def k0_off89 (c61_i32 : BitVec 32) : Fin 1 → Nat :=
  let c7_i32_58 : BitVec 32 := 7#32
  let v65 : BitVec 32 := Scalar.remsi c61_i32 c7_i32_58
  ![v65.toNat]
def k0_off90 (c61_i32 : BitVec 32) : Fin 3 → Nat :=
  let c7_i32_58 : BitVec 32 := 7#32
  let v65 : BitVec 32 := Scalar.remsi c61_i32 c7_i32_58
  let c0_i32_62 : BitVec 32 := 0#32
  let c0_i32_63 : BitVec 32 := 0#32
  ![v65.toNat, 0, 0]
abbrev stage0_0 : Fin 1 → Memref sig .tc .smem S65 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S18432x1408 : Shape := ⟨2, ![18432, 1408]⟩
abbrev S18432 : Shape := ⟨1, ![18432]⟩
abbrev S65 : Shape := ⟨1, ![65]⟩
abbrev S64x1408x1408 : Shape := ⟨3, ![64, 1408, 1408]⟩
abbrev S64 : Shape := ⟨1, ![64]⟩
abbrev S18432x1 : Shape := ⟨2, ![18432, 1]⟩
abbrev S_ : Shape := ⟨0, ![]⟩
abbrev S1x18432 : Shape := ⟨2, ![1, 18432]⟩
abbrev S64x1 : Shape := ⟨2, ![64, 1]⟩
abbrev S64x18432 : Shape := ⟨2, ![64, 18432]⟩
abbrev S64x18432x1 : Shape := ⟨3, ![64, 18432, 1]⟩
abbrev S64x18432x1408 : Shape := ⟨3, ![64, 18432, 1408]⟩
abbrev S64x1x1 : Shape := ⟨3, ![64, 1, 1]⟩

abbrev nBuf : Space → Nat
  | .hbm => 55
  | .vmem => 2
  | .smem => 0
  | _ => 0

abbrev bufTy : (tb : Table) → Fin (tcTables nBuf tb) → BufTy
  | .hbm, ⟨0, _⟩ => ⟨S18432x1408, .fp8e4m3⟩
  | .hbm, ⟨1, _⟩ => ⟨S18432, .f32⟩
  | .hbm, ⟨2, _⟩ => ⟨S65, .i32⟩
  | .hbm, ⟨3, _⟩ => ⟨S64x1408x1408, .f32⟩
  | .hbm, ⟨4, _⟩ => ⟨S64, .i32⟩
  | .hbm, ⟨5, _⟩ => ⟨S18432x1408, .bf16⟩
  | .hbm, ⟨6, _⟩ => ⟨S18432x1, .f32⟩
  | .hbm, ⟨7, _⟩ => ⟨S18432x1, .bf16⟩
  | .hbm, ⟨8, _⟩ => ⟨S18432x1408, .bf16⟩
  | .hbm, ⟨9, _⟩ => ⟨S18432x1408, .bf16⟩
  | .hbm, ⟨10, _⟩ => ⟨S18432, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x18432, .i32⟩
  | .hbm, ⟨21, _⟩ => ⟨S64x1, .i32⟩
  | .hbm, ⟨22, _⟩ => ⟨S64x18432, .i32⟩
  | .hbm, ⟨23, _⟩ => ⟨S64x18432, .i32⟩
  | .hbm, ⟨24, _⟩ => ⟨S64x18432, .i1⟩
  | .hbm, ⟨25, _⟩ => ⟨S1x18432, .i32⟩
  | .hbm, ⟨26, _⟩ => ⟨S64x1, .i32⟩
  | .hbm, ⟨27, _⟩ => ⟨S64x18432, .i32⟩
  | .hbm, ⟨28, _⟩ => ⟨S64x18432, .i32⟩
  | .hbm, ⟨29, _⟩ => ⟨S64x18432, .i1⟩
  | .hbm, ⟨30, _⟩ => ⟨S64x18432, .i1⟩
  | .hbm, ⟨31, _⟩ => ⟨S64x18432x1, .i1⟩
  | .hbm, ⟨32, _⟩ => ⟨S_, .bf16⟩
  | .hbm, ⟨33, _⟩ => ⟨S64x18432x1408, .i1⟩
  | .hbm, ⟨34, _⟩ => ⟨S18432x1408, .bf16⟩
  | .hbm, ⟨35, _⟩ => ⟨S64x18432x1408, .bf16⟩
  | .hbm, ⟨36, _⟩ => ⟨S64x18432x1408, .bf16⟩
  | .hbm, ⟨37, _⟩ => ⟨S64x18432x1408, .bf16⟩
  | .hbm, ⟨38, _⟩ => ⟨S64x1408x1408, .f32⟩
  | .hbm, ⟨39, _⟩ => ⟨S64, .f32⟩
  | .hbm, ⟨40, _⟩ => ⟨S64x1x1, .f32⟩
  | .hbm, ⟨41, _⟩ => ⟨S64x1408x1408, .f32⟩
  | .hbm, ⟨42, _⟩ => ⟨S64x1408x1408, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1x1, .f32⟩
  | .hbm, ⟨47, _⟩ => ⟨S64x1408x1408, .f32⟩
  | .hbm, ⟨48, _⟩ => ⟨S64x1408x1408, .f32⟩
  | .hbm, ⟨49, _⟩ => ⟨S64x1408x1408, .f32⟩
  | .hbm, ⟨50, _⟩ => ⟨S_, .f32⟩
  | .hbm, ⟨51, _⟩ => ⟨S64, .f32⟩
  | .hbm, ⟨52, _⟩ => ⟨S64, .i1⟩
  | .hbm, ⟨53, _⟩ => ⟨S64x1408x1408, .i1⟩
  | .hbm, ⟨54, _⟩ => ⟨S64x1408x1408, .f32⟩
  | .local _ .vmem, ⟨0, _⟩ => ⟨S18432x1408, .fp8e4m3⟩
  | .local _ .vmem, ⟨1, _⟩ => ⟨S18432x1408, .bf16⟩
  | _, _ => ⟨S18432x1408, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_v40 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S18432x1408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Base.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Routed

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-- The buffer of the location, whole, at contents `f`. -/
abbrev own (c : Dev nD) (r : Ref sig .tc) (f : Buf (Elt F) ((c : Thread nD τ).loc r)) : sProp 𝕄 :=
  (c : Thread nD τ).loc r ↦{fullShare} f

/-! ## The ring of row chunks -/

theorem xslot_inb (k : Fin 4) : ∀ a, (![k.val, 0, 0] : Fin 3 → Nat) a + S1x256x1408.size a ≤ S4x256x1408.size a := by
  have := k.isLt; intro a; fin_cases a
  · show k.val + 1 ≤ 4; omega
  · show 0 + 256 ≤ 256; omega
  · show 0 + 1408 ≤ 1408; omega

/-- Slot `k` of the ring of row chunks. -/
def xslot (k : Fin 4) : Memref sig .tc .vmem S256x1408 .fp8e4m3 :=
  ((Memref.whole cc0_scratch1).slice (Rect.unit (s := S4x256x1408) ![k.val, 0, 0] S1x256x1408.size (xslot_inb k)) (fun _ => rfl)).squeeze S256x1408 squeezes_S1x256x1408_S256x1408

theorem xcell_inb (k : Fin 4) : ∀ a, (![k.val] : Fin 1 → Nat) a + S1.size a ≤ S4.size a := by
  have := k.isLt; intro a; fin_cases a
  show k.val + 1 ≤ 4; omega

/-- Its completion counter. -/
def xcell (k : Fin 4) : SemLoc sig :=
  SemLoc.dma ((SemArray.slice cc0_scratch7 (Rect.unit (s := S4) ![k.val] S1.size (xcell_inb k))).squeeze S_ squeezes_S1_S_).sem

theorem xslot_set (k : Fin 4) : (xslot k).view.set = (Rect.unit (s := S4x256x1408) ![k.val, 0, 0] S1x256x1408.size (xslot_inb k)).set := by
  unfold xslot
  exact (View.set_reshape _ _).trans (View.set_slice_whole _ _)

/-- A load of 128 columns of slot `k` reads elements of slot `k`. -/
theorem xsub (k : Fin 4) (off : Fin 3 → Nat) (inb : ∀ a, off a + S1x256x128.size a ≤ S4x256x1408.size a) (h0 : off 0 = k.val) :
    ((Memref.whole cc0_scratch1).access (Rect.unit (s := S4x256x1408) off S1x256x128.size inb)).set ⊆ (xslot k).view.set := by
  rw [xslot_set]
  refine (View.set_slice_whole _ _).subset.trans (Rect.set_subset_of_span _ _ (fun _ => rfl) fun a => ?_)
  have := inb a
  fin_cases a
  · exact ⟨h0.ge, by show off 0 + 1 * 1 ≤ k.val + 1 + (1 - 1); omega⟩
  · exact ⟨Nat.zero_le _, by have : off 1 + 256 ≤ 256 := this; show off 1 + 1 * 256 ≤ 0 + 256 + (1 - 1); omega⟩
  · exact ⟨Nat.zero_le _, by have : off 2 + 128 ≤ 1408 := this; show off 2 + 1 * 128 ≤ 0 + 1408 + (1 - 1); omega⟩

/-! ## The ring of blocks -/

theorem hslot_inb (k : Fin 7) : ∀ a, (![k.val, 0, 0] : Fin 3 → Nat) a + S1x1408x1408.size a ≤ S7x1408x1408.size a := by
  have := k.isLt; intro a; fin_cases a
  · show k.val + 1 ≤ 7; omega
  · show 0 + 1408 ≤ 1408; omega
  · show 0 + 1408 ≤ 1408; omega

/-- Slot `k` of the ring of blocks. -/
def hslot (k : Fin 7) : Memref sig .tc .vmem S1408x1408 .f32 :=
  ((Memref.whole cc0_scratch0).slice (Rect.unit (s := S7x1408x1408) ![k.val, 0, 0] S1x1408x1408.size (hslot_inb k)) (fun _ => rfl)).squeeze S1408x1408 squeezes_S1x1408x1408_S1408x1408

theorem hcell_inb (k : Fin 7) : ∀ a, (![k.val] : Fin 1 → Nat) a + S1.size a ≤ S7.size a := by
  have := k.isLt; intro a; fin_cases a
  show k.val + 1 ≤ 7; omega

/-- The completion counter of the reads into slot `k`. -/
def icell (k : Fin 7) : SemLoc sig :=
  SemLoc.dma ((SemArray.slice cc0_scratch5 (Rect.unit (s := S7) ![k.val] S1.size (hcell_inb k))).squeeze S_ squeezes_S1_S_).sem
/-- The completion counter of the writes out of slot `k`. -/
def ocell (k : Fin 7) : SemLoc sig :=
  SemLoc.dma ((SemArray.slice cc0_scratch6 (Rect.unit (s := S7) ![k.val] S1.size (hcell_inb k))).squeeze S_ squeezes_S1_S_).sem

theorem hslot_set (k : Fin 7) : (hslot k).view.set = (Rect.unit (s := S7x1408x1408) ![k.val, 0, 0] S1x1408x1408.size (hslot_inb k)).set := by
  unfold hslot
  exact (View.set_reshape _ _).trans (View.set_slice_whole _ _)

theorem hslot_span (k : Fin 7) (off : Fin 3 → Nat) (w : Nat) (inb : ∀ a, off a + (![1, 1408, w] : Fin 3 → Nat) a ≤ S7x1408x1408.size a) (h0 : off 0 = k.val) :
    (Rect.unit (s := S7x1408x1408) off ![1, 1408, w] inb).set ⊆ (hslot k).view.set := by
  rw [hslot_set]
  refine Rect.set_subset_of_span _ _ (fun _ => rfl) fun a => ?_
  have := inb a
  fin_cases a
  · exact ⟨h0.ge, by show off 0 + 1 * 1 ≤ k.val + 1 + (1 - 1); omega⟩
  · exact ⟨Nat.zero_le _, by have : off 1 + 1408 ≤ 1408 := this; show off 1 + 1 * 1408 ≤ 0 + 1408 + (1 - 1); omega⟩
  · exact ⟨Nat.zero_le _, by have : off 2 + w ≤ 1408 := this; show off 2 + 1 * w ≤ 0 + 1408 + (1 - 1); omega⟩

/-- A load of 256 columns of slot `k` reads elements of slot `k`. -/
theorem hsub (k : Fin 7) (off : Fin 3 → Nat) (inb : ∀ a, off a + S1x1408x256.size a ≤ S7x1408x1408.size a) (h0 : off 0 = k.val) :
    ((Memref.whole cc0_scratch0).access (Rect.unit (s := S7x1408x1408) off S1x1408x256.size inb)).set ⊆ (hslot k).view.set :=
  (View.set_slice_whole _ _).subset.trans (hslot_span k off 256 inb h0)
theorem hsub' (k : Fin 7) (off : Fin 3 → Nat) (inb : ∀ a, off a + S1x1408x128.size a ≤ S7x1408x1408.size a) (h0 : off 0 = k.val) :
    ((Memref.whole cc0_scratch0).access (Rect.unit (s := S7x1408x1408) off S1x1408x128.size inb)).set ⊆ (hslot k).view.set :=
  (View.set_slice_whole _ _).subset.trans (hslot_span k off 128 inb h0)
/-- A store of 256 columns of slot `k` writes elements of slot `k`. -/
theorem hsto (k : Fin 7) (off : Fin 3 → Nat) (inb : ∀ a, off a + S1x1408x256.size a ≤ S7x1408x1408.size a) (h0 : off 0 = k.val) :
    ((Memref.whole cc0_scratch0).access (Rect.unit (s := S7x1408x1408) off S1x1408x256.size inb)).setOn Finset.univ ⊆ (hslot k).view.set :=
  hsub k off inb h0
theorem hsto' (k : Fin 7) (off : Fin 3 → Nat) (inb : ∀ a, off a + S1x1408x128.size a ≤ S7x1408x1408.size a) (h0 : off 0 = k.val) :
    ((Memref.whole cc0_scratch0).access (Rect.unit (s := S7x1408x1408) off S1x1408x128.size inb)).setOn Finset.univ ⊆ (hslot k).view.set :=
  hsub' k off inb h0

/-- A row offset at which a chunk of rows may start. -/
def RowOk (n : Nat) : Prop := 128 ∣ n ∧ n + 256 ≤ 18432

theorem xsrc_inb (n : Nat) (h : RowOk n) : ∀ a, (![n, 0] : Fin 2 → Nat) a + S256x1408.size a ≤ S18432x1408.size a := by
  have := h.2; intro a; fin_cases a
  · show n + 256 ≤ 18432; omega
  · show 0 + 1408 ≤ 1408; omega

/-- The 256 rows of the input from row `n`. -/
def xsrc (n : Nat) (h : RowOk n) : Memref sig .tc .hbm S256x1408 .fp8e4m3 :=
  (Memref.whole main_arg0).slice (Rect.unit (s := S18432x1408) ![n, 0] S256x1408.size (xsrc_inb n h)) (fun _ => rfl)

/-- The input's read share for slot `k`, on the elements `S`. -/
abbrev xtok (c : Dev nD) (k : Fin 4) (S : Finset (Idx ((Memref.whole main_arg0).view.loc (c : Thread nD τ))))
    (fx : Buf (Elt F) ((Memref.whole main_arg0).view.loc (c : Thread nD τ))) : sProp 𝕄 :=
  (Memref.whole main_arg0).view.loc (c : Thread nD τ) ↦[S]{Transfers.shareTok fullShare 4 k} fx

/-- The chunk of rows from row `n`. -/
abbrev xchunk (c : Dev nD) (n : Nat) (h : RowOk n) (fx : Buf (Elt F) ((Memref.whole main_arg0).view.loc (c : Thread nD τ))) :=
  (xsrc n h).view.read (Elt F) fx

/-- Slot `k` in flight with the chunk from row `n`. -/
abbrev xfly (c : Dev nD) (fx : Buf (Elt F) ((Memref.whole main_arg0).view.loc (c : Thread nD τ))) (k : Fin 4) (n : Nat) (h : RowOk n) : sProp 𝕄 :=
  iprop((∃ f, Transfers.Flight (countersEmb (U := Pipeline.UC sig nD τ)) (c : Thread nD τ) (xcell k) () 11264
            iprop(((xslot k).view.loc (c : Thread nD τ) ↦[(xslot k).view.set]{fullShare}
                    (xslot k).view.writes (Elt F) f [⟨Rect.whole S256x1408, ReadAs.same.apply ((xsrc n h).view.read (Elt F) fx)⟩])
              ∗ xtok c k (xsrc n h).view.set fx))
    ∗ xtok c k (Finset.univ \ (xsrc n h).view.set) fx)

/-- Slot `k` free, its contents `f`. -/
abbrev xfreeAt (c : Dev nD) (fx : Buf (Elt F) ((Memref.whole main_arg0).view.loc (c : Thread nD τ))) (k : Fin 4)
    (f : Buf (Elt F) ((xslot k).view.loc (c : Thread nD τ))) : sProp 𝕄 :=
  iprop(semVal ((c : Thread nD τ), xcell k) 0 ∗ ((xslot k).view.loc (c : Thread nD τ) ↦[(xslot k).view.set]{fullShare} f) ∗ xtok c k Finset.univ fx)

end Cert.Kernel.Hand

end
-- ==== Proof.Chunks.lean ====
module

public import Idealize.ShloMosaic.Lib.WordArith
public import Idealize.ShloMosaic.Lib.WordCmp
public import Idealize.ShloMosaic.Lib.Affine
public import Idealize.ShloMosaic.Lib.LoopRemainder

/-! # How an expert's rows are cut into chunks

An expert owns the rows `l … h−1`.  The kernel reads them in chunks of 256 rows, from the last multiple of 128
at or below `l`.  This module gives the words that the kernel computes for that (a signed floor division
written with comparisons and a select) their meaning as natural numbers. -/

@[expose] public section

namespace Cert.Chunks

open Idealize.ShloMosaic

/-- Signed floor division, as the kernel spells it. -/
def fdiv (x y : BitVec 32) : BitVec 32 :=
  Scalar.select
    (Scalar.andi
      (Scalar.cmpi .ne
        (Scalar.subi (Scalar.extui (Scalar.cmpi .sgt x 0#32) : BitVec 32) (Scalar.extui (Scalar.cmpi .slt x 0#32)))
        (Scalar.subi (Scalar.extui (Scalar.cmpi .sgt y 0#32)) (Scalar.extui (Scalar.cmpi .slt y 0#32))))
      (Scalar.cmpi .ne (Scalar.remsi x y) 0#32))
    (Scalar.subi (Scalar.divsi x y) 1#32) (Scalar.divsi x y)

/-- The first row fetched for an expert that begins at row `l`, as a word. -/
def baseW (l : BitVec 32) : BitVec 32 := Scalar.muli (fdiv l 128#32) 128#32

/-- The number of an expert's chunks, as a word. -/
def cntW (l h : BitVec 32) : BitVec 32 :=
  Scalar.select (Scalar.cmpi .sgt h l)
    (fdiv (Scalar.subi (Scalar.addi (Scalar.subi h (baseW l)) 256#32) 1#32) 256#32) 0#32

/-- The first row fetched for an expert that begins at row `l`. -/
def base (l : ℕ) : ℕ := l / 128 * 128

/-- The number of chunks of the rows `l … h−1`. -/
def cnt (l h : ℕ) : ℕ := if l < h then (h - base l + 255) / 256 else 0

theorem isInt_iff {x : BitVec 32} {e : ℤ} : Affine.IsInt x e ↔ x.toInt = e := by
  unfold Affine.IsInt; exact Iff.rfl

theorem word_eq {x : BitVec 32} {n : ℕ} (h : x.toInt = n) : x = BitVec.ofNat 32 n := by
  apply BitVec.eq_of_toNat_eq
  have h1 := BitVec.toInt_eq_toNat_cond x
  rw [BitVec.toNat_ofNat]
  have := x.isLt
  split at h1 <;> omega

theorem toInt_of_nonneg {x : BitVec 32} (h : x.toNat < 2 ^ 31) : x.toInt = x.toNat := by
  have h1 := BitVec.toInt_eq_toNat_cond x
  split at h1 <;> omega

/-- On a nonnegative dividend and a positive divisor the spelt-out floor division is the quotient. -/
theorem fdiv_eq (x : BitVec 32) (k : ℕ) (hx : x.toNat < 2 ^ 31) (hk : 0 < k) (hk' : k < 2 ^ 31) :
    fdiv x (BitVec.ofNat 32 k) = BitVec.ofNat 32 (x.toNat / k) := by
  have hX : Affine.IsInt x x.toNat := isInt_iff.2 (toInt_of_nonneg hx)
  have hK : Affine.IsInt (BitVec.ofNat 32 k) k := Affine.ofNat k ⟨rfl, hk'⟩
  have hd : Scalar.divsi x (BitVec.ofNat 32 k) = BitVec.ofNat 32 (x.toNat / k) := by
    apply word_eq
    have := isInt_iff.1 (Affine.divsi (e := ((x.toNat / k : ℕ) : ℤ)) hX hK ⟨by push_cast; rfl, by omega, by omega⟩)
    exact this
  unfold fdiv
  rw [hd]
  have hkT : (BitVec.ofNat 32 k).toInt = k := isInt_iff.1 hK
  have hxT := toInt_of_nonneg hx
  by_cases h0 : x.toNat = 0
  · have hx0 : x = 0#32 := BitVec.eq_of_toNat_eq (by simpa using h0)
    have hr : Scalar.remsi x (BitVec.ofNat 32 k) = 0#32 := by
      have := isInt_iff.1 (Affine.remsi (e := ((0 : ℕ) : ℤ)) hX hK ⟨by simp [h0], by omega, by omega⟩)
      exact word_eq this
    rw [hr, show Scalar.cmpi .ne (0#32 : BitVec 32) 0#32 = 0#1 from rfl]
    rw [show ∀ a : BitVec 1, Scalar.andi a 0#1 = 0#1 from by decide]
    exact WordCmp.select_of_eq_zero rfl _ _
  · have e1 : Scalar.cmpi .sgt x 0#32 = 1#1 := by
      show IntOp.cmpi .sgt x 0#32 = 1#1
      rw [WordCmp.cmpi_sgt_eq]
      have : (0#32 : BitVec 32).toInt < x.toInt := by rw [hxT]; simp; omega
      simp only [this]; rfl
    have e2 : Scalar.cmpi .slt x 0#32 = 0#1 := by
      show IntOp.cmpi .slt x 0#32 = 0#1
      rw [WordCmp.cmpi_slt_eq]
      have : ¬ x.toInt < (0#32 : BitVec 32).toInt := by rw [hxT]; simp
      simp only [this]; rfl
    have e3 : Scalar.cmpi .sgt (BitVec.ofNat 32 k) 0#32 = 1#1 := by
      show IntOp.cmpi .sgt _ 0#32 = 1#1
      rw [WordCmp.cmpi_sgt_eq]
      have : (0#32 : BitVec 32).toInt < (BitVec.ofNat 32 k).toInt := by rw [hkT]; simp; omega
      simp only [this]; rfl
    have e4 : Scalar.cmpi .slt (BitVec.ofNat 32 k) 0#32 = 0#1 := by
      show IntOp.cmpi .slt _ 0#32 = 0#1
      rw [WordCmp.cmpi_slt_eq]
      have : ¬ (BitVec.ofNat 32 k).toInt < (0#32 : BitVec 32).toInt := by rw [hkT]; simp
      simp only [this]; rfl
    rw [e1, e2, e3, e4]
    rw [show Scalar.cmpi .ne (Scalar.subi (Scalar.extui (1#1) : BitVec 32) (Scalar.extui (0#1)))
      (Scalar.subi (Scalar.extui (1#1) : BitVec 32) (Scalar.extui (0#1))) = 0#1 from by decide]
    rw [show ∀ a : BitVec 1, Scalar.andi 0#1 a = 0#1 from by decide]
    exact WordCmp.select_of_eq_zero rfl _ _

/-- The word of the first row fetched. -/
theorem baseW_eq (l : BitVec 32) (hl : l.toNat < 2 ^ 31) : baseW l = BitVec.ofNat 32 (base l.toNat) := by
  unfold baseW base
  rw [fdiv_eq l 128 hl (by decide) (by decide)]
  exact WordCmp.muli_ofNat _ _

/-- The word of the number of chunks. -/
theorem cntW_eq (l h : BitVec 32) (hl : l.toNat ≤ 18432) (hh : h.toNat ≤ 18432) :
    cntW l h = BitVec.ofNat 32 (cnt l.toNat h.toNat) := by
  unfold cntW cnt
  have hlT := toInt_of_nonneg (x := l) (by omega)
  have hhT := toInt_of_nonneg (x := h) (by omega)
  have hc : Scalar.cmpi .sgt h l = BitVec.ofBool (decide (l.toInt < h.toInt)) := WordCmp.cmpi_sgt_eq h l
  by_cases hlt : l.toNat < h.toNat
  · rw [if_pos hlt, hc]
    have : l.toInt < h.toInt := by omega
    rw [WordCmp.select_of_eq_one (by simp [this])]
    have hb : base l.toNat ≤ l.toNat := Nat.div_mul_le_self _ _
    have e : Scalar.subi (Scalar.addi (Scalar.subi h (baseW l)) 256#32) 1#32
        = BitVec.ofNat 32 (h.toNat - base l.toNat + 255) := by
      rw [baseW_eq l (by omega)]
      apply BitVec.eq_of_toNat_eq
      simp only [Scalar.subi, IntOp.subi, Scalar.addi, IntOp.addi, BitVec.toNat_sub, BitVec.toNat_add, BitVec.toNat_ofNat]
      omega
    rw [e, fdiv_eq _ 256 (by rw [BitVec.toNat_ofNat]; omega) (by decide) (by decide), BitVec.toNat_ofNat]
    congr 2
    omega
  · rw [if_neg hlt, hc]
    have : ¬ l.toInt < h.toInt := by omega
    rw [WordCmp.select_of_eq_zero (by simp only [this]; rfl)]

theorem cnt_mul_le (l h : ℕ) (hlh : l ≤ h) : 256 * cnt l h ≤ (h - l) + 382 := by
  unfold cnt base; split <;> omega

theorem cnt_le (l h : ℕ) (hlh : l ≤ h) (hh : h ≤ 18432) : cnt l h ≤ 73 := by
  unfold cnt base; split <;> omega

/-- The upper bound of a counted loop from 0 by steps of 1. -/
theorem ub_eq (c : BitVec 32) :
    Scalar.addi 0#32 (Scalar.muli (Scalar.divsi (Scalar.subi c 0#32) 1#32) 1#32) = c := by
  rw [Scalar.muli_divsi_one]
  simp [Scalar.addi, IntOp.addi, Scalar.subi, IntOp.subi]

theorem trips_ofNat (n : ℕ) (hn : n < 2 ^ 31) : Scf.trips (0#32) (BitVec.ofNat 32 n) 1#32 = n := by
  unfold Scf.trips
  have := isInt_iff.1 (Affine.ofNat (e := (n : ℤ)) n ⟨rfl, hn⟩)
  rw [this, show (0#32 : BitVec 32).toInt = 0 from rfl, show (1#32 : BitVec 32).toInt = 1 from rfl]
  simp

theorem ok_ofNat (n : ℕ) (hn : n < 2 ^ 31) : Scf.OK (0#32) (BitVec.ofNat 32 n) 1#32 := by
  unfold Scf.OK
  rw [trips_ofNat n hn, show (0#32 : BitVec 32).toInt = 0 from rfl, show (1#32 : BitVec 32).toInt = 1 from rfl]
  constructor
  · decide
  · simp; omega

end Cert.Chunks
-- ==== Proof.Trip.lean ====
module

public import proofs.«01_k».proof.Proof.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-! # One trip over a chunk

One trip of the innermost loop: it waits for a chunk of 256 rows, spreads its masked and scaled columns over two
work buffers, asks for the chunk four places further on when there is one, and adds the chunk's product to the block. -/

/-- The first of the 256 rows read for a word of the list. -/
def rowW (w : BitVec 32) : Nat := (Scalar.minsi w 18176#32).toNat

/-- The resources of a free slot, restated at an equal slot. -/
theorem xfree_cast (c : Dev nD) (fx : Buf (Elt F) ((Memref.whole main_arg0).view.loc (c : Thread nD τ))) (k k' : Fin 4) (h : k = k')
    (f : Buf (Elt F) ((xslot k).view.loc (c : Thread nD τ))) :
    iprop(semVal ((c : Thread nD τ), xcell k) 0 ∗ ((xslot k).view.loc (c : Thread nD τ) ↦[(xslot k).view.set]{fullShare} f) ∗ xtok c k Finset.univ fx)
      ⊢ iprop(∃ f', xfreeAt c fx k' f') := by
  subst h
  iintro ⟨H1, H2, H3⟩
  iexists f
  unfold xfreeAt
  isplitl [H1]; · iexact H1
  isplitl [H2]; · iexact H2
  iexact H3

/-- A slot in flight, restated at an equal slot. -/
theorem xfly_cast (c : Dev nD) (fx : Buf (Elt F) ((Memref.whole main_arg0).view.loc (c : Thread nD τ))) (k k' : Fin 4) (h : k = k')
    (n : Nat) (hn : RowOk n) (f : Buf (Elt F) ((xslot k').view.loc (c : Thread nD τ))) :
    iprop(Transfers.Flight (countersEmb (U := Pipeline.UC sig nD τ)) (c : Thread nD τ) (xcell k') () 11264
            iprop(((xslot k').view.loc (c : Thread nD τ) ↦[(xslot k').view.set]{fullShare}
                    (xslot k').view.writes (Elt F) f [⟨Rect.whole S256x1408, ReadAs.same.apply ((xsrc n hn).view.read (Elt F) fx)⟩])
              ∗ xtok c k' (xsrc n hn).view.set fx)
        ∗ xtok c k' (Finset.univ \ (xsrc n hn).view.set) fx)
      ⊢ xfly c fx k n hn := by
  subst h
  iintro ⟨H1, H2⟩
  isplitl [H1]; · iexists f; iexact H1
  iexact H2

set_option maxHeartbeats 2000000 in
/-- The trip runs; the contents of the block are left open.  The values named in it are used below. -/
theorem t5_gen (c : Dev nD) (𝒱₀ : Variants) (v50 arg16 arg15 v86 : BitVec 32) (v88 v91 v133 v137 : Elt F .i32) (v110 v125 : BitVec 1) (v114 v126 : BitVec 32) (k0_hw6 : k0_chk6 v50 arg16 v88 v91)
    (t4 : Fin k0_t4_loop.trips) (t5 : Fin (k0_t5_loop v88 v91).trips)
    (fl : Buf (Elt F) ((Memref.whole cc0_scratch4).view.loc (c : Thread nD τ))) (fs : Buf (Elt F) ((Memref.whole cc0_stg2_0).view.loc (c : Thread nD τ)))
    (fx : Buf (Elt F) ((Memref.whole main_arg0).view.loc (c : Thread nD τ)))
    (f9 : Buf (Elt F) ((Memref.whole cc0_scratch2).view.loc (c : Thread nD τ))) (f10 : Buf (Elt F) ((Memref.whole cc0_scratch3).view.loc (c : Thread nD τ)))
    (hw : (Scalar.remsi (Scalar.addi arg16 (Scf.iv 0#32 1#32 t5)) 4#32).toNat < 4)
    (hwh : (Scalar.remsi (Scf.iv 0#32 1#32 t4) 7#32).toNat < 7)
    (fh : Buf (Elt F) ((hslot (Ring.slotOfW _ hwh)).view.loc (c : Thread nD τ)))
    (n : Nat) (hn : RowOk n) (W : Waits sig Unit)
    (h7 : k0_chk7 (View.readAt (Elt F) (Memref.whole cc0_scratch4).view (Rect.unit (s := S200) (k0_off26 arg16 v88 v91 t5) S1.size (k0_off26_inb v50 arg16 v88 v91 k0_hw6 t5)).toLoadRect fl (Shape.Idx.first (numel1_S1.symm ▸ Nat.one_pos))))
    (h8 : k0_chk8 (View.readAt (Elt F) (Memref.whole cc0_scratch4).view (Rect.unit (s := S200) (k0_off30 arg16 v88 v91 t5) S1.size (k0_off30_inb v50 arg16 v88 v91 k0_hw6 t5)).toLoadRect fl (Shape.Idx.first (numel1_S1.symm ▸ Nat.one_pos))))
    (hc : ¬ k0_cond5 v50 arg16 v88 v91 t5 = 1#1)
    (Q : Unit → sProp 𝕄) :
    iprop(((Memref.whole cc0_scratch4).view.loc (c : Thread nD τ) ↦{fullShare} fl) ∗ ((Memref.whole cc0_stg2_0).view.loc (c : Thread nD τ) ↦{fullShare} fs)
        ∗ ((Memref.whole cc0_scratch2).view.loc (c : Thread nD τ) ↦{fullShare} f9) ∗ ((Memref.whole cc0_scratch3).view.loc (c : Thread nD τ) ↦{fullShare} f10)
        ∗ ((hslot (Ring.slotOfW _ hwh)).view.loc (c : Thread nD τ) ↦[(hslot (Ring.slotOfW _ hwh)).view.set]{fullShare} fh)
        ∗ xfly c fx (Ring.slotOfW _ hw) n hn ∗ owes (c : Thread nD τ) 0 W
        ∗ ((((Memref.whole cc0_scratch4).view.loc (c : Thread nD τ) ↦{fullShare} fl) ∗ ((Memref.whole cc0_stg2_0).view.loc (c : Thread nD τ) ↦{fullShare} fs)
            ∗ (∃ f, (Memref.whole cc0_scratch2).view.loc (c : Thread nD τ) ↦{fullShare} f) ∗ (∃ f, (Memref.whole cc0_scratch3).view.loc (c : Thread nD τ) ↦{fullShare} f)
            ∗ (∃ fh', (hslot (Ring.slotOfW _ hwh)).view.loc (c : Thread nD τ) ↦[(hslot (Ring.slotOfW _ hwh)).view.set]{fullShare}
                fh')
            ∗ (∃ f, xfreeAt c fx (Ring.slotOfW _ hw) f)
            ∗ (∃ W', owes (c : Thread nD τ) 0 W')) -∗ Q ()))
      ⊢ wp frame (wpE (defs₀ (F := F)) 𝒱₀ (c : Thread nD τ) none) Set.univ
          (k0_t5_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v50 t4 arg16 arg15 v86 v88 v91 k0_hw6 v110 v114 v125 v126 v133 v137 t5 ()) Q := by
  have hx32 := xsub (Ring.slotOfW _ hw) (k0_off32 arg16 v88 v91 t5) (k0_off32_inb v50 arg16 v88 v91 k0_hw6 t5) rfl
  have hx33 := xsub (Ring.slotOfW _ hw) (k0_off33 arg16 v88 v91 t5) (k0_off33_inb v50 arg16 v88 v91 k0_hw6 t5) rfl
  have hx34 := xsub (Ring.slotOfW _ hw) (k0_off34 arg16 v88 v91 t5) (k0_off34_inb v50 arg16 v88 v91 k0_hw6 t5) rfl
  have hx35 := xsub (Ring.slotOfW _ hw) (k0_off35 arg16 v88 v91 t5) (k0_off35_inb v50 arg16 v88 v91 k0_hw6 t5) rfl
  have hx36 := xsub (Ring.slotOfW _ hw) (k0_off36 arg16 v88 v91 t5) (k0_off36_inb v50 arg16 v88 v91 k0_hw6 t5) rfl
  have hx37 := xsub (Ring.slotOfW _ hw) (k0_off37 arg16 v88 v91 t5) (k0_off37_inb v50 arg16 v88 v91 k0_hw6 t5) rfl
  have hx38 := xsub (Ring.slotOfW _ hw) (k0_off38 arg16 v88 v91 t5) (k0_off38_inb v50 arg16 v88 v91 k0_hw6 t5) rfl
  have hx39 := xsub (Ring.slotOfW _ hw) (k0_off39 arg16 v88 v91 t5) (k0_off39_inb v50 arg16 v88 v91 k0_hw6 t5) rfl
  have hx40 := xsub (Ring.slotOfW _ hw) (k0_off40 arg16 v88 v91 t5) (k0_off40_inb v50 arg16 v88 v91 k0_hw6 t5) rfl
  have hx41 := xsub (Ring.slotOfW _ hw) (k0_off41 arg16 v88 v91 t5) (k0_off41_inb v50 arg16 v88 v91 k0_hw6 t5) rfl
  have hx42 := xsub (Ring.slotOfW _ hw) (k0_off42 arg16 v88 v91 t5) (k0_off42_inb v50 arg16 v88 v91 k0_hw6 t5) rfl
  have hh47 := hsub (Ring.slotOfW _ hwh) (k0_off47 t4) (k0_off47_inb t4) rfl
  have hs47 := hsto (Ring.slotOfW _ hwh) (k0_off47 t4) (k0_off47_inb t4) rfl
  have hh48 := hsub (Ring.slotOfW _ hwh) (k0_off48 t4) (k0_off48_inb t4) rfl
  have hs48 := hsto (Ring.slotOfW _ hwh) (k0_off48 t4) (k0_off48_inb t4) rfl
  have hh49 := hsub (Ring.slotOfW _ hwh) (k0_off49 t4) (k0_off49_inb t4) rfl
  have hs49 := hsto (Ring.slotOfW _ hwh) (k0_off49 t4) (k0_off49_inb t4) rfl
  have hh50 := hsub (Ring.slotOfW _ hwh) (k0_off50 t4) (k0_off50_inb t4) rfl
  have hs50 := hsto (Ring.slotOfW _ hwh) (k0_off50 t4) (k0_off50_inb t4) rfl
  have hh51 := hsub (Ring.slotOfW _ hwh) (k0_off51 t4) (k0_off51_inb t4) rfl
  have hs51 := hsto (Ring.slotOfW _ hwh) (k0_off51 t4) (k0_off51_inb t4) rfl
  have hh52 := hsub' (Ring.slotOfW _ hwh) (k0_off52 t4) (k0_off52_inb t4) rfl
  have hs52 := hsto' (Ring.slotOfW _ hwh) (k0_off52 t4) (k0_off52_inb t4) rfl
  iintro ⟨Hl, Hs, H9, H10, Hh, ⟨⟨%f, Hfl⟩, Htok⟩, HO, Hk⟩
  sl_unfold [k0_t5_body]
  sl_exec
  sl_step
  iapply Hk
  isplitl [Hl]; · iexact Hl
  isplitl [Hs]; · iexact Hs
  isplitl [H9]; · iexists _; iexact H9
  isplitl [H10]; · iexists _; iexact H10
  isplitl [Hh]; · iexists _; iexact Hh
  isplitl [Hfl Hfl_dst Htok]
  · iexists _
    isplitl [Hfl]; · iexact Hfl
    isplitl [Hfl_dst]; · iexact Hfl_dst
    iexact Htok
  iexists _; iexact HO

set_option maxHeartbeats 2000000 in
/-- The trip when no further chunk is asked for. -/
theorem t5_false (c : Dev nD) (𝒱₀ : Variants) (v50 arg16 arg15 v86 : BitVec 32) (v88 v91 v133 v137 : Elt F .i32) (v110 v125 : BitVec 1) (v114 v126 : BitVec 32) (k0_hw6 : k0_chk6 v50 arg16 v88 v91)
    (t4 : Fin k0_t4_loop.trips) (t5 : Fin (k0_t5_loop v88 v91).trips)
    (fl : Buf (Elt F) ((Memref.whole cc0_scratch4).view.loc (c : Thread nD τ))) (fs : Buf (Elt F) ((Memref.whole cc0_stg2_0).view.loc (c : Thread nD τ)))
    (fx : Buf (Elt F) ((Memref.whole main_arg0).view.loc (c : Thread nD τ)))
    (f9 : Buf (Elt F) ((Memref.whole cc0_scratch2).view.loc (c : Thread nD τ))) (f10 : Buf (Elt F) ((Memref.whole cc0_scratch3).view.loc (c : Thread nD τ)))
    (hw : (Scalar.remsi (Scalar.addi arg16 (Scf.iv 0#32 1#32 t5)) 4#32).toNat < 4)
    (hwh : (Scalar.remsi (Scf.iv 0#32 1#32 t4) 7#32).toNat < 7)
    (fh : Buf (Elt F) ((hslot (Ring.slotOfW _ hwh)).view.loc (c : Thread nD τ)))
    (n : Nat) (hn : RowOk n) (W : Waits sig Unit)
    (h7 : k0_chk7 (View.readAt (Elt F) (Memref.whole cc0_scratch4).view (Rect.unit (s := S200) (k0_off26 arg16 v88 v91 t5) S1.size (k0_off26_inb v50 arg16 v88 v91 k0_hw6 t5)).toLoadRect fl (Shape.Idx.first (numel1_S1.symm ▸ Nat.one_pos))))
    (h8 : k0_chk8 (View.readAt (Elt F) (Memref.whole cc0_scratch4).view (Rect.unit (s := S200) (k0_off30 arg16 v88 v91 t5) S1.size (k0_off30_inb v50 arg16 v88 v91 k0_hw6 t5)).toLoadRect fl (Shape.Idx.first (numel1_S1.symm ▸ Nat.one_pos))))
    (hc : ¬ k0_cond5 v50 arg16 v88 v91 t5 = 1#1)
    (Q : Unit → sProp 𝕄) :
    iprop(((Memref.whole cc0_scratch4).view.loc (c : Thread nD τ) ↦{fullShare} fl) ∗ ((Memref.whole cc0_stg2_0).view.loc (c : Thread nD τ) ↦{fullShare} fs)
        ∗ ((Memref.whole cc0_scratch2).view.loc (c : Thread nD τ) ↦{fullShare} f9) ∗ ((Memref.whole cc0_scratch3).view.loc (c : Thread nD τ) ↦{fullShare} f10)
        ∗ ((hslot (Ring.slotOfW _ hwh)).view.loc (c : Thread nD τ) ↦[(hslot (Ring.slotOfW _ hwh)).view.set]{fullShare} fh)
        ∗ xfly c fx (Ring.slotOfW _ hw) n hn ∗ owes (c : Thread nD τ) 0 W
        ∗ ((((Memref.whole cc0_scratch4).view.loc (c : Thread nD τ) ↦{fullShare} fl) ∗ ((Memref.whole cc0_stg2_0).view.loc (c : Thread nD τ) ↦{fullShare} fs)
            ∗ (∃ f, (Memref.whole cc0_scratch2).view.loc (c : Thread nD τ) ↦{fullShare} f) ∗ (∃ f, (Memref.whole cc0_scratch3).view.loc (c : Thread nD τ) ↦{fullShare} f)
            ∗ ((hslot (Ring.slotOfW _ hwh)).view.loc (c : Thread nD τ) ↦[(hslot (Ring.slotOfW _ hwh)).view.set]{fullShare}
                (t5_gen.sl.Hh_w6 c v50 arg16 v88 v91 v133 v137 k0_hw6 t4 t5 fl fs fx hw hwh fh n hn h8))
            ∗ (∃ f, xfreeAt c fx (Ring.slotOfW _ hw) f)
            ∗ (∃ W', owes (c : Thread nD τ) 0 W')) -∗ Q ()))
      ⊢ wp frame (wpE (defs₀ (F := F)) 𝒱₀ (c : Thread nD τ) none) Set.univ
          (k0_t5_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v50 t4 arg16 arg15 v86 v88 v91 k0_hw6 v110 v114 v125 v126 v133 v137 t5 ()) Q := by
  have hx32 := xsub (Ring.slotOfW _ hw) (k0_off32 arg16 v88 v91 t5) (k0_off32_inb v50 arg16 v88 v91 k0_hw6 t5) rfl
  have hx33 := xsub (Ring.slotOfW _ hw) (k0_off33 arg16 v88 v91 t5) (k0_off33_inb v50 arg16 v88 v91 k0_hw6 t5) rfl
  have hx34 := xsub (Ring.slotOfW _ hw) (k0_off34 arg16 v88 v91 t5) (k0_off34_inb v50 arg16 v88 v91 k0_hw6 t5) rfl
  have hx35 := xsub (Ring.slotOfW _ hw) (k0_off35 arg16 v88 v91 t5) (k0_off35_inb v50 arg16 v88 v91 k0_hw6 t5) rfl
  have hx36 := xsub (Ring.slotOfW _ hw) (k0_off36 arg16 v88 v91 t5) (k0_off36_inb v50 arg16 v88 v91 k0_hw6 t5) rfl
  have hx37 := xsub (Ring.slotOfW _ hw) (k0_off37 arg16 v88 v91 t5) (k0_off37_inb v50 arg16 v88 v91 k0_hw6 t5) rfl
  have hx38 := xsub (Ring.slotOfW _ hw) (k0_off38 arg16 v88 v91 t5) (k0_off38_inb v50 arg16 v88 v91 k0_hw6 t5) rfl
  have hx39 := xsub (Ring.slotOfW _ hw) (k0_off39 arg16 v88 v91 t5) (k0_off39_inb v50 arg16 v88 v91 k0_hw6 t5) rfl
  have hx40 := xsub (Ring.slotOfW _ hw) (k0_off40 arg16 v88 v91 t5) (k0_off40_inb v50 arg16 v88 v91 k0_hw6 t5) rfl
  have hx41 := xsub (Ring.slotOfW _ hw) (k0_off41 arg16 v88 v91 t5) (k0_off41_inb v50 arg16 v88 v91 k0_hw6 t5) rfl
  have hx42 := xsub (Ring.slotOfW _ hw) (k0_off42 arg16 v88 v91 t5) (k0_off42_inb v50 arg16 v88 v91 k0_hw6 t5) rfl
  have hh47 := hsub (Ring.slotOfW _ hwh) (k0_off47 t4) (k0_off47_inb t4) rfl
  have hs47 := hsto (Ring.slotOfW _ hwh) (k0_off47 t4) (k0_off47_inb t4) rfl
  have hh48 := hsub (Ring.slotOfW _ hwh) (k0_off48 t4) (k0_off48_inb t4) rfl
  have hs48 := hsto (Ring.slotOfW _ hwh) (k0_off48 t4) (k0_off48_inb t4) rfl
  have hh49 := hsub (Ring.slotOfW _ hwh) (k0_off49 t4) (k0_off49_inb t4) rfl
  have hs49 := hsto (Ring.slotOfW _ hwh) (k0_off49 t4) (k0_off49_inb t4) rfl
  have hh50 := hsub (Ring.slotOfW _ hwh) (k0_off50 t4) (k0_off50_inb t4) rfl
  have hs50 := hsto (Ring.slotOfW _ hwh) (k0_off50 t4) (k0_off50_inb t4) rfl
  have hh51 := hsub (Ring.slotOfW _ hwh) (k0_off51 t4) (k0_off51_inb t4) rfl
  have hs51 := hsto (Ring.slotOfW _ hwh) (k0_off51 t4) (k0_off51_inb t4) rfl
  have hh52 := hsub' (Ring.slotOfW _ hwh) (k0_off52 t4) (k0_off52_inb t4) rfl
  have hs52 := hsto' (Ring.slotOfW _ hwh) (k0_off52 t4) (k0_off52_inb t4) rfl
  iintro ⟨Hl, Hs, H9, H10, Hh, ⟨⟨%f, Hfl⟩, Htok⟩, HO, Hk⟩
  sl_unfold [k0_t5_body]
  sl_exec
  sl_step
  iapply Hk
  isplitl [Hl]; · iexact Hl
  isplitl [Hs]; · iexact Hs
  isplitl [H9]; · iexists _; iexact H9
  isplitl [H10]; · iexists _; iexact H10
  isplitl [Hh]; · iexact Hh
  isplitl [Hfl Hfl_dst Htok]
  · iexists _
    isplitl [Hfl]; · iexact Hfl
    isplitl [Hfl_dst]; · iexact Hfl_dst
    iexact Htok
  iexists _; iexact HO

set_option maxHeartbeats 2000000 in
/-- The trip when the chunk four places further on is asked for. -/
theorem t5_true (c : Dev nD) (𝒱₀ : Variants) (v50 arg16 arg15 v86 : BitVec 32) (v88 v91 v133 v137 : Elt F .i32) (v110 v125 : BitVec 1) (v114 v126 : BitVec 32) (k0_hw6 : k0_chk6 v50 arg16 v88 v91)
    (t4 : Fin k0_t4_loop.trips) (t5 : Fin (k0_t5_loop v88 v91).trips)
    (fl : Buf (Elt F) ((Memref.whole cc0_scratch4).view.loc (c : Thread nD τ))) (fs : Buf (Elt F) ((Memref.whole cc0_stg2_0).view.loc (c : Thread nD τ)))
    (fx : Buf (Elt F) ((Memref.whole main_arg0).view.loc (c : Thread nD τ)))
    (f9 : Buf (Elt F) ((Memref.whole cc0_scratch2).view.loc (c : Thread nD τ))) (f10 : Buf (Elt F) ((Memref.whole cc0_scratch3).view.loc (c : Thread nD τ)))
    (hw : (Scalar.remsi (Scalar.addi arg16 (Scf.iv 0#32 1#32 t5)) 4#32).toNat < 4)
    (hwh : (Scalar.remsi (Scf.iv 0#32 1#32 t4) 7#32).toNat < 7)
    (hw2 : (Scalar.remsi (Scalar.addi (Scalar.addi arg16 (Scf.iv 0#32 1#32 t5)) 4#32) 4#32).toNat < 4) (heq : Ring.slotOfW _ hw = Ring.slotOfW _ hw2)
    (fh : Buf (Elt F) ((hslot (Ring.slotOfW _ hwh)).view.loc (c : Thread nD τ)))
    (n : Nat) (hn : RowOk n) (W : Waits sig Unit)
    (h7 : k0_chk7 (View.readAt (Elt F) (Memref.whole cc0_scratch4).view (Rect.unit (s := S200) (k0_off26 arg16 v88 v91 t5) S1.size (k0_off26_inb v50 arg16 v88 v91 k0_hw6 t5)).toLoadRect fl (Shape.Idx.first (numel1_S1.symm ▸ Nat.one_pos))))
    (h8 : k0_chk8 (View.readAt (Elt F) (Memref.whole cc0_scratch4).view (Rect.unit (s := S200) (k0_off30 arg16 v88 v91 t5) S1.size (k0_off30_inb v50 arg16 v88 v91 k0_hw6 t5)).toLoadRect fl (Shape.Idx.first (numel1_S1.symm ▸ Nat.one_pos))))
    (hc : k0_cond5 v50 arg16 v88 v91 t5 = 1#1)
    (h9 : k0_chk9 v50 arg16 v88 v91 t5 (View.readAt (Elt F) (Memref.whole cc0_scratch4).view (Rect.unit (s := S200) (k0_off43 arg16 v88 v91 t5) S1.size (k0_off43_inb v50 arg16 v88 v91 k0_hw6 t5 hc)).toLoadRect fl (Shape.Idx.first (numel1_S1.symm ▸ Nat.one_pos))))
    (hn' : RowOk (rowW (View.readAt (Elt F) (Memref.whole cc0_scratch4).view (Rect.unit (s := S200) (k0_off43 arg16 v88 v91 t5) S1.size (k0_off43_inb v50 arg16 v88 v91 k0_hw6 t5 hc)).toLoadRect fl (Shape.Idx.first (numel1_S1.symm ▸ Nat.one_pos)))))
    (Q : Unit → sProp 𝕄) :
    iprop(((Memref.whole cc0_scratch4).view.loc (c : Thread nD τ) ↦{fullShare} fl) ∗ ((Memref.whole cc0_stg2_0).view.loc (c : Thread nD τ) ↦{fullShare} fs)
        ∗ ((Memref.whole cc0_scratch2).view.loc (c : Thread nD τ) ↦{fullShare} f9) ∗ ((Memref.whole cc0_scratch3).view.loc (c : Thread nD τ) ↦{fullShare} f10)
        ∗ ((hslot (Ring.slotOfW _ hwh)).view.loc (c : Thread nD τ) ↦[(hslot (Ring.slotOfW _ hwh)).view.set]{fullShare} fh)
        ∗ xfly c fx (Ring.slotOfW _ hw) n hn ∗ owes (c : Thread nD τ) 0 W
        ∗ ((((Memref.whole cc0_scratch4).view.loc (c : Thread nD τ) ↦{fullShare} fl) ∗ ((Memref.whole cc0_stg2_0).view.loc (c : Thread nD τ) ↦{fullShare} fs)
            ∗ (∃ f, (Memref.whole cc0_scratch2).view.loc (c : Thread nD τ) ↦{fullShare} f) ∗ (∃ f, (Memref.whole cc0_scratch3).view.loc (c : Thread nD τ) ↦{fullShare} f)
            ∗ ((hslot (Ring.slotOfW _ hwh)).view.loc (c : Thread nD τ) ↦[(hslot (Ring.slotOfW _ hwh)).view.set]{fullShare}
                (t5_gen.sl.Hh_w6 c v50 arg16 v88 v91 v133 v137 k0_hw6 t4 t5 fl fs fx hw hwh fh n hn h8))
            ∗ xfly c fx (Ring.slotOfW _ hw) (rowW (View.readAt (Elt F) (Memref.whole cc0_scratch4).view (Rect.unit (s := S200) (k0_off43 arg16 v88 v91 t5) S1.size (k0_off43_inb v50 arg16 v88 v91 k0_hw6 t5 hc)).toLoadRect fl (Shape.Idx.first (numel1_S1.symm ▸ Nat.one_pos)))) hn'
            ∗ (∃ W', owes (c : Thread nD τ) 0 W')) -∗ Q ()))
      ⊢ wp frame (wpE (defs₀ (F := F)) 𝒱₀ (c : Thread nD τ) none) Set.univ
          (k0_t5_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v50 t4 arg16 arg15 v86 v88 v91 k0_hw6 v110 v114 v125 v126 v133 v137 t5 ()) Q := by
  have hx32 := xsub (Ring.slotOfW _ hw) (k0_off32 arg16 v88 v91 t5) (k0_off32_inb v50 arg16 v88 v91 k0_hw6 t5) rfl
  have hx33 := xsub (Ring.slotOfW _ hw) (k0_off33 arg16 v88 v91 t5) (k0_off33_inb v50 arg16 v88 v91 k0_hw6 t5) rfl
  have hx34 := xsub (Ring.slotOfW _ hw) (k0_off34 arg16 v88 v91 t5) (k0_off34_inb v50 arg16 v88 v91 k0_hw6 t5) rfl
  have hx35 := xsub (Ring.slotOfW _ hw) (k0_off35 arg16 v88 v91 t5) (k0_off35_inb v50 arg16 v88 v91 k0_hw6 t5) rfl
  have hx36 := xsub (Ring.slotOfW _ hw) (k0_off36 arg16 v88 v91 t5) (k0_off36_inb v50 arg16 v88 v91 k0_hw6 t5) rfl
  have hx37 := xsub (Ring.slotOfW _ hw) (k0_off37 arg16 v88 v91 t5) (k0_off37_inb v50 arg16 v88 v91 k0_hw6 t5) rfl
  have hx38 := xsub (Ring.slotOfW _ hw) (k0_off38 arg16 v88 v91 t5) (k0_off38_inb v50 arg16 v88 v91 k0_hw6 t5) rfl
  have hx39 := xsub (Ring.slotOfW _ hw) (k0_off39 arg16 v88 v91 t5) (k0_off39_inb v50 arg16 v88 v91 k0_hw6 t5) rfl
  have hx40 := xsub (Ring.slotOfW _ hw) (k0_off40 arg16 v88 v91 t5) (k0_off40_inb v50 arg16 v88 v91 k0_hw6 t5) rfl
  have hx41 := xsub (Ring.slotOfW _ hw) (k0_off41 arg16 v88 v91 t5) (k0_off41_inb v50 arg16 v88 v91 k0_hw6 t5) rfl
  have hx42 := xsub (Ring.slotOfW _ hw) (k0_off42 arg16 v88 v91 t5) (k0_off42_inb v50 arg16 v88 v91 k0_hw6 t5) rfl
  have hh47 := hsub (Ring.slotOfW _ hwh) (k0_off47 t4) (k0_off47_inb t4) rfl
  have hs47 := hsto (Ring.slotOfW _ hwh) (k0_off47 t4) (k0_off47_inb t4) rfl
  have hh48 := hsub (Ring.slotOfW _ hwh) (k0_off48 t4) (k0_off48_inb t4) rfl
  have hs48 := hsto (Ring.slotOfW _ hwh) (k0_off48 t4) (k0_off48_inb t4) rfl
  have hh49 := hsub (Ring.slotOfW _ hwh) (k0_off49 t4) (k0_off49_inb t4) rfl
  have hs49 := hsto (Ring.slotOfW _ hwh) (k0_off49 t4) (k0_off49_inb t4) rfl
  have hh50 := hsub (Ring.slotOfW _ hwh) (k0_off50 t4) (k0_off50_inb t4) rfl
  have hs50 := hsto (Ring.slotOfW _ hwh) (k0_off50 t4) (k0_off50_inb t4) rfl
  have hh51 := hsub (Ring.slotOfW _ hwh) (k0_off51 t4) (k0_off51_inb t4) rfl
  have hs51 := hsto (Ring.slotOfW _ hwh) (k0_off51 t4) (k0_off51_inb t4) rfl
  have hh52 := hsub' (Ring.slotOfW _ hwh) (k0_off52 t4) (k0_off52_inb t4) rfl
  have hs52 := hsto' (Ring.slotOfW _ hwh) (k0_off52 t4) (k0_off52_inb t4) rfl
  iintro ⟨Hl, Hs, H9, H10, Hh, ⟨⟨%f, Hfl⟩, Htok⟩, HO, Hk⟩
  sl_unfold [k0_t5_body]
  sl_exec
  ihave HF := (xfree_cast c fx _ _ heq _) $$ [Hfl Hfl_dst Htok]
  · isplitl [Hfl]; · iexact Hfl
    isplitl [Hfl_dst]; · iexact Hfl_dst
    iexact Htok
  icases HF with ⟨%f', Hc, Hd, Ht⟩
  sl_exec
  sl_step
  iapply Hk
  isplitl [Hl]; · iexact Hl
  isplitl [Hs]; · iexact Hs
  isplitl [H9]; · iexists _; iexact H9
  isplitl [H10]; · iexists _; iexact H10
  isplitl [Hh]; · iexact Hh
  isplitl [Hc Ht]
  · iapply (xfly_cast c fx _ _ heq _ hn' _)
    isplitl [Hc]; · iexact Hc
    iexact Ht
  iexists _; iexact HO

end Cert.Kernel.Hand

end
-- ==== Proof.Words.lean ====
module

public import proofs.«01_k».proof.Proof.Base
public import proofs.«01_k».proof.Proof.Chunks
public import proofs.«01_k».proof.Proof.Trip

/-! # The words of the kernel

What the kernel's loop bounds, indices, conditions and side conditions are as natural numbers, when an expert
owns the rows `l … h−1` with `l` and `h` at most 18432. -/

@[expose] public section

set_option maxRecDepth 16384

namespace Cert.Kernel.Hand

open Cert.Kernel Cert.Kernel.Gen Cert.Chunks
open Idealize.ShloMosaic Idealize.ShloMosaic.TcCoe

theorem iv_eq (k : ℕ) : Scf.iv (0#32) 1#32 k = BitVec.ofNat 32 k := by
  unfold Scf.iv
  rw [BitVec.mul_one, BitVec.zero_add]

theorem addi_iv (p k : ℕ) : Scalar.addi (BitVec.ofNat 32 p) (Scf.iv 0#32 1#32 k) = BitVec.ofNat 32 (p + k) := by
  rw [iv_eq]; exact WordCmp.addi_ofNat _ _

theorem remsi_ofNat (n k : ℕ) (hn : n < 2 ^ 31) (hk : 0 < k) (hk' : k < 2 ^ 31) :
    (Scalar.remsi (BitVec.ofNat 32 n) (BitVec.ofNat 32 k)).toNat = n % k := by
  show (IntOp.remsi _ _ _).toNat = _
  rw [IntOp.toNat_remsi _ (by rw [BitVec.toNat_ofNat]; omega) k hk (by omega), BitVec.toNat_ofNat]
  congr 1
  omega

theorem toNat_ofNat_small (n : ℕ) (hn : n < 2 ^ 31) : (BitVec.ofNat 32 n).toNat = n := by
  rw [BitVec.toNat_ofNat]; omega

/-- A condition `a < b` of words, as the kernel widens and tests it. -/
theorem lt_cond (a b : ℕ) (ha : a < 2 ^ 31) (hb : b < 2 ^ 31) :
    Scalar.cmpi .ne (Scalar.extui (Scalar.cmpi .slt (BitVec.ofNat 32 a) (BitVec.ofNat 32 b)) : BitVec 32) 0#32 = 1#1 ↔ a < b := by
  have : Scalar.cmpi .slt (BitVec.ofNat 32 a) (BitVec.ofNat 32 b) = BitVec.ofBool (decide (a < b)) := by
    show IntOp.cmpi .slt _ _ = _
    rw [WordCmp.cmpi_slt_eq, toInt_of_nonneg (by rw [BitVec.toNat_ofNat]; omega), toInt_of_nonneg (by rw [BitVec.toNat_ofNat]; omega),
      toNat_ofNat_small a ha, toNat_ofNat_small b hb]
    simp
  rw [this]
  by_cases h : a < b <;> simp only [h, decide_true, decide_false] <;> decide

/-! ## The loops over an expert's chunks -/

theorem t5_loop_eq (l h : BitVec 32) : k0_t5_loop l h = ⟨0#32, cntW l h, 1#32⟩ := by
  have : k0_t5_loop l h = ⟨0#32, Scalar.addi 0#32 (Scalar.muli (Scalar.divsi (Scalar.subi (cntW l h) 0#32) 1#32) 1#32), 1#32⟩ := rfl
  rw [this, ub_eq]

theorem t2_loop_eq (l h : BitVec 32) : k0_t2_loop l h = ⟨0#32, cntW l h, 1#32⟩ := by
  have : k0_t2_loop l h = ⟨0#32, Scalar.addi 0#32 (Scalar.muli (Scalar.divsi (Scalar.subi (cntW l h) 0#32) 1#32) 1#32), 1#32⟩ := rfl
  rw [this, ub_eq]

section
variable {l h : BitVec 32} (hl : l.toNat ≤ 18432) (hh : h.toNat ≤ 18432)
include hl hh

theorem cnt_small : cnt l.toNat h.toNat < 2 ^ 31 := by
  unfold cnt; split <;> omega

theorem t5_trips : (k0_t5_loop l h).trips = cnt l.toNat h.toNat := by
  rw [t5_loop_eq]; show Scf.trips 0#32 (cntW l h) 1#32 = _
  rw [cntW_eq l h hl hh]; exact trips_ofNat _ (cnt_small hl hh)
theorem t2_trips : (k0_t2_loop l h).trips = cnt l.toNat h.toNat := by
  rw [t2_loop_eq]; show Scf.trips 0#32 (cntW l h) 1#32 = _
  rw [cntW_eq l h hl hh]; exact trips_ofNat _ (cnt_small hl hh)
theorem t5_OK : (k0_t5_loop l h).OK := by
  rw [t5_loop_eq]; show Scf.OK 0#32 (cntW l h) 1#32
  rw [cntW_eq l h hl hh]; exact ok_ofNat _ (cnt_small hl hh)
theorem t2_OK : (k0_t2_loop l h).OK := by
  rw [t2_loop_eq]; show Scf.OK 0#32 (cntW l h) 1#32
  rw [cntW_eq l h hl hh]; exact ok_ofNat _ (cnt_small hl hh)
end

theorem t6_OK (l h : BitVec 32) : (k0_t6_loop l h).OK := Scf.rem_ok 0#32 (Scalar.subi (cntW l h) 0#32)
theorem t3_OK (l h : BitVec 32) : (k0_t3_loop l h).OK := Scf.rem_ok 0#32 (Scalar.subi (cntW l h) 0#32)
theorem t6_none (l h : BitVec 32) (k : Fin (k0_t6_loop l h).trips) : False := Scf.rem_no_trip 0#32 (Scalar.subi (cntW l h) 0#32) k
theorem t3_none (l h : BitVec 32) (k : Fin (k0_t3_loop l h).trips) : False := Scf.rem_no_trip 0#32 (Scalar.subi (cntW l h) 0#32) k

/-! ## Offsets and side conditions -/

theorem slot4_inb (w c1 c2 : ℕ) (hw : w < 4) (h2 : c1 + 128 ≤ 1408) (off : Fin 3 → ℕ) (ho : off = ![w, 0, c1]) :
    ∀ a, off a + S1x256x128.size a ≤ S4x256x1408.size a := by
  subst ho; intro a; fin_cases a
  · show w + 1 ≤ 4; omega
  · show 0 + 256 ≤ 256; omega
  · show c1 + 128 ≤ 1408; omega

theorem list_inb (w : ℕ) (hw : w < 200) (off : Fin 1 → ℕ) (ho : off = ![w]) : ∀ a, off a + S1.size a ≤ S200.size a := by
  subst ho; intro a; fin_cases a; show w + 1 ≤ 200; omega
theorem cell4_inb (w : ℕ) (hw : w < 4) (off : Fin 1 → ℕ) (ho : off = ![w]) : ∀ a, off a + S1.size a ≤ S4.size a := by
  subst ho; intro a; fin_cases a; show w + 1 ≤ 4; omega
theorem ring4_inb (w : ℕ) (hw : w < 4) (off : Fin 3 → ℕ) (ho : off = ![w, 0, 0]) :
    ∀ a, off a + S1x256x1408.size a ≤ S4x256x1408.size a := by
  subst ho; intro a; fin_cases a
  · show w + 1 ≤ 4; omega
  · show 0 + 256 ≤ 256; omega
  · show 0 + 1408 ≤ 1408; omega

/-- The side conditions of an expert's loop over its chunks. -/
theorem chk6_of (v50 l h : BitVec 32) (p : ℕ) (hl : l.toNat ≤ 18432) (hh : h.toNat ≤ 18432) (tot : ℕ) (hv : v50 = BitVec.ofNat 32 tot)
    (htot : tot ≤ 200) (hp : p + cnt l.toNat h.toNat ≤ tot) : k0_chk6 v50 (BitVec.ofNat 32 p) l h := by
  have ht := t5_trips hl hh
  have hk : ∀ k : Fin (k0_t5_loop l h).trips, p + k.val < 200 := fun k => by have := k.isLt; omega
  have hr : ∀ k : Fin (k0_t5_loop l h).trips, (Scalar.remsi (Scalar.addi (BitVec.ofNat 32 p) (Scf.iv 0#32 1#32 k)) 4#32).toNat < 4 := fun k => by
    rw [addi_iv, remsi_ofNat _ 4 (by have := hk k; omega) (by decide) (by decide)]; omega
  have hr4 : ∀ k : Fin (k0_t5_loop l h).trips,
      (Scalar.remsi (Scalar.addi (Scalar.addi (BitVec.ofNat 32 p) (Scf.iv 0#32 1#32 k)) 4#32) 4#32).toNat < 4 := fun k => by
    rw [addi_iv, show Scalar.addi (BitVec.ofNat 32 (p + k.val)) 4#32 = BitVec.ofNat 32 (p + k.val + 4) from WordCmp.addi_ofNat _ _,
      remsi_ofNat _ 4 (by have := hk k; omega) (by decide) (by decide)]; omega
  have hi : ∀ k : Fin (k0_t5_loop l h).trips, (Scalar.addi (BitVec.ofNat 32 p) (Scf.iv 0#32 1#32 k)).toNat < 200 := fun k => by
    rw [addi_iv, toNat_ofNat_small _ (by have := hk k; omega)]; exact hk k
  have hx : ∀ (k : Fin (k0_t5_loop l h).trips) (j : ℕ), j + 128 ≤ 1408 → ∀ off : Fin 3 → ℕ,
      off = ![(Scalar.remsi (Scalar.addi (BitVec.ofNat 32 p) (Scf.iv 0#32 1#32 k)) 4#32).toNat, 0, j] →
        ∀ a, off a + S1x256x128.size a ≤ S4x256x1408.size a := fun k j hj off ho => slot4_inb _ j 0 (hr k) hj off ho
  refine ⟨⟨t5_OK hl hh, fun k => list_inb _ (hi k) _ rfl, fun k => cell4_inb _ (hr k) _ rfl, fun k => ring4_inb _ (hr k) _ rfl,
    fun k hinb => .inr ⟨by decide, rfl, rfl, rfl⟩, fun k => list_inb _ (hi k) _ rfl,
    fun k => hx k 0 (by decide) _ rfl, fun k => hx k 128 (by decide) _ rfl, fun k => hx k 256 (by decide) _ rfl,
    fun k => hx k 384 (by decide) _ rfl, fun k => hx k 512 (by decide) _ rfl, fun k => hx k 640 (by decide) _ rfl,
    fun k => hx k 768 (by decide) _ rfl, fun k => hx k 896 (by decide) _ rfl, fun k => hx k 1024 (by decide) _ rfl,
    fun k => hx k 1152 (by decide) _ rfl, fun k => hx k 1280 (by decide) _ rfl,
    fun k hc => ?_, fun k hc => cell4_inb _ (hr4 k) _ rfl, fun k hc => ring4_inb _ (hr4 k) _ rfl,
    fun k hc hinb => .inr ⟨by decide, rfl, rfl, rfl⟩, t6_OK l h,
    fun k => (t6_none _ _ k).elim, fun k => (t6_none _ _ k).elim, fun k => (t6_none _ _ k).elim, fun k => (t6_none _ _ k).elim,
    fun k => (t6_none _ _ k).elim, fun k => (t6_none _ _ k).elim, fun k => (t6_none _ _ k).elim, fun k => (t6_none _ _ k).elim,
    fun k => (t6_none _ _ k).elim, fun k => (t6_none _ _ k).elim⟩,
    fun k => (t6_none _ _ k).elim, fun k => (t6_none _ _ k).elim, fun k => (t6_none _ _ k).elim, fun k => (t6_none _ _ k).elim,
    fun k => (t6_none _ _ k).elim, fun k => (t6_none _ _ k).elim, fun k => (t6_none _ _ k).elim, fun k => (t6_none _ _ k).elim,
    fun k => (t6_none _ _ k).elim, fun k => (t6_none _ _ k).elim⟩
  have e : Scalar.addi (Scalar.addi (BitVec.ofNat 32 p) (Scf.iv 0#32 1#32 k)) 4#32 = BitVec.ofNat 32 (p + k.val + 4) := by
    rw [addi_iv]; exact WordCmp.addi_ofNat _ _
  have hc' : Scalar.cmpi .ne (Scalar.extui (Scalar.cmpi .slt (Scalar.addi (Scalar.addi (BitVec.ofNat 32 p) (Scf.iv 0#32 1#32 k)) 4#32) v50) : BitVec 32) 0#32 = 1#1 := hc
  rw [e, hv, lt_cond _ _ (by have := hk k; omega) (by omega)] at hc'
  refine list_inb (p + k.val + 4) (by omega) _ ?_
  show ![(Scalar.addi (Scalar.addi (BitVec.ofNat 32 p) (Scf.iv 0#32 1#32 k)) 4#32).toNat] = _
  rw [e, toNat_ofNat_small _ (by have := hk k; omega)]

/-- The condition under which the chunk four places further on is asked for. -/
theorem cond5_iff (v50 l h : BitVec 32) (p tot : ℕ) (hv : v50 = BitVec.ofNat 32 tot) (htot : tot ≤ 200)
    (k : Fin (k0_t5_loop l h).trips) (hk : p + k.val < 200) :
    k0_cond5 v50 (BitVec.ofNat 32 p) l h k = 1#1 ↔ p + k.val + 4 < tot := by
  have e : Scalar.addi (Scalar.addi (BitVec.ofNat 32 p) (Scf.iv 0#32 1#32 k)) 4#32 = BitVec.ofNat 32 (p + k.val + 4) := by
    rw [addi_iv]; exact WordCmp.addi_ofNat _ _
  show Scalar.cmpi .ne (Scalar.extui (Scalar.cmpi .slt (Scalar.addi (Scalar.addi (BitVec.ofNat 32 p) (Scf.iv 0#32 1#32 k)) 4#32) v50) : BitVec 32) 0#32 = 1#1 ↔ _
  rw [e, hv, lt_cond _ _ (by omega) (by omega)]

/-- The first of the rows read, as a number. -/
theorem rowW_eq (n : ℕ) (hn : n < 2 ^ 31) : rowW (BitVec.ofNat 32 n) = min n 18176 := by
  unfold rowW
  show (IntOp.minsi (BitVec.ofNat 32 n) 18176#32).toNat = _
  rw [WordArith.toNat_minsi_of_lt _ _ (by rw [toNat_ofNat_small n hn]; exact hn) (by decide), toNat_ofNat_small n hn]
  rfl

theorem rowOk_of (n : ℕ) (hn : 128 ∣ n) (hn' : n ≤ 18432) : RowOk (rowW (BitVec.ofNat 32 n)) := by
  rw [rowW_eq n (by omega)]
  unfold RowOk
  constructor
  · rcases Nat.le_total n 18176 with h | h
    · rw [min_eq_left h]; exact hn
    · rw [min_eq_right h]; decide
  · omega

/-- The side conditions of reading a chunk at a word of the list. -/
theorem src_ok (w : BitVec 32) (h : RowOk (rowW w)) :
    128 ∣ (Scalar.minsi w 18176#32).toNat ∧
    (∀ a, (![(Scalar.minsi w 18176#32).toNat, 0] : Fin 2 → ℕ) a + S256x1408.size a ≤ S18432x1408.size a) ∧
    (∀ hinb, (Rect.unit (s := S18432x1408) ![(Scalar.minsi w 18176#32).toNat, 0] S256x1408.size hinb).WholeWords (EltTy.packing .fp8e4m3)) := by
  refine ⟨h.1, xsrc_inb _ h, fun _ => .inl (.inr ⟨by decide, rfl, .inl ⟨?_, ?_⟩⟩)⟩
  · show 4 ∣ (Scalar.minsi w 18176#32).toNat
    exact (by decide : 4 ∣ 128).trans h.1
  · show 4 ∣ 256; decide

theorem chk7_of (w : BitVec 32) (h : RowOk (rowW w)) : k0_chk7 w := src_ok w h
theorem chk9_of (v50 a l hi : BitVec 32) (k : Fin (k0_t5_loop l hi).trips) (w : BitVec 32) (h : RowOk (rowW w)) : k0_chk9 v50 a l hi k w :=
  ⟨fun _ => (src_ok w h).1, fun _ => (src_ok w h).2.1, fun _ => (src_ok w h).2.2⟩
theorem chk2_of (v50 w : BitVec 32) (h : RowOk (rowW w)) : k0_chk2 v50 w :=
  ⟨fun _ => (src_ok w h).1, fun _ => (src_ok w h).2.1, fun _ => (src_ok w h).2.2⟩
theorem chk3_of (v50 w : BitVec 32) (h : RowOk (rowW w)) : k0_chk3 v50 w :=
  ⟨fun _ => (src_ok w h).1, fun _ => (src_ok w h).2.1, fun _ => (src_ok w h).2.2⟩
theorem chk4_of (v50 w : BitVec 32) (h : RowOk (rowW w)) : k0_chk4 v50 w :=
  ⟨fun _ => (src_ok w h).1, fun _ => (src_ok w h).2.1, fun _ => (src_ok w h).2.2⟩
theorem chk5_of (v50 w : BitVec 32) (h : RowOk (rowW w)) : k0_chk5 v50 w :=
  ⟨fun _ => (src_ok w h).1, fun _ => (src_ok w h).2.1, fun _ => (src_ok w h).2.2⟩

/-- The two rows of scales of a chunk. -/
theorem off31_eq (w : BitVec 32) (h : RowOk (rowW w)) (r : ℕ) (hr : r < 2) :
    k0_off31 w (BitVec.ofNat 32 r) = ![rowW w / 128 + r, 0] := by
  have hlt : rowW w + 256 ≤ 18432 := h.2
  have e : k0_off31 w (BitVec.ofNat 32 r) = ![(Scalar.addi (fdiv (Scalar.minsi w 18176#32) 128#32) (BitVec.ofNat 32 r)).toNat, 0] := rfl
  rw [e, fdiv_eq _ 128 (by show rowW w < _; omega) (by decide) (by decide)]
  congr 1
  show (Scalar.addi (BitVec.ofNat 32 (rowW w / 128)) (BitVec.ofNat 32 r)).toNat = _
  rw [show Scalar.addi (BitVec.ofNat 32 (rowW w / 128)) (BitVec.ofNat 32 r) = BitVec.ofNat 32 (rowW w / 128 + r) from WordCmp.addi_ofNat _ _]
  exact toNat_ofNat_small _ (by omega)

theorem chk8_of (w : BitVec 32) (h : RowOk (rowW w)) : k0_chk8 w := by
  intro r a
  have hlt : rowW w + 256 ≤ 18432 := h.2
  have := r.isLt
  rw [off31_eq w h r.val r.isLt]
  fin_cases a
  · show rowW w / 128 + r.val + 1 ≤ 144; omega
  · show 0 + 128 ≤ 128; omega

/-- The side conditions of an expert's loop that lists its chunks. -/
theorem chk1_of (l h : BitVec 32) (p : ℕ) (hl : l.toNat ≤ 18432) (hh : h.toNat ≤ 18432) (hp : p + cnt l.toNat h.toNat ≤ 200) :
    k0_chk1 (BitVec.ofNat 32 p) l h := by
  have ht := t2_trips hl hh
  refine ⟨t2_OK hl hh, fun k => list_inb (p + k.val) (by have := k.isLt; omega) _ ?_, t3_OK l h, fun k => (t3_none _ _ k).elim⟩
  show ![(Scalar.addi (BitVec.ofNat 32 p) (Scf.iv 0#32 1#32 k)).toNat] = _
  rw [addi_iv, toNat_ofNat_small _ (by have := k.isLt; omega)]

/-- The test for the first chunks. -/
theorem cond1_iff (tot : ℕ) (h : tot ≤ 200) (a : ℕ) (ha : a < 200) :
    Scalar.cmpi .ne (Scalar.extui (Scalar.cmpi .sgt (BitVec.ofNat 32 tot) (BitVec.ofNat 32 a)) : BitVec 32) 0#32 = 1#1 ↔ a < tot := by
  have e : Scalar.cmpi .sgt (BitVec.ofNat 32 tot) (BitVec.ofNat 32 a) = Scalar.cmpi .slt (BitVec.ofNat 32 a) (BitVec.ofNat 32 tot) := by
    show IntOp.cmpi .sgt _ _ = IntOp.cmpi .slt _ _
    rw [WordCmp.cmpi_slt_eq, WordCmp.cmpi_sgt_eq]
  rw [e]
  exact lt_cond a tot (by omega) (by omega)

end Cert.Kernel.Hand
-- ==== Proof.Data.lean ====
module

public import proofs.«01_k».proof.Proof.Words
public import Idealize.ShloMosaic.Lib.CellWrites

/-! # The tables the kernel works from

The row offsets of the experts, their counts, and the list of chunks: expert `e` has `cn e` chunks, numbered from
`pre e`, and chunk `pre e + k` begins at row `base + 256 k`.  Every place of the list below the total number of
chunks is a row at which a chunk may be read. -/

@[expose] public section

set_option maxRecDepth 16384

noncomputable section

namespace Cert.Kernel.Hand

open Cert.Kernel Cert.Kernel.Gen Cert.Chunks
open Idealize.ShloMosaic Idealize.ShloMosaic.TcCoe

variable {F : FTy → Type} [FloatOps F] (c : Dev nD)

abbrev BufO (F : FTy → Type) (c : Dev nD) := Buf (Elt F) ((Memref.whole cc0_stg0_0).view.loc (c : Thread nD τ))
abbrev BufN (F : FTy → Type) (c : Dev nD) := Buf (Elt F) ((Memref.whole cc0_stg1_0).view.loc (c : Thread nD τ))
abbrev BufS (F : FTy → Type) (c : Dev nD) := Buf (Elt F) ((Memref.whole cc0_stg2_0).view.loc (c : Thread nD τ))
abbrev BufX (F : FTy → Type) (c : Dev nD) := Buf (Elt F) ((Memref.whole main_arg0).view.loc (c : Thread nD τ))
abbrev BufL (F : FTy → Type) (c : Dev nD) := Buf (Elt F) ((Memref.whole cc0_scratch4).view.loc (c : Thread nD τ))
abbrev BufC (F : FTy → Type) (c : Dev nD) := Buf (Elt F) ((Memref.whole cc0_stg3_0).view.loc (c : Thread nD τ))

/-- The only index of a table at place `e`. -/
def ix65 (e : ℕ) : S65.Idx := fun a => ⟨e % 65, by fin_cases a; exact Nat.mod_lt _ (by decide)⟩
def ix64 (e : ℕ) : S64.Idx := fun a => ⟨e % 64, by fin_cases a; exact Nat.mod_lt _ (by decide)⟩
def ix200 (e : ℕ) : S200.Idx := fun a => ⟨e % 200, by fin_cases a; exact Nat.mod_lt _ (by decide)⟩

/-- Row offset `e`. -/
def oW (fo : BufO F c) (e : ℕ) : BitVec 32 :=
  (Memref.whole cc0_stg0_0).view.read (Elt F) fo (ix65 e)
/-- Count `e`. -/
def nW (fn : BufN F c) (e : ℕ) : BitVec 32 :=
  (Memref.whole cc0_stg1_0).view.read (Elt F) fn (ix64 e)
/-- Place `j` of the list. -/
def lW (fl : BufL F c) (j : ℕ) : BitVec 32 :=
  (Memref.whole cc0_scratch4).view.read (Elt F) fl (ix200 j)

theorem oW_of (fo : BufO F c) (e : ℕ) (he : e < 65) (off : Fin 1 → ℕ) (inb) (ho : off = ![e]) :
    View.readAt (Elt F) (Memref.whole cc0_stg0_0).view (Rect.unit (s := S65) off S1.size inb).toLoadRect fo (Shape.Idx.first (numel1_S1.symm ▸ Nat.one_pos)) = oW c fo e := by
  subst ho
  rw [View.readAt_apply]
  unfold oW
  refine congrArg (a₂ := ix65 e) ((Memref.whole cc0_stg0_0).view.read (Elt F) fo) (funext fun a => Fin.ext ?_)
  fin_cases a
  have h1 := ((Shape.Idx.first (numel1_S1.symm ▸ Nat.one_pos) : S1.Idx) 0).isLt
  have h2 : ((Shape.Idx.first (numel1_S1.symm ▸ Nat.one_pos) : S1.Idx) 0).val < 1 := h1
  show e + 1 * ((Shape.Idx.first (numel1_S1.symm ▸ Nat.one_pos) : S1.Idx) 0).val = e % 65
  rw [Nat.mod_eq_of_lt he]; omega
theorem nW_of (fn : BufN F c) (e : ℕ) (he : e < 64) (off : Fin 1 → ℕ) (inb) (ho : off = ![e]) :
    View.readAt (Elt F) (Memref.whole cc0_stg1_0).view (Rect.unit (s := S64) off S1.size inb).toLoadRect fn (Shape.Idx.first (numel1_S1.symm ▸ Nat.one_pos)) = nW c fn e := by
  subst ho
  rw [View.readAt_apply]
  unfold nW
  refine congrArg (a₂ := ix64 e) ((Memref.whole cc0_stg1_0).view.read (Elt F) fn) (funext fun a => Fin.ext ?_)
  fin_cases a
  have h2 : ((Shape.Idx.first (numel1_S1.symm ▸ Nat.one_pos) : S1.Idx) 0).val < 1 := ((Shape.Idx.first (numel1_S1.symm ▸ Nat.one_pos) : S1.Idx) 0).isLt
  show e + 1 * ((Shape.Idx.first (numel1_S1.symm ▸ Nat.one_pos) : S1.Idx) 0).val = e % 64
  rw [Nat.mod_eq_of_lt he]; omega
theorem lW_of (fl : BufL F c) (e : ℕ) (he : e < 200) (off : Fin 1 → ℕ) (inb) (ho : off = ![e]) :
    View.readAt (Elt F) (Memref.whole cc0_scratch4).view (Rect.unit (s := S200) off S1.size inb).toLoadRect fl (Shape.Idx.first (numel1_S1.symm ▸ Nat.one_pos)) = lW c fl e := by
  subst ho
  rw [View.readAt_apply]
  unfold lW
  refine congrArg (a₂ := ix200 e) ((Memref.whole cc0_scratch4).view.read (Elt F) fl) (funext fun a => Fin.ext ?_)
  fin_cases a
  have h2 : ((Shape.Idx.first (numel1_S1.symm ▸ Nat.one_pos) : S1.Idx) 0).val < 1 := ((Shape.Idx.first (numel1_S1.symm ▸ Nat.one_pos) : S1.Idx) 0).isLt
  show e + 1 * ((Shape.Idx.first (numel1_S1.symm ▸ Nat.one_pos) : S1.Idx) 0).val = e % 200
  rw [Nat.mod_eq_of_lt he]; omega

/-- The list after a store. -/
theorem lW_store (fl : BufL F c) (p : ℕ) (hp : p < 200) (off : Fin 1 → ℕ) (inb : ∀ a, off a + S1.size a ≤ S200.size a) (ho : off = ![p]) (w : BitVec 32) (j : ℕ) (hj : j < 200) :
    lW c ((Memref.whole cc0_scratch4).view.writes (Elt F) fl [⟨Rect.unit (s := S200) off S1.size inb, fun _ => w⟩]) j = if j = p then w else lW c fl j := by
  subst ho
  have := View.read_writes_cons_cell (Val := Elt F) (Memref.whole cc0_scratch4).view fl inb w [] (ix200 j)
  unfold lW
  refine this.trans ?_
  have e : (ix200 j 0).val = j := Nat.mod_eq_of_lt hj
  by_cases h : j = p
  · rw [if_pos h]; exact if_pos (e.trans h)
  · rw [if_neg h]; exact if_neg (fun h' => h (e.symm.trans h'))

/-! ## Chunks -/

/-- The number of chunks of expert `e`. -/
def cn (fo : BufO F c) (e : ℕ) : ℕ := cnt (oW c fo e).toNat (oW c fo (e + 1)).toNat
/-- The number of chunks of the experts before `e`. -/
def pre (fo : BufO F c) (e : ℕ) : ℕ := ∑ i ∈ Finset.range e, cn c fo i

/-- What is asked of the row offsets. -/
structure OffOk (fo : BufO F c) : Prop where
  le : ∀ e, e ≤ 64 → (oW c fo e).toNat ≤ 18432
  mono : ∀ e, e < 64 → (oW c fo e).toNat ≤ (oW c fo (e + 1)).toNat

theorem pre_succ (fo : BufO F c) (e : ℕ) : pre c fo (e + 1) = pre c fo e + cn c fo e := Finset.sum_range_succ _ _
theorem pre_zero (fo : BufO F c) : pre c fo 0 = 0 := rfl

theorem pre_mono (fo : BufO F c) {a b : ℕ} (h : a ≤ b) : pre c fo a ≤ pre c fo b :=
  Finset.sum_le_sum_of_subset (Finset.range_subset_range.2 h)

theorem pre_bound (fo : BufO F c) (ok : OffOk c fo) : ∀ e, e ≤ 64 → 256 * pre c fo e ≤ (oW c fo e).toNat + 382 * e
  | 0, _ => by rw [pre_zero]; omega
  | e + 1, h => by
    have h1 := pre_bound fo ok e (by omega)
    have h2 := cnt_mul_le _ _ (ok.mono e (by omega))
    have h3 := ok.mono e (by omega)
    rw [pre_succ]
    unfold cn
    omega

theorem pre_le (fo : BufO F c) (ok : OffOk c fo) (e : ℕ) (he : e ≤ 64) : pre c fo e ≤ 200 := by
  have := pre_bound c fo ok e he
  have := ok.le e he
  omega

/-- Every chunk belongs to an expert. -/
theorem exists_chunk (fo : BufO F c) : ∀ e g, g < pre c fo e → ∃ i k, i < e ∧ k < cn c fo i ∧ g = pre c fo i + k
  | 0, g, h => absurd h (by rw [pre_zero]; omega)
  | e + 1, g, h => by
    by_cases hg : g < pre c fo e
    · obtain ⟨i, k, hi, hk, e1⟩ := exists_chunk fo e g hg
      exact ⟨i, k, by omega, hk, e1⟩
    · rw [pre_succ] at h
      exact ⟨e, g - pre c fo e, by omega, by omega, by omega⟩

/-- The list is right for the experts before `n`. -/
def ListOk (fo : BufO F c) (fl : BufL F c) (n : ℕ) : Prop :=
  ∀ e, e < n → ∀ k, k < cn c fo e → lW c fl (pre c fo e + k) = BitVec.ofNat 32 (base (oW c fo e).toNat + 256 * k)

theorem row_bound (l h k : ℕ) (hk : k < cnt l h) (hh : h ≤ 18432) : 128 ∣ base l + 256 * k ∧ base l + 256 * k < h := by
  unfold cnt at hk
  unfold base at *
  split at hk
  · constructor
    · omega
    · omega
  · omega

/-- Every place of the list below the total is a row at which a chunk may be read. -/
theorem list_row (fo : BufO F c) (fl : BufL F c) (ok : OffOk c fo) (hl : ListOk c fo fl 64) (g : ℕ) (hg : g < pre c fo 64) : RowOk (rowW (lW c fl g)) := by
  obtain ⟨e, k, he, hk, rfl⟩ := exists_chunk c fo 64 g hg
  rw [hl e he k hk]
  have := row_bound _ _ _ hk (ok.le (e + 1) (by omega))
  have h2 := ok.le (e + 1) (by omega)
  exact rowOk_of _ this.1 (by omega)

end Cert.Kernel.Hand

end
-- ==== Proof.Canon.lean ====
module

public import proofs.«01_k».proof.Proof.Data

/-! # A trip sees of the list only its own place -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

set_option maxHeartbeats 2000000 in
/-- A trip of the loop over an expert's chunks reads one place of the list: it leaves what it would with that word
in every place. -/
theorem step_self (c : Dev nD) (v50 arg16 : BitVec 32) (v88 v91 v133 v137 : Elt F .i32) (hw6 : k0_chk6 v50 arg16 v88 v91)
    (t4 : Fin k0_t4_loop.trips) (t5 : Fin (k0_t5_loop v88 v91).trips) (fl : BufL F c) (fs : BufS F c) (fx : BufX F c)
    (hw) (hwh) (fh) (n : ℕ) (hn : RowOk n) (h8) :
    t5_gen.sl.Hh_w6 c v50 arg16 v88 v91 v133 v137 hw6 t4 t5 fl fs fx hw hwh fh n hn h8
     = t5_gen.sl.Hh_w6 c v50 arg16 v88 v91 v133 v137 hw6 t4 t5 (fun _ => View.readAt (Elt F) (Memref.whole cc0_scratch4).view (Rect.unit (s := S200) (k0_off30 arg16 v88 v91 t5) S1.size (k0_off30_inb v50 arg16 v88 v91 hw6 t5)).toLoadRect fl (Shape.Idx.first (numel1_S1.symm ▸ Nat.one_pos))) fs fx hw hwh fh n hn h8 := by
  rfl

theorem step_const (c : Dev nD) (v50 arg16 : BitVec 32) (v88 v91 v133 v137 : Elt F .i32) (hw6 : k0_chk6 v50 arg16 v88 v91)
    (t4 : Fin k0_t4_loop.trips) (t5 : Fin (k0_t5_loop v88 v91).trips) (fl : BufL F c) (fs : BufS F c) (fx : BufX F c)
    (hw) (hwh) (fh) (n : ℕ) (hn : RowOk n) (h8) (w : BitVec 32) (e : View.readAt (Elt F) (Memref.whole cc0_scratch4).view (Rect.unit (s := S200) (k0_off30 arg16 v88 v91 t5) S1.size (k0_off30_inb v50 arg16 v88 v91 hw6 t5)).toLoadRect fl (Shape.Idx.first (numel1_S1.symm ▸ Nat.one_pos)) = w) (n' : ℕ) (en : n = n') (hn' : RowOk n')
    (h8' : k0_chk8 w) :
    t5_gen.sl.Hh_w6 c v50 arg16 v88 v91 v133 v137 hw6 t4 t5 fl fs fx hw hwh fh n hn h8
     = t5_gen.sl.Hh_w6 c v50 arg16 v88 v91 v133 v137 hw6 t4 t5 (fun _ => w) fs fx hw hwh fh n' hn' h8' := by
  subst e en
  exact step_self c v50 arg16 v88 v91 v133 v137 hw6 t4 t5 fl fs fx hw hwh fh n hn h8

end Cert.Kernel.Hand

end
-- ==== Proof.Loop5.lean ====
module

public import proofs.«01_k».proof.Proof.Canon

/-! # The loop over an expert's chunks -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-! ## The ring of row chunks -/

/-- What a slot of the ring of row chunks is in: free, or in flight with the chunk from a row. -/
abbrev XSt := Option { n : ℕ // RowOk n }

/-- A slot of the ring of row chunks in a state. -/
def xslotAt (c : Dev nD) (fx : BufX F c) (s : Fin 4) : XSt → sProp 𝕄
  | none => iprop(∃ f, xfreeAt c fx s f)
  | some p => xfly c fx s p.1 p.2

theorem xslotAt_none (c : Dev nD) (fx : BufX F c) (s : Fin 4) : xslotAt c fx s none = iprop(∃ f, xfreeAt c fx s f) := rfl
theorem xslotAt_some (c : Dev nD) (fx : BufX F c) (s : Fin 4) (n : ℕ) (hn : RowOk n) : xslotAt c fx s (some ⟨n, hn⟩) = xfly c fx s n hn := rfl

theorem xfly_congr (c : Dev nD) (fx : BufX F c) (s : Fin 4) {n n' : ℕ} (e : n = n') (hn : RowOk n) (hn' : RowOk n') :
    xfly c fx s n hn = xfly c fx s n' hn' := by subst e; rfl

instance (n : ℕ) : Decidable (RowOk n) := by unfold RowOk; infer_instance

/-- The chunk slot `s` holds when chunk `g` is next. -/
def xnum (g : ℕ) (s : Fin 4) : ℕ := g + (s.val + 4 - g % 4) % 4

/-- The states of the slots when chunk `g` is next: chunks `g … g+3` are in flight, as far as there are chunks. -/
def xst (c : Dev nD) (fl : BufL F c) (tot g : ℕ) (s : Fin 4) : XSt :=
  if h : xnum g s < tot ∧ RowOk (rowW (lW c fl (xnum g s))) then some ⟨_, h.2⟩ else none

theorem xnum_head (g : ℕ) (s : Fin 4) (h : s.val = g % 4) : xnum g s = g := by unfold xnum; omega
theorem xnum_succ_head (g : ℕ) (s : Fin 4) (h : s.val = g % 4) : xnum (g + 1) s = g + 4 := by unfold xnum; omega
theorem xnum_succ_of_ne (g : ℕ) (s : Fin 4) (h : s.val ≠ g % 4) : xnum (g + 1) s = xnum g s := by
  have := s.isLt; unfold xnum; omega

theorem xst_head (c : Dev nD) (fl : BufL F c) (tot g : ℕ) (s : Fin 4) (h : s.val = g % 4) (hg : g < tot) (hr : RowOk (rowW (lW c fl g))) :
    xst c fl tot g s = some ⟨rowW (lW c fl g), hr⟩ := by
  have e := xnum_head g s h
  unfold xst
  rw [dif_pos (by rw [e]; exact ⟨hg, hr⟩)]
  exact congrArg some (Subtype.ext (by simp only [e]))

theorem xst_succ_none (c : Dev nD) (fl : BufL F c) (tot g : ℕ) (s : Fin 4) (h : s.val = g % 4) (hg : ¬ g + 4 < tot) :
    Function.update (xst c fl tot g) s none = xst c fl tot (g + 1) := by
  funext t
  by_cases ht : t = s
  · subst ht
    rw [Function.update_self]
    unfold xst
    rw [dif_neg (by rw [xnum_succ_head g t h]; exact fun h' => hg h'.1)]
  · rw [Function.update_of_ne ht]
    have : t.val ≠ g % 4 := fun h' => ht (Fin.ext (h'.trans h.symm))
    unfold xst
    simp only [xnum_succ_of_ne g t this]

theorem xst_succ_some (c : Dev nD) (fl : BufL F c) (tot g : ℕ) (s : Fin 4) (h : s.val = g % 4) (hg : g + 4 < tot) (hr : RowOk (rowW (lW c fl (g + 4)))) :
    Function.update (xst c fl tot g) s (some ⟨rowW (lW c fl (g + 4)), hr⟩) = xst c fl tot (g + 1) := by
  funext t
  by_cases ht : t = s
  · subst ht
    rw [Function.update_self]
    have e := xnum_succ_head g t h
    unfold xst
    rw [dif_pos (by rw [e]; exact ⟨hg, hr⟩)]
    exact congrArg some (Subtype.ext (by simp only [e]))
  · rw [Function.update_of_ne ht]
    have : t.val ≠ g % 4 := fun h' => ht (Fin.ext (h'.trans h.symm))
    unfold xst
    simp only [xnum_succ_of_ne g t this]

/-! ## The block after `k` chunks -/

/-- The row of an expert's chunk `k`, as a word. -/
def rowOf (l : BitVec 32) (k : ℕ) : BitVec 32 := BitVec.ofNat 32 (base l.toNat + 256 * k)

/-- The ring of blocks as the loop over an expert's chunks leaves it after `k` trips, the expert's chunks being
numbered from `p`. -/
def hIter (c : Dev nD) (v50 : BitVec 32) (p : ℕ) (v88 v91 v133 v137 : Elt F .i32) (hw6 : k0_chk6 v50 (BitVec.ofNat 32 p) v88 v91)
    (t4 : Fin k0_t4_loop.trips) (fs : BufS F c) (fx : BufX F c)
    (hwh : (Scalar.remsi (Scf.iv 0#32 1#32 t4) 7#32).toNat < 7)
    (fh : Buf (Elt F) ((hslot (Ring.slotOfW _ hwh)).view.loc (c : Thread nD τ))) : ℕ → Buf (Elt F) ((hslot (Ring.slotOfW _ hwh)).view.loc (c : Thread nD τ))
  | 0 => fh
  | k + 1 =>
    open Classical in
    if h : ∃ (hk : k < (k0_t5_loop v88 v91).trips) (hw : (Scalar.remsi (Scalar.addi (BitVec.ofNat 32 p) (Scf.iv 0#32 1#32 k)) 4#32).toNat < 4)
        (hn : RowOk (rowW (rowOf v88 k))), k0_chk8 (View.readAt (Elt F) (Memref.whole cc0_scratch4).view (Rect.unit (s := S200) (k0_off30 (BitVec.ofNat 32 p) v88 v91 ⟨k, hk⟩) S1.size (k0_off30_inb v50 (BitVec.ofNat 32 p) v88 v91 hw6 ⟨k, hk⟩)).toLoadRect (fun _ => rowOf v88 k : BufL F c) (Shape.Idx.first (numel1_S1.symm ▸ Nat.one_pos))) then
      t5_gen.sl.Hh_w6 c v50 (BitVec.ofNat 32 p) v88 v91 v133 v137 hw6 t4 ⟨k, h.1⟩ (fun _ => rowOf v88 k) fs fx h.2.1 hwh
        (hIter c v50 p v88 v91 v133 v137 hw6 t4 fs fx hwh fh k) (rowW (rowOf v88 k)) h.2.2.1 h.2.2.2
    else fh

/-! ## The loop -/

section Loop
variable (c : Dev nD) (𝒱₀ : Variants) (v50 : BitVec 32) (p tot : ℕ) (arg15 v86 : BitVec 32) (v88 v91 v133 v137 : Elt F .i32)
  (v110 v125 : BitVec 1) (v114 v126 : BitVec 32) (hw6 : k0_chk6 v50 (BitVec.ofNat 32 p) v88 v91)
  (t4 : Fin k0_t4_loop.trips) (fl : BufL F c) (fs : BufS F c) (fx : BufX F c)
  (hwh : (Scalar.remsi (Scf.iv 0#32 1#32 t4) 7#32).toNat < 7)
  (fh : Buf (Elt F) ((hslot (Ring.slotOfW _ hwh)).view.loc (c : Thread nD τ)))

/-- What the loop holds before trip `k`. -/
def inv5 (k : ℕ) : sProp 𝕄 :=
  iprop(((Memref.whole cc0_scratch4).view.loc (c : Thread nD τ) ↦{fullShare} fl) ∗ ((Memref.whole cc0_stg2_0).view.loc (c : Thread nD τ) ↦{fullShare} fs)
    ∗ (∃ f, (Memref.whole cc0_scratch2).view.loc (c : Thread nD τ) ↦{fullShare} f) ∗ (∃ f, (Memref.whole cc0_scratch3).view.loc (c : Thread nD τ) ↦{fullShare} f)
    ∗ ((hslot (Ring.slotOfW _ hwh)).view.loc (c : Thread nD τ) ↦[(hslot (Ring.slotOfW _ hwh)).view.set]{fullShare}
        hIter c v50 p v88 v91 v133 v137 hw6 t4 fs fx hwh fh k)
    ∗ Ring.AtW (xslotAt c fx) (xst c fl tot (p + k))
    ∗ (∃ W, owes (c : Thread nD τ) 0 W))

variable (hv : v50 = BitVec.ofNat 32 tot) (htot : tot ≤ 200) (hp : p + (k0_t5_loop v88 v91).trips ≤ tot)
  (hrow : ∀ g, g < tot → RowOk (rowW (lW c fl g)))
  (hloc : ∀ k, k < (k0_t5_loop v88 v91).trips → lW c fl (p + k) = rowOf v88 k)

include hv htot hp hrow hloc in
theorem step5 (k : Fin (k0_t5_loop v88 v91).trips) :
    inv5 c v50 p tot v88 v91 v133 v137 hw6 t4 fl fs fx hwh fh k.val
      ⊢ wp frame (wpE (defs₀ (F := F)) 𝒱₀ (c : Thread nD τ) none) Set.univ
          (k0_t5_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 v50 t4 (BitVec.ofNat 32 p) arg15 v86 v88 v91 hw6 v110 v114 v125 v126 v133 v137 k ())
          (fun _ => inv5 c v50 p tot v88 v91 v133 v137 hw6 t4 fl fs fx hwh fh (k.val + 1)) := by
  have hk := k.isLt
  have e1 : Scalar.addi (BitVec.ofNat 32 p) (Scf.iv 0#32 1#32 k) = BitVec.ofNat 32 (p + k.val) := addi_iv _ _
  have e4 : Scalar.addi (Scalar.addi (BitVec.ofNat 32 p) (Scf.iv 0#32 1#32 k)) 4#32 = BitVec.ofNat 32 (p + k.val + 4) := by
    rw [e1]; exact WordCmp.addi_ofNat _ _
  have r1 : (Scalar.remsi (Scalar.addi (BitVec.ofNat 32 p) (Scf.iv 0#32 1#32 k)) 4#32).toNat = (p + k.val) % 4 := by
    rw [e1]; exact remsi_ofNat _ 4 (by omega) (by decide) (by decide)
  have r4 : (Scalar.remsi (Scalar.addi (Scalar.addi (BitVec.ofNat 32 p) (Scf.iv 0#32 1#32 k)) 4#32) 4#32).toNat = (p + k.val) % 4 := by
    rw [e4, remsi_ofNat _ 4 (by omega) (by decide) (by decide)]; omega
  have hw : (Scalar.remsi (Scalar.addi (BitVec.ofNat 32 p) (Scf.iv 0#32 1#32 k)) 4#32).toNat < 4 := by rw [r1]; omega
  have hw2 : (Scalar.remsi (Scalar.addi (Scalar.addi (BitVec.ofNat 32 p) (Scf.iv 0#32 1#32 k)) 4#32) 4#32).toNat < 4 := by rw [r4]; omega
  have heq : Ring.slotOfW (n := 4) _ hw = Ring.slotOfW _ hw2 := Fin.ext (r1.trans r4.symm)
  have hr := hrow (p + k.val) (by omega)
  have i1 : ∀ off : Fin 1 → ℕ, off = ![(Scalar.addi (BitVec.ofNat 32 p) (Scf.iv 0#32 1#32 k)).toNat] → off = ![p + k.val] := fun off ho => by
    rw [ho, e1, toNat_ofNat_small _ (by omega)]
  have w26 := lW_of c fl (p + k.val) (by omega) (k0_off26 (BitVec.ofNat 32 p) v88 v91 k) (k0_off26_inb v50 (BitVec.ofNat 32 p) v88 v91 hw6 k) (i1 _ rfl)
  have w30 := lW_of c fl (p + k.val) (by omega) (k0_off30 (BitVec.ofNat 32 p) v88 v91 k) (k0_off30_inb v50 (BitVec.ofNat 32 p) v88 v91 hw6 k) (i1 _ rfl)
  have h7 := chk7_of _ (w26 ▸ hr)
  have h8 := chk8_of _ (w30 ▸ hr)
  have hit : hIter c v50 p v88 v91 v133 v137 hw6 t4 fs fx hwh fh (k.val + 1)
      = t5_gen.sl.Hh_w6 c v50 (BitVec.ofNat 32 p) v88 v91 v133 v137 hw6 t4 k fl fs fx hw hwh
        (hIter c v50 p v88 v91 v133 v137 hw6 t4 fs fx hwh fh k.val) (rowW (lW c fl (p + k.val))) hr h8 := by
    rw [step_const c v50 (BitVec.ofNat 32 p) v88 v91 v133 v137 hw6 t4 k fl fs fx hw hwh _ _ hr h8 (rowOf v88 k.val) (w30.trans (hloc _ hk)) _ (congrArg rowW (hloc _ hk)) (hloc _ hk ▸ hr) (by rw [w30.trans (hloc _ hk)] at h8; exact h8)]
    exact dif_pos ⟨hk, hw, hloc _ hk ▸ hr, by rw [w30.trans (hloc _ hk)] at h8; exact h8⟩
  unfold inv5
  rw [hit]
  have hst := xst_head c fl tot (p + k.val) (Ring.slotOfW _ hw) r1 (by omega) hr
  rw [Ring.AtW_focusW (xslotAt c fx) (xst c fl tot (p + k.val)) _ hw, hst, xslotAt_some]
  by_cases hc : k0_cond5 v50 (BitVec.ofNat 32 p) v88 v91 k = 1#1
  · have hlt := (cond5_iff v50 v88 v91 p tot hv htot k (by omega)).1 hc
    have hr4 := hrow (p + k.val + 4) hlt
    have w43 := lW_of c fl (p + k.val + 4) (by omega) (k0_off43 (BitVec.ofNat 32 p) v88 v91 k) (k0_off43_inb v50 (BitVec.ofNat 32 p) v88 v91 hw6 k hc)
      (by show ![(Scalar.addi (Scalar.addi (BitVec.ofNat 32 p) (Scf.iv 0#32 1#32 k)) 4#32).toNat] = _
          rw [e4, toNat_ofNat_small _ (by omega)])
    have h9 := chk9_of v50 (BitVec.ofNat 32 p) v88 v91 k _ (w43 ▸ hr4)
    have hst' := xst_succ_some c fl tot (p + k.val) (Ring.slotOfW _ hw) r1 hlt hr4
    iintro ⟨Hl, Hs, ⟨%f9, H9⟩, ⟨%f10, H10⟩, Hh, ⟨Hx, Hrest⟩, ⟨%W, HO⟩⟩
    iapply (t5_true c 𝒱₀ v50 (BitVec.ofNat 32 p) arg15 v86 v88 v91 v133 v137 v110 v125 v114 v126 hw6 t4 k fl fs fx f9 f10 hw hwh hw2 heq _ _ hr W h7 h8 hc h9 (w43 ▸ hr4))
    isplitl [Hl]; · iexact Hl
    isplitl [Hs]; · iexact Hs
    isplitl [H9]; · iexact H9
    isplitl [H10]; · iexact H10
    isplitl [Hh]; · iexact Hh
    isplitl [Hx]; · iexact Hx
    isplitl [HO]; · iexact HO
    iintro ⟨Hl, Hs, H9, H10, Hh, Hx, HO⟩
    isplitl [Hl]; · iexact Hl
    isplitl [Hs]; · iexact Hs
    isplitl [H9]; · iexact H9
    isplitl [H10]; · iexact H10
    isplitl [Hh]; · iexact Hh
    isplitl [Hx Hrest]
    · rw [← Nat.add_assoc, ← hst']
      iapply (Ring.AtW_update (xslotAt c fx) (xst c fl tot (p + k.val)) (Ring.slotOfW _ hw) (some ⟨rowW (lW c fl (p + k.val + 4)), hr4⟩))
      isplitl [Hx]
      · rw [xslotAt_some, ← xfly_congr c fx _ (congrArg rowW w43) (w43 ▸ hr4) hr4]; iexact Hx
      iexact Hrest
    iexact HO
  · have hlt : ¬ p + k.val + 4 < tot := fun h => hc ((cond5_iff v50 v88 v91 p tot hv htot k (by omega)).2 h)
    have hst' := xst_succ_none c fl tot (p + k.val) (Ring.slotOfW _ hw) r1 hlt
    iintro ⟨Hl, Hs, ⟨%f9, H9⟩, ⟨%f10, H10⟩, Hh, ⟨Hx, Hrest⟩, ⟨%W, HO⟩⟩
    iapply (t5_false c 𝒱₀ v50 (BitVec.ofNat 32 p) arg15 v86 v88 v91 v133 v137 v110 v125 v114 v126 hw6 t4 k fl fs fx f9 f10 hw hwh _ _ hr W h7 h8 hc)
    isplitl [Hl]; · iexact Hl
    isplitl [Hs]; · iexact Hs
    isplitl [H9]; · iexact H9
    isplitl [H10]; · iexact H10
    isplitl [Hh]; · iexact Hh
    isplitl [Hx]; · iexact Hx
    isplitl [HO]; · iexact HO
    iintro ⟨Hl, Hs, H9, H10, Hh, Hx, HO⟩
    isplitl [Hl]; · iexact Hl
    isplitl [Hs]; · iexact Hs
    isplitl [H9]; · iexact H9
    isplitl [H10]; · iexact H10
    isplitl [Hh]; · iexact Hh
    isplitl [Hx Hrest]
    · rw [← Nat.add_assoc, ← hst']
      iapply (Ring.AtW_update (xslotAt c fx) (xst c fl tot (p + k.val)) (Ring.slotOfW _ hw) none)
      isplitl [Hx]; · rw [xslotAt_none]; iexact Hx
      iexact Hrest
    iexact HO

end Loop

end Cert.Kernel.Hand

end
-- ==== Proof.Hring.lean ====
module

public import proofs.«01_k».proof.Proof.Data

/-! # The ring of blocks and the blocks of the result -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

abbrev BufH (F : FTy → Type) (c : Dev nD) := Buf (Elt F) ((Memref.whole main_arg3).view.loc (c : Thread nD τ))
abbrev BufR (F : FTy → Type) (c : Dev nD) := Buf (Elt F) ((Memref.whole main_v1_0).view.loc (c : Thread nD τ))
/-- A block's values. -/
abbrev Blk (F : FTy → Type) := S1408x1408.Idx → Elt F .f32

/-- The corner of block `b`, spelled as the loop over the experts spells it. -/
def boff (b : ℕ) : Fin 3 → ℕ := ![(Scf.iv 0#32 1#32 b).toNat, 0, 0]

theorem boff_eq (b : ℕ) (hb : b < 64) : boff b = ![b, 0, 0] := by
  unfold boff
  rw [iv_eq, toNat_ofNat_small _ (by omega)]

theorem boff_inb (b : Fin 64) : ∀ a, boff b.val a + S1x1408x1408.size a ≤ S64x1408x1408.size a := by
  rw [boff_eq _ b.isLt]
  have := b.isLt; intro a; fin_cases a
  · show b.val + 1 ≤ 64; omega
  · show 0 + 1408 ≤ 1408; omega
  · show 0 + 1408 ≤ 1408; omega

/-- The block of the previous values at a corner. -/
def hsrcO (off : Fin 3 → ℕ) (inb : ∀ a, off a + S1x1408x1408.size a ≤ S64x1408x1408.size a) : Memref sig .tc .hbm S1408x1408 .f32 :=
  ((Memref.whole main_arg3).slice (Rect.unit (s := S64x1408x1408) off S1x1408x1408.size inb) (fun _ => rfl)).squeeze S1408x1408 squeezes_S1x1408x1408_S1408x1408
/-- Block `b` of the previous values. -/
abbrev hsrc (b : Fin 64) := hsrcO (boff b.val) (boff_inb b)
/-- Block `b` of the result. -/
def oblk (b : Fin 64) : Memref sig .tc .hbm S1408x1408 .f32 :=
  ((Memref.whole main_v1_0).slice (Rect.unit (s := S64x1408x1408) (boff b.val) S1x1408x1408.size (boff_inb b)) (fun _ => rfl)).squeeze S1408x1408 squeezes_S1x1408x1408_S1408x1408

/-- The read share of the previous values for slot `k`, on the elements `S`. -/
abbrev htok (c : Dev nD) (k : Fin 7) (S : Finset (Idx ((Memref.whole main_arg3).view.loc (c : Thread nD τ)))) (fH : BufH F c) : sProp 𝕄 :=
  (Memref.whole main_arg3).view.loc (c : Thread nD τ) ↦[S]{Transfers.shareTok fullShare 7 k} fH

/-- Slot `k` in flight with the block at a corner. -/
abbrev hrdO (c : Dev nD) (fH : BufH F c) (k : Fin 7) (off : Fin 3 → ℕ) (inb : ∀ a, off a + S1x1408x1408.size a ≤ S64x1408x1408.size a) : sProp 𝕄 :=
  iprop((∃ f, Transfers.Flight (countersEmb (U := Pipeline.UC sig nD τ)) (c : Thread nD τ) (icell k) () 247808
            iprop(((hslot k).view.loc (c : Thread nD τ) ↦[(hslot k).view.set]{fullShare}
                    (hslot k).view.writes (Elt F) f [⟨Rect.whole S1408x1408, ReadAs.same.apply ((hsrcO off inb).view.read (Elt F) fH)⟩])
              ∗ htok c k (hsrcO off inb).view.set fH))
    ∗ htok c k (Finset.univ \ (hsrcO off inb).view.set) fH)

/-- Slot `k` in flight with the values written to block `b`, which are `p`. -/
abbrev hwr (c : Dev nD) (k : Fin 7) (b : Fin 64) (p : Blk F) : sProp 𝕄 :=
  iprop(∃ (f : Buf (Elt F) ((hslot k).view.loc (c : Thread nD τ))) (g : BufR F c), ⌜(hslot k).view.read (Elt F) f = p⌝
    ∗ Transfers.Flight (countersEmb (U := Pipeline.UC sig nD τ)) (c : Thread nD τ) (ocell k) () 247808
            iprop(((oblk b).view.loc (c : Thread nD τ) ↦[(oblk b).view.set]{fullShare}
                    (oblk b).view.writes (Elt F) g [⟨Rect.whole S1408x1408, ReadAs.same.apply ((hslot k).view.read (Elt F) f)⟩])
              ∗ ((hslot k).view.loc (c : Thread nD τ) ↦[(hslot k).view.set]{fullShare} f)))

/-- What a slot of the ring of blocks is in. -/
inductive HSt where
  | free
  | rd (b : Fin 64)
  | wr (b : Fin 64)
  deriving DecidableEq

/-- A slot of the ring of blocks in a state. -/
def hslotAt (c : Dev nD) (fH : BufH F c) (OB : Fin 64 → Blk F) (s : Fin 7) : HSt → sProp 𝕄
  | .free => iprop(semVal ((c : Thread nD τ), icell s) 0 ∗ semVal ((c : Thread nD τ), ocell s) 0
      ∗ (∃ f, (hslot s).view.loc (c : Thread nD τ) ↦[(hslot s).view.set]{fullShare} f) ∗ htok c s Finset.univ fH)
  | .rd b => iprop(hrdO c fH s (boff b.val) (boff_inb b) ∗ semVal ((c : Thread nD τ), ocell s) 0)
  | .wr b => iprop(semVal ((c : Thread nD τ), icell s) 0 ∗ htok c s Finset.univ fH ∗ hwr c s b (OB b))

/-- The block slot `s` holds before trip `i`. -/
def hnum (i : ℕ) (s : Fin 7) : ℕ := (i - 3) + (s.val + 7 - (i - 3) % 7) % 7

/-- The states of the slots before trip `i`. -/
def hst (i : ℕ) (s : Fin 7) : HSt :=
  if h : hnum i s < 64 then (if hnum i s < i then .wr ⟨_, h⟩ else .rd ⟨_, h⟩) else .free

/-- What a block of the result is in. -/
inductive OSt where
  | todo
  | lent
  | done
  deriving DecidableEq

/-- A block of the result in a state. -/
def outAt (c : Dev nD) (OB : Fin 64 → Blk F) (b : Fin 64) : OSt → sProp 𝕄
  | .todo => iprop(∃ g, (oblk b).view.loc (c : Thread nD τ) ↦[(oblk b).view.set]{fullShare} g)
  | .lent => iprop(emp)
  | .done => iprop(∃ g, (oblk b).view.loc (c : Thread nD τ) ↦[(oblk b).view.set]{fullShare}
        (oblk b).view.writes (Elt F) g [⟨Rect.whole S1408x1408, ReadAs.same.apply (OB b)⟩])

/-- The states of the blocks before trip `i`. -/
def ost (i : ℕ) (b : Fin 64) : OSt := if i ≤ b.val then .todo else if i ≤ b.val + 3 then .lent else .done

def s7 (n : ℕ) : Fin 7 := ⟨n % 7, Nat.mod_lt _ (by decide)⟩

theorem hst_head : ∀ i : Fin 64, hst i.val (s7 i.val) = .rd i := by decide +kernel
theorem hst_old : ∀ i : Fin 64, ∀ h : 3 ≤ i.val, hst i.val (s7 (i.val - 3)) = .wr ⟨i.val - 3, by omega⟩ := by decide +kernel
theorem s7_ne : ∀ i : Fin 64, 3 ≤ i.val → s7 (i.val - 3) ≠ s7 i.val := by decide +kernel
theorem hst_first : ∀ i : Fin 64, i.val < 3 → Function.update (hst i.val) (s7 i.val) (.wr i) = hst (i.val + 1) := by decide +kernel
theorem hst_next : ∀ i : Fin 64, 3 ≤ i.val → ∀ h : i.val + 4 < 64,
    Function.update (Function.update (hst i.val) (s7 (i.val - 3)) (.rd ⟨i.val + 4, h⟩)) (s7 i.val) (.wr i) = hst (i.val + 1) := by decide +kernel
theorem hst_last : ∀ i : Fin 64, 3 ≤ i.val → ¬ i.val + 4 < 64 →
    Function.update (Function.update (hst i.val) (s7 (i.val - 3)) .free) (s7 i.val) (.wr i) = hst (i.val + 1) := by decide +kernel
theorem ost_head : ∀ i : Fin 64, ost i.val i = .todo := by decide +kernel
theorem ost_first : ∀ i : Fin 64, i.val < 3 → Function.update (ost i.val) i .lent = ost (i.val + 1) := by decide +kernel
theorem ost_old : ∀ i : Fin 64, ∀ h : 3 ≤ i.val, ost i.val ⟨i.val - 3, by omega⟩ = .lent := by decide +kernel
theorem ost_ne : ∀ i : Fin 64, ∀ h : 3 ≤ i.val, (⟨i.val - 3, by omega⟩ : Fin 64) ≠ i := by decide +kernel
theorem ost_next : ∀ i : Fin 64, ∀ h : 3 ≤ i.val, Function.update (Function.update (ost i.val) ⟨i.val - 3, by omega⟩ .done) i .lent = ost (i.val + 1) := by decide +kernel

/-- A slot filled with block `b`, over nothing in particular. -/
def hcan (c : Dev nD) (fH : BufH F c) (b : Fin 64) (s : Fin 7) : Buf (Elt F) ((hslot s).view.loc (c : Thread nD τ)) :=
  (hslot s).view.writes (Elt F) (hslot s).view.junk [⟨Rect.whole S1408x1408, ReadAs.same.apply ((hsrc b).view.read (Elt F) fH)⟩]

/-- A slot's cells and elements, at an equal slot. -/
theorem hfree_cast (c : Dev nD) (fH : BufH F c) {s t : Fin 7} (e : s = t) :
    iprop(semVal ((c : Thread nD τ), icell s) 0 ∗ (∃ f, (hslot s).view.loc (c : Thread nD τ) ↦[(hslot s).view.set]{fullShare} f) ∗ htok c s Finset.univ fH)
      ⊢ (iprop(semVal ((c : Thread nD τ), icell t) 0 ∗ (∃ f, (hslot t).view.loc (c : Thread nD τ) ↦[(hslot t).view.set]{fullShare} f) ∗ htok c t Finset.univ fH) : sProp 𝕄) := by
  subst e; iintro H; iexact H

theorem hsrcO_congr {off off' : Fin 3 → ℕ} (e : off = off') (inb) (inb') : hsrcO off inb = hsrcO off' inb' := by subst e; rfl
theorem hrdO_congr (c : Dev nD) (fH : BufH F c) {k k' : Fin 7} (ek : k = k') {off off' : Fin 3 → ℕ} (e : off = off') (inb) (inb') :
    hrdO c fH k off inb = hrdO c fH k' off' inb' := by subst e ek; rfl

end Cert.Kernel.Hand

end
-- ==== Proof.Blocks.lean ====
module

public import proofs.«01_k».proof.Proof.Loop5
public import proofs.«01_k».proof.Proof.Hring

/-! # The result's blocks -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

theorem t4_trips : k0_t4_loop.trips = 64 := by decide +kernel
/-- Expert `b` as a trip of the loop over the experts. -/
def t4of (b : Fin 64) : Fin k0_t4_loop.trips := ⟨b.val, t4_trips.symm ▸ b.isLt⟩
/-- A trip's expert. -/
def ofT4 (t : Fin k0_t4_loop.trips) : Fin 64 := ⟨t.val, t4_trips ▸ t.isLt⟩
theorem t4of_ofT4 (t : Fin k0_t4_loop.trips) : t4of (ofT4 t) = t := rfl

theorem hwv : ∀ t : Fin k0_t4_loop.trips, (Scalar.remsi (Scf.iv 0#32 1#32 t) 7#32).toNat = t.val % 7 := by decide +kernel
theorem hwh_of (t : Fin k0_t4_loop.trips) : (Scalar.remsi (Scf.iv 0#32 1#32 t) 7#32).toNat < 7 := by
  rw [hwv]; exact Nat.mod_lt _ (by decide)

section
variable (c : Dev nD) (fo : BufO F c) (fn : BufN F c) (fs : BufS F c) (fx : BufX F c) (fH : BufH F c) (ok : OffOk c fo)

include ok in
theorem off_lo (t : Fin k0_t4_loop.trips) : (oW c fo t.val).toNat ≤ 18432 := ok.le _ (by have := (ofT4 t).isLt; show t.val ≤ 64; exact Nat.le_of_lt this)
include ok in
theorem off_hi (t : Fin k0_t4_loop.trips) : (oW c fo (t.val + 1)).toNat ≤ 18432 := ok.le _ (by have := (ofT4 t).isLt; show t.val + 1 ≤ 64; exact this)
theorem pre_hi (t : Fin k0_t4_loop.trips) : pre c fo t.val + cn c fo t.val ≤ pre c fo 64 := by
  rw [← pre_succ]; exact pre_mono c fo (ofT4 t).isLt

include ok in
theorem hw6_of (t : Fin k0_t4_loop.trips) :
    k0_chk6 (BitVec.ofNat 32 (pre c fo 64)) (BitVec.ofNat 32 (pre c fo t.val)) (oW c fo t.val) (oW c fo (t.val + 1)) :=
  chk6_of _ _ _ _ (off_lo c fo ok t) (off_hi c fo ok t) (pre c fo 64) rfl (pre_le c fo ok 64 le_rfl) (pre_hi c fo t)

/-- The slot of a trip's block. -/
abbrev slotT (t : Fin k0_t4_loop.trips) : Fin 7 := Ring.slotOfW (Scalar.remsi (Scf.iv 0#32 1#32 t) 7#32) (hwh_of t)

/-- The slot of expert `t`'s block after `k` of its chunks. -/
def hAt (t : Fin k0_t4_loop.trips) (k : ℕ) : Buf (Elt F) ((hslot (slotT t)).view.loc (c : Thread nD τ)) :=
  hIter c (BitVec.ofNat 32 (pre c fo 64)) (pre c fo t.val) (oW c fo t.val) (oW c fo (t.val + 1)) (nW c fn t.val) (nW c fn t.val)
    (hw6_of c fo ok t) t fs fx (hwh_of t) (hcan c fH (ofT4 t) (slotT t)) k

/-- Block `b` of the result. -/
def OB (b : Fin 64) : Blk F := (hslot (slotT (t4of b))).view.read (Elt F) (hAt c fo fn fs fx fH ok (t4of b) (cn c fo b.val))

theorem hIter_congr (v50 : BitVec 32) (p : ℕ) (v88 v91 v133 v137 w88 w91 w133 w137 : Elt F .i32) (e1 : v88 = w88) (e2 : v91 = w91) (e3 : v133 = w133) (e4 : v137 = w137)
    (hw6 : k0_chk6 v50 (BitVec.ofNat 32 p) v88 v91) (hw6' : k0_chk6 v50 (BitVec.ofNat 32 p) w88 w91)
    (t4 : Fin k0_t4_loop.trips) (hwh) (fh) (k k' : ℕ) (ek : k = k') :
    hIter c v50 p v88 v91 v133 v137 hw6 t4 fs fx hwh fh k = hIter c v50 p w88 w91 w133 w137 hw6' t4 fs fx hwh fh k' := by
  subst e1 e2 e3 e4 ek; rfl

end

end Cert.Kernel.Hand

end
-- ==== Proof.Loop4.lean ====
module

public import proofs.«01_k».proof.Proof.Blocks
public import Idealize.ShloMosaic.Lib.LoopRemainder

/-! # The loop over the experts -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

theorem off20_eq : ∀ k : Fin k0_t4_loop.trips, k0_off20 k = ![k.val] := by decide +kernel
theorem off21_eq : ∀ k : Fin k0_t4_loop.trips, k0_off21 k = ![k.val + 1] := by decide +kernel
theorem off22_eq : ∀ k : Fin k0_t4_loop.trips, k0_off22 k = ![k.val] := by decide +kernel
theorem cond7_iff : ∀ k : Fin k0_t4_loop.trips, k0_cond7 k = 1#1 ↔ 3 ≤ k.val := by decide +kernel
theorem cond8_iff : ∀ k : Fin k0_t4_loop.trips, 3 ≤ k.val → (k0_cond8 k = 1#1 ↔ k.val + 4 < 64) := by decide +kernel
theorem w83 : ∀ k : Fin k0_t4_loop.trips, 3 ≤ k.val → (Scalar.remsi (Scalar.subi (Scf.iv 0#32 1#32 k) 3#32) 7#32).toNat = (k.val - 3) % 7 := by decide +kernel
theorem w86 : ∀ k : Fin k0_t4_loop.trips, 3 ≤ k.val → (Scalar.remsi (Scalar.addi (Scalar.subi (Scf.iv 0#32 1#32 k) 3#32) 7#32) 7#32).toNat = (k.val - 3) % 7 := by decide +kernel
theorem off88_eq : ∀ k : Fin k0_t4_loop.trips, k.val + 4 < 64 → k0_off88 k = boff (k.val + 4) := by decide +kernel

theorem hslotAt_free (c : Dev nD) (fH : BufH F c) (OB : Fin 64 → Blk F) (s : Fin 7) :
    hslotAt c fH OB s .free = iprop(semVal ((c : Thread nD τ), icell s) 0 ∗ semVal ((c : Thread nD τ), ocell s) 0
      ∗ (∃ f, (hslot s).view.loc (c : Thread nD τ) ↦[(hslot s).view.set]{fullShare} f) ∗ htok c s Finset.univ fH) := rfl
theorem hslotAt_rd (c : Dev nD) (fH : BufH F c) (OB : Fin 64 → Blk F) (s : Fin 7) (b : Fin 64) :
    hslotAt c fH OB s (.rd b) = iprop(hrdO c fH s (boff b.val) (boff_inb b) ∗ semVal ((c : Thread nD τ), ocell s) 0) := rfl
theorem hslotAt_wr (c : Dev nD) (fH : BufH F c) (OB : Fin 64 → Blk F) (s : Fin 7) (b : Fin 64) :
    hslotAt c fH OB s (.wr b) = iprop(semVal ((c : Thread nD τ), icell s) 0 ∗ htok c s Finset.univ fH ∗ hwr c s b (OB b)) := rfl
theorem outAt_todo (c : Dev nD) (OB : Fin 64 → Blk F) (b : Fin 64) :
    outAt c OB b .todo = iprop(∃ g, (oblk b).view.loc (c : Thread nD τ) ↦[(oblk b).view.set]{fullShare} g) := rfl
theorem outAt_done (c : Dev nD) (OB : Fin 64 → Blk F) (b : Fin 64) :
    outAt c OB b .done = iprop(∃ g, (oblk b).view.loc (c : Thread nD τ) ↦[(oblk b).view.set]{fullShare}
        (oblk b).view.writes (Elt F) g [⟨Rect.whole S1408x1408, ReadAs.same.apply (OB b)⟩]) := rfl

section
variable (c : Dev nD) (𝒱₀ : Variants) (fo : BufO F c) (fn : BufN F c) (fs : BufS F c) (fx : BufX F c) (fH : BufH F c) (ok : OffOk c fo) (fl : BufL F c)

/-- What the loop over the experts holds before trip `k`. -/
def inv4 (k : ℕ) (acc : BitVec 32) : sProp 𝕄 :=
  iprop(⌜acc = BitVec.ofNat 32 (pre c fo k)⌝
    ∗ ((Memref.whole cc0_stg0_0).view.loc (c : Thread nD τ) ↦{fullShare} fo) ∗ ((Memref.whole cc0_stg1_0).view.loc (c : Thread nD τ) ↦{fullShare} fn)
    ∗ ((Memref.whole cc0_scratch4).view.loc (c : Thread nD τ) ↦{fullShare} fl) ∗ ((Memref.whole cc0_stg2_0).view.loc (c : Thread nD τ) ↦{fullShare} fs)
    ∗ (∃ f, (Memref.whole cc0_scratch2).view.loc (c : Thread nD τ) ↦{fullShare} f) ∗ (∃ f, (Memref.whole cc0_scratch3).view.loc (c : Thread nD τ) ↦{fullShare} f)
    ∗ Ring.AtW (hslotAt c fH (OB c fo fn fs fx fH ok)) (hst k)
    ∗ Ring.AtW (outAt c (OB c fo fn fs fx fH ok)) (ost k)
    ∗ Ring.AtW (xslotAt c fx) (xst c fl (pre c fo 64) (pre c fo k))
    ∗ (∃ W, owes (c : Thread nD τ) 0 W))

set_option maxHeartbeats 2000000 in
theorem step4 (hfl : ListOk c fo fl 64) (v54 : BitVec 1) (k : Fin k0_t4_loop.trips) (acc : BitVec 32) :
    inv4 c fo fn fs fx fH ok fl k.val acc
      ⊢ wp frame (wpE (defs₀ (F := F)) 𝒱₀ (c : Thread nD τ) none) Set.univ
          (k0_t4_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 (BitVec.ofNat 32 (pre c fo 64)) v54 k acc)
          (inv4 c fo fn fs fx fH ok fl (k.val + 1)) := by
  have hk : k.val < 64 := (ofT4 k).isLt
  have w20 := oW_of c fo k.val (by omega) (k0_off20 k) (k0_off20_inb k) (off20_eq k)
  have w21 := oW_of c fo (k.val + 1) (by omega) (k0_off21 k) (k0_off21_inb k) (off21_eq k)
  have w22 := nW_of c fn k.val (by omega) (k0_off22 k) (k0_off22_inb k) (off22_eq k)
  have h6 := hw6_of c fo ok k
  rw [← w20, ← w21] at h6
  have es : s7 k.val = slotT k := Fin.ext (hwv k).symm
  have hh := hst_head (ofT4 k)
  have ho := ost_head (ofT4 k)
  unfold inv4
  rw [Ring.AtW_focus (hslotAt c fH (OB c fo fn fs fx fH ok)) (hst k.val) (slotT k), ← es,
    show hst k.val (s7 k.val) = _ from hh, es, hslotAt_rd, Ring.AtW_focus (outAt c (OB c fo fn fs fx fH ok)) (ost k.val) (ofT4 k),
    show ost k.val (ofT4 k) = _ from ho, outAt_todo]
  iintro ⟨%hacc, Ho, Hn, Hl, Hs, ⟨%f9, H9⟩, ⟨%f10, H10⟩, ⟨⟨⟨⟨%f0, Hfl⟩, Htk⟩, Hoc⟩, HRr⟩, ⟨⟨%g0, Hg⟩, HUr⟩, HX, ⟨%W, HO⟩⟩
  subst hacc
  sl_unfold [k0_t4_body]
  sl_exec
  have r0 : step4.sl.r c fo k = oW c fo k.val := w20
  have r1 : step4.sl.r_1 c fo k = oW c fo (k.val + 1) := w21
  have r2 : step4.sl.r_2 c fn k = nW c fn k.val := w22
  have htr : (k0_t5_loop (step4.sl.r c fo k) (step4.sl.r_1 c fo k)).trips = cn c fo k.val := by
    rw [r0, r1]; exact t5_trips (off_lo c fo ok k) (off_hi c fo ok k)
  have hpt : pre c fo k.val + (k0_t5_loop (step4.sl.r c fo k) (step4.sl.r_1 c fo k)).trips ≤ pre c fo 64 := by
    rw [htr]; exact pre_hi c fo k
  have hrow : ∀ g, g < pre c fo 64 → RowOk (rowW (lW c fl g)) := list_row c fo fl ok hfl
  have hloc : ∀ j, j < (k0_t5_loop (step4.sl.r c fo k) (step4.sl.r_1 c fo k)).trips → lW c fl (pre c fo k.val + j) = rowOf (step4.sl.r c fo k) j := by
    intro j hj
    rw [htr] at hj
    rw [r0]
    exact hfl k.val hk j hj
  ihave Hh := (Entails.of_eq (Ring.pointsTo_whole_rebase (hslot (slotT k)) _ (hslot (slotT k)).view.junk _ fullShare)) $$ Hfl_dst
  sl_for (fun j (_ : Unit) => inv5 c (BitVec.ofNat 32 (pre c fo 64)) (pre c fo k.val) (pre c fo 64) (step4.sl.r c fo k) (step4.sl.r_1 c fo k) (step4.sl.r_2 c fn k) (step4.sl.r_2 c fn k)
    h6 k fl fs fx (hwh_of k) (hcan c fH (ofT4 k) (slotT k)) j) $$ [Hl Hs H9 H10 Hh HX HO]
  · rintro j ⟨⟩
    unfold step4.sl.prog.body_1
    have h6' : k0_chk6 (BitVec.ofNat 32 (pre c fo 64)) (BitVec.ofNat 32 (pre c fo k.val)) (step4.sl.r c fo k) (step4.sl.r_1 c fo k) := h6
    have key := step5 c 𝒱₀ (BitVec.ofNat 32 (pre c fo 64)) (pre c fo k.val) (pre c fo 64) (step4.sl.arg15 k) (step4.sl.v86 k) (step4.sl.r c fo k) (step4.sl.r_1 c fo k) (step4.sl.r_2 c fn k) (step4.sl.r_2 c fn k)
      (step4.sl.v110 c fo k) (step4.sl.v125 c fo k) (step4.sl.v114 c fo k) (step4.sl.v126 c fo k) h6' k fl fs fx (hwh_of k) (hcan c fH (ofT4 k) (slotT k)) rfl (pre_le c fo ok 64 le_rfl) hpt hrow hloc j
    with_reducible exact key
  · unfold inv5
    isplitl [Hl]; · iexact Hl
    isplitl [Hs]; · iexact Hs
    isplitl [H9]; · iexists f9; iexact H9
    isplitl [H10]; · iexists f10; iexact H10
    isplitl [Hh]; · iexact Hh
    isplitl [HX]; · iexact HX
    iexists _; iexact HO
  unfold inv5
  iintro %_ ⟨Hl, Hs, ⟨%f9, H9⟩, ⟨%f10, H10⟩, Hh, HX, ⟨%W, HO⟩⟩
  have hfin : (hslot (slotT k)).view.read (Elt F) (hIter c (BitVec.ofNat 32 (pre c fo 64)) (pre c fo k.val) (step4.sl.r c fo k) (step4.sl.r_1 c fo k) (step4.sl.r_2 c fn k) (step4.sl.r_2 c fn k)
      h6 k fs fx (hwh_of k) (hcan c fH (ofT4 k) (slotT k)) (k0_t5_loop (step4.sl.r c fo k) (step4.sl.r_1 c fo k)).trips) = OB c fo fn fs fx fH ok (ofT4 k) := by
    rw [hIter_congr c fs fx _ _ _ _ _ _ _ _ _ _ r0 r1 r2 r2 h6 (hw6_of c fo ok k) k (hwh_of k) _ _ _ htr]
    rfl
  have hpx : pre c fo k.val + (k0_t5_loop (step4.sl.r c fo k) (step4.sl.r_1 c fo k)).trips = pre c fo (k.val + 1) := by
    rw [htr, pre_succ]
  have hacc : Scalar.addi (BitVec.ofNat 32 (pre c fo k.val)) (cntW (oW c fo k.val) (oW c fo (k.val + 1))) = BitVec.ofNat 32 (pre c fo (k.val + 1)) := by
    rw [cntW_eq _ _ (off_lo c fo ok k) (off_hi c fo ok k), pre_succ]
    exact WordCmp.addi_ofNat _ _
  by_cases h7 : k0_cond7 k = 1#1
  · have hk3 := (cond7_iff k).1 h7
    have hw3 : (Scalar.remsi (Scalar.subi (Scf.iv 0#32 1#32 k) 3#32) 7#32).toNat < 7 := by rw [w83 k hk3]; exact Nat.mod_lt _ (by decide)
    have e3 : s7 (k.val - 3) = Ring.slotOfW (Scalar.remsi (Scalar.subi (Scf.iv 0#32 1#32 k) 3#32) 7#32) hw3 := Fin.ext (w83 k hk3).symm
    have n3 : Ring.slotOfW (Scalar.remsi (Scalar.subi (Scf.iv 0#32 1#32 k) 3#32) 7#32) hw3 ≠ slotT k := by rw [← e3, ← es]; exact s7_ne (ofT4 k) hk3
    ihave HR3 := (Entails.of_eq (Ring.restW_focus (hslotAt c fH (OB c fo fn fs fx fH ok)) (hst k.val) (slotT k) _ n3)) $$ HRr
    ihave HU3 := (Entails.of_eq (Ring.restW_focus (outAt c (OB c fo fn fs fx fH ok)) (ost k.val) (ofT4 k) _ (ost_ne (ofT4 k) hk3))) $$ HUr
    rw [← e3, show hst k.val (s7 (k.val - 3)) = _ from hst_old (ofT4 k) hk3, e3, hslotAt_wr]
    icases HR3 with ⟨⟨Hi3, Ht3, ⟨%f3, %g3, %hf3, Hf3⟩⟩, HR3⟩
    icases HU3 with ⟨-, HU3⟩
    sl_exec
    ihave HK : hslotAt c fH (OB c fo fn fs fx fH ok) (slotT k) (.wr (ofT4 k)) $$ [Hfl Htk Hoc]
    · rw [hslotAt_wr]
      isplitl [Hfl]; · iexact Hfl
      isplitl [Htk]; · iexact Htk
      iexists _; iexists _
      isplitr; rotate_left
      · iexact Hoc
      · ipureintro; exact hfin
    by_cases h8 : k0_cond8 k = 1#1
    · have hk4 := (cond8_iff k hk3).1 h8
      have hw6' : (Scalar.remsi (Scalar.addi (Scalar.subi (Scf.iv 0#32 1#32 k) 3#32) 7#32) 7#32).toNat < 7 := by rw [w86 k hk3]; exact Nat.mod_lt _ (by decide)
      have e6 : s7 (k.val - 3) = Ring.slotOfW (Scalar.remsi (Scalar.addi (Scalar.subi (Scf.iv 0#32 1#32 k) 3#32) 7#32) 7#32) hw6' := Fin.ext (w86 k hk3).symm
      ihave HF := (hfree_cast c fH (e3.symm.trans e6)) $$ [Hi3 Ht3 Hf3_src]
      · isplitl [Hi3]; · iexact Hi3
        isplitl [Hf3_src]; · iexists f3; iexact Hf3_src
        iexact Ht3
      icases HF with ⟨Hi3, ⟨%f4, Hs3⟩, Ht3⟩
      sl_exec
      sl_step
      isplitr
      · ipureintro
        have e4 : Scalar.addi (BitVec.ofNat 32 (pre c fo k.val)) (cntW (step4.sl.r c fo k) (step4.sl.r_1 c fo k)) = BitVec.ofNat 32 (pre c fo (k.val + 1)) := by
          rw [r0, r1]; exact hacc
        exact e4
      isplitl [Ho]; · iexact Ho
      isplitl [Hn]; · iexact Hn
      isplitl [Hl]; · iexact Hl
      isplitl [Hs]; · iexact Hs
      isplitl [H9]; · iexists f9; iexact H9
      isplitl [H10]; · iexists f10; iexact H10
      isplitl [HR3 Hi3 Ht3 Hf3 HK]
      · rw [show hst (k.val + 1) = Function.update (Function.update (hst k.val) (s7 (k.val - 3)) (.rd ⟨k.val + 4, hk4⟩)) (s7 k.val) (.wr (ofT4 k)) from (hst_next (ofT4 k) hk3 hk4).symm, es, e3]
        iapply (Ring.AtW_update (hslotAt c fH (OB c fo fn fs fx fH ok)) _ (slotT k) (.wr (ofT4 k)))
        isplitr [HR3 Hi3 Ht3 Hf3]
        · iexact HK
        · iapply (Ring.restW_update₂ (hslotAt c fH (OB c fo fn fs fx fH ok)) (hst k.val) (slotT k) _ n3 (.rd ⟨k.val + 4, hk4⟩))
          isplitr [HR3]
          · rw [hslotAt_rd]
            isplitr [Hf3]
            · rw [hrdO_congr c fH (e3.symm.trans e6) (off88_eq k hk4).symm _ (k0_off88_inb k (by assumption) (by assumption))]
              isplitl [Hi3]
              · iexists f4; iexact Hi3
              · iexact Ht3
            · iexact Hf3
          · iexact HR3
      isplitl [HU3 Hf3_dst]
      · rw [show ost (k.val + 1) = Function.update (Function.update (ost k.val) ⟨k.val - 3, by omega⟩ .done) (ofT4 k) .lent from (ost_next (ofT4 k) hk3).symm]
        iapply (Ring.AtW_update (outAt c (OB c fo fn fs fx fH ok)) _ (ofT4 k) .lent)
        isplitr [HU3 Hf3_dst]
        · iempintro
        · iapply (Ring.restW_update₂ (outAt c (OB c fo fn fs fx fH ok)) (ost k.val) (ofT4 k) _ (ost_ne (ofT4 k) hk3) .done)
          isplitr [HU3]
          · rw [outAt_done]; iexists g3; rw [← hf3]; iexact Hf3_dst
          · iexact HU3
      isplitl [HX]
      · rw [show pre c fo (k.val + 1) = _ from hpx.symm]; iexact HX
      iexists _; iexact HO
    · have hk4 : ¬ k.val + 4 < 64 := fun h => h8 ((cond8_iff k hk3).2 h)
      sl_exec
      sl_step
      isplitr
      · ipureintro
        have e4 : Scalar.addi (BitVec.ofNat 32 (pre c fo k.val)) (cntW (step4.sl.r c fo k) (step4.sl.r_1 c fo k)) = BitVec.ofNat 32 (pre c fo (k.val + 1)) := by
          rw [r0, r1]; exact hacc
        exact e4
      isplitl [Ho]; · iexact Ho
      isplitl [Hn]; · iexact Hn
      isplitl [Hl]; · iexact Hl
      isplitl [Hs]; · iexact Hs
      isplitl [H9]; · iexists f9; iexact H9
      isplitl [H10]; · iexists f10; iexact H10
      isplitl [HR3 Hi3 Ht3 Hf3 Hf3_src HK]
      · rw [show hst (k.val + 1) = Function.update (Function.update (hst k.val) (s7 (k.val - 3)) .free) (s7 k.val) (.wr (ofT4 k)) from (hst_last (ofT4 k) hk3 hk4).symm, es, e3]
        iapply (Ring.AtW_update (hslotAt c fH (OB c fo fn fs fx fH ok)) _ (slotT k) (.wr (ofT4 k)))
        isplitr [HR3 Hi3 Ht3 Hf3 Hf3_src]
        · iexact HK
        · iapply (Ring.restW_update₂ (hslotAt c fH (OB c fo fn fs fx fH ok)) (hst k.val) (slotT k) _ n3 .free)
          isplitr [HR3]
          · rw [hslotAt_free]
            isplitl [Hi3]; · iexact Hi3
            isplitl [Hf3]; · iexact Hf3
            isplitl [Hf3_src]; · iexists f3; iexact Hf3_src
            iexact Ht3
          · iexact HR3
      isplitl [HU3 Hf3_dst]
      · rw [show ost (k.val + 1) = Function.update (Function.update (ost k.val) ⟨k.val - 3, by omega⟩ .done) (ofT4 k) .lent from (ost_next (ofT4 k) hk3).symm]
        iapply (Ring.AtW_update (outAt c (OB c fo fn fs fx fH ok)) _ (ofT4 k) .lent)
        isplitr [HU3 Hf3_dst]
        · iempintro
        · iapply (Ring.restW_update₂ (outAt c (OB c fo fn fs fx fH ok)) (ost k.val) (ofT4 k) _ (ost_ne (ofT4 k) hk3) .done)
          isplitr [HU3]
          · rw [outAt_done]; iexists g3; rw [← hf3]; iexact Hf3_dst
          · iexact HU3
      isplitl [HX]
      · rw [show pre c fo (k.val + 1) = _ from hpx.symm]; iexact HX
      iexists _; iexact HO
  · have hk3 : k.val < 3 := by
      by_contra h; exact h7 ((cond7_iff k).2 (by omega))
    sl_exec
    sl_step
    isplitr
    · ipureintro
      have e4 : Scalar.addi (BitVec.ofNat 32 (pre c fo k.val)) (cntW (step4.sl.r c fo k) (step4.sl.r_1 c fo k)) = BitVec.ofNat 32 (pre c fo (k.val + 1)) := by
        rw [r0, r1]; exact hacc
      exact e4
    isplitl [Ho]; · iexact Ho
    isplitl [Hn]; · iexact Hn
    isplitl [Hl]; · iexact Hl
    isplitl [Hs]; · iexact Hs
    isplitl [H9]; · iexists f9; iexact H9
    isplitl [H10]; · iexists f10; iexact H10
    isplitl [HRr Htk Hfl Hoc]
    · rw [show hst (k.val + 1) = Function.update (hst k.val) (s7 k.val) (.wr (ofT4 k)) from (hst_first (ofT4 k) hk3).symm, es]
      iapply (Ring.AtW_update (hslotAt c fH (OB c fo fn fs fx fH ok)) (hst k.val) (slotT k) (.wr (ofT4 k)))
      isplitr [HRr]
      · rw [hslotAt_wr]
        isplitl [Hfl]; · iexact Hfl
        isplitl [Htk]; · iexact Htk
        iexists _; iexists _
        isplitr; rotate_left
        · iexact Hoc
        · ipureintro; exact hfin
      · iexact HRr
    isplitl [HUr]
    · rw [show ost (k.val + 1) = Function.update (ost k.val) (ofT4 k) .lent from (ost_first (ofT4 k) hk3).symm]
      iapply (Ring.AtW_update (outAt c (OB c fo fn fs fx fH ok)) (ost k.val) (ofT4 k) .lent)
      isplitr [HUr]
      · iempintro
      · iexact HUr
    isplitl [HX]
    · rw [show pre c fo (k.val + 1) = _ from hpx.symm]; iexact HX
    iexists _; iexact HO
end

end Cert.Kernel.Hand

end
-- ==== Proof.Starts.lean ====
module

public import proofs.«01_k».proof.Proof.Loop4

/-! # Before the loop over the experts, and after it: the states of the rings -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-- The states of the slots of blocks after `n` reads have been started. -/
def hst0 (n : ℕ) (s : Fin 7) : HSt := if s.val < n then .rd ⟨s.val, by omega⟩ else .free

theorem hst0_at : ∀ j : Fin 7, hst0 j.val j = .free := by decide +kernel
theorem hst0_next : ∀ j : Fin 7, Function.update (hst0 j.val) j (.rd ⟨j.val, by omega⟩) = hst0 (j.val + 1) := by decide +kernel
theorem hst0_seven : hst0 7 = hst 0 := by decide +kernel

theorem hst_out : ∀ m : Fin 3, hst (64 + m.val) (s7 (61 + m.val)) = .wr ⟨61 + m.val, by omega⟩ := by decide +kernel
theorem hst_out_next : ∀ m : Fin 3, Function.update (hst (64 + m.val)) (s7 (61 + m.val)) .free = hst (64 + m.val + 1) := by decide +kernel
theorem hst_end : hst 67 = fun _ => .free := by decide +kernel
theorem ost_out : ∀ m : Fin 3, ost (64 + m.val) ⟨61 + m.val, by omega⟩ = .lent := by decide +kernel
theorem ost_out_next : ∀ m : Fin 3, Function.update (ost (64 + m.val)) ⟨61 + m.val, by omega⟩ .done = ost (64 + m.val + 1) := by decide +kernel
theorem ost_end : ost 67 = fun _ => .done := by decide +kernel
theorem ost_zero : ost 0 = fun _ => .todo := by decide +kernel

section
variable (c : Dev nD) (fH : BufH F c) (OB : Fin 64 → Blk F)

/-- What is kept aside while the read into slot `j` is started. -/
def hkeep (j : Fin 7) : sProp 𝕄 := iprop(semVal ((c : Thread nD τ), ocell j) 0 ∗ Ring.restW (hslotAt c fH OB) (hst0 j.val) j)

theorem hopen (j : Fin 7) (n : ℕ) (hn : n = j.val) (w : BitVec 32) (hw : w.toNat < 7) (e : w.toNat = j.val) :
    Ring.AtW (hslotAt c fH OB) (hst0 n)
      ⊢ iprop((semVal ((c : Thread nD τ), icell (Ring.slotOfW w hw)) 0
          ∗ (∃ f, (hslot (Ring.slotOfW w hw)).view.loc (c : Thread nD τ) ↦[(hslot (Ring.slotOfW w hw)).view.set]{fullShare} f)
          ∗ htok c (Ring.slotOfW w hw) Finset.univ fH) ∗ hkeep c fH OB j) := by
  subst hn
  have es : Ring.slotOfW w hw = j := Fin.ext e
  rw [es, Ring.AtW_focus (hslotAt c fH OB) (hst0 j.val) j, hst0_at, hslotAt_free]
  unfold hkeep
  iintro ⟨⟨H1, H2, H3, H4⟩, H5⟩
  isplitl [H1 H3 H4]
  · isplitl [H1]; · iexact H1
    isplitl [H3]; · iexact H3
    iexact H4
  isplitl [H2]; · iexact H2
  iexact H5

theorem hclose (j : Fin 7) (n : ℕ) (hn : n = j.val + 1) (w : BitVec 32) (hw : w.toNat < 7) (e : w.toNat = j.val) (off : Fin 3 → ℕ) (inb) (ho : off = boff j.val) :
    iprop(hrdO c fH (Ring.slotOfW w hw) off inb ∗ hkeep c fH OB j) ⊢ Ring.AtW (hslotAt c fH OB) (hst0 n) := by
  subst hn
  have es : Ring.slotOfW w hw = j := Fin.ext e
  rw [hrdO_congr c fH es ho inb (boff_inb ⟨j.val, by omega⟩), ← hst0_next]
  unfold hkeep
  iintro ⟨H1, H2, H3⟩
  iapply (Ring.AtW_update (hslotAt c fH OB) (hst0 j.val) j (.rd _))
  isplitr [H3]
  · rw [hslotAt_rd]
    isplitl [H1]; · iexact H1
    iexact H2
  · iexact H3

/-- What is kept aside while the last writes are waited for. -/
def wkeep (m : Fin 3) : sProp 𝕄 := iprop(semVal ((c : Thread nD τ), icell (s7 (61 + m.val))) 0 ∗ htok c (s7 (61 + m.val)) Finset.univ fH
  ∗ Ring.restW (hslotAt c fH OB) (hst (64 + m.val)) (s7 (61 + m.val)))

theorem wopen (m : Fin 3) (n : ℕ) (hn : n = 64 + m.val) (b : Fin 64) (hb : b = ⟨61 + m.val, by omega⟩) (w : BitVec 32) (hw : w.toNat < 7) (e : w.toNat = (61 + m.val) % 7) :
    Ring.AtW (hslotAt c fH OB) (hst n)
      ⊢ iprop(hwr c (Ring.slotOfW w hw) b (OB b) ∗ wkeep c fH OB m) := by
  subst hn hb
  have es : Ring.slotOfW w hw = s7 (61 + m.val) := Fin.ext e
  rw [es, Ring.AtW_focus (hslotAt c fH OB) (hst (64 + m.val)) (s7 (61 + m.val)), hst_out, hslotAt_wr]
  unfold wkeep
  iintro ⟨⟨H1, H2, H3⟩, H5⟩
  isplitl [H3]; · iexact H3
  isplitl [H1]; · iexact H1
  isplitl [H2]; · iexact H2
  iexact H5

theorem wclose (m : Fin 3) (n : ℕ) (hn : n = 64 + m.val + 1) (w : BitVec 32) (hw : w.toNat < 7) (e : w.toNat = (61 + m.val) % 7) :
    iprop(semVal ((c : Thread nD τ), ocell (Ring.slotOfW w hw)) 0
        ∗ (∃ f, (hslot (Ring.slotOfW w hw)).view.loc (c : Thread nD τ) ↦[(hslot (Ring.slotOfW w hw)).view.set]{fullShare} f) ∗ wkeep c fH OB m)
      ⊢ Ring.AtW (hslotAt c fH OB) (hst n) := by
  subst hn
  have es : Ring.slotOfW w hw = s7 (61 + m.val) := Fin.ext e
  rw [es, ← hst_out_next]
  unfold wkeep
  iintro ⟨H1, H2, H3, H4, H5⟩
  iapply (Ring.AtW_update (hslotAt c fH OB) (hst (64 + m.val)) (s7 (61 + m.val)) .free)
  isplitr [H5]
  · rw [hslotAt_free]
    isplitl [H3]; · iexact H3
    isplitl [H1]; · iexact H1
    isplitl [H2]; · iexact H2
    iexact H4
  · iexact H5

theorem wout (m : Fin 3) (n n' : ℕ) (hn : n = 64 + m.val) (hn' : n' = 64 + m.val + 1) (b : Fin 64) (hb : b = ⟨61 + m.val, by omega⟩) (g : BufR F c) (p : Blk F) (hp : p = OB b) :
    iprop(Ring.AtW (outAt c OB) (ost n) ∗ ((oblk b).view.loc (c : Thread nD τ) ↦[(oblk b).view.set]{fullShare}
        (oblk b).view.writes (Elt F) g [⟨Rect.whole S1408x1408, ReadAs.same.apply p⟩]))
      ⊢ Ring.AtW (outAt c OB) (ost n') := by
  subst hn hn' hb
  subst hp
  rw [← ost_out_next, Ring.AtW_focus (outAt c OB) (ost (64 + m.val)) ⟨61 + m.val, by omega⟩]
  iintro ⟨⟨-, H1⟩, H2⟩
  iapply (Ring.AtW_update (outAt c OB) (ost (64 + m.val)) _ .done)
  isplitr [H1]
  · rw [outAt_done]; iexists g; iexact H2
  · iexact H1

end

section
variable (c : Dev nD) (fx : BufX F c) (fl : BufL F c) (tot : ℕ)

/-- The states of the slots of row chunks after the first `n` have been seen to. -/
def xs (n : ℕ) (s : Fin 4) : XSt := if s.val < n then xst c fl tot 0 s else none

theorem xs_zero : xs c fl tot 0 = fun _ => none := by
  funext s; exact if_neg (Nat.not_lt_zero _)
theorem xs_four : xs c fl tot 4 = xst c fl tot 0 := by
  funext s; exact if_pos s.isLt
theorem xs_stop (n : ℕ) (h : tot ≤ n) : xs c fl tot n = xst c fl tot 0 := by
  funext s
  unfold xs
  by_cases hs : s.val < n
  · rw [if_pos hs]
  · rw [if_neg hs]
    unfold xst
    rw [dif_neg]
    intro h'
    have := h'.1
    unfold xnum at this
    omega
theorem xnum_zero (s : Fin 4) : xnum 0 s = s.val := by have := s.isLt; unfold xnum; omega
theorem xs_skip (j : Fin 4) (n n' : ℕ) (hn : n = j.val) (hn' : n' = j.val + 1) (h : ¬ n < tot) : xs c fl tot n = xs c fl tot n' := by
  subst hn hn'
  funext s
  unfold xs
  by_cases hs : s.val < j.val
  · rw [if_pos hs, if_pos (by omega)]
  · rw [if_neg hs]
    by_cases he : s.val < j.val + 1
    · rw [if_pos he]
      unfold xst
      rw [dif_neg]
      rw [xnum_zero]
      intro h'; exact h (by have := h'.1; omega)
    · rw [if_neg he]
theorem xs_next (j : Fin 4) (h : j.val < tot) (hr : RowOk (rowW (lW c fl j.val))) :
    Function.update (xs c fl tot j.val) j (some ⟨rowW (lW c fl j.val), hr⟩) = xs c fl tot (j.val + 1) := by
  funext s
  by_cases hs : s = j
  · subst hs
    rw [Function.update_self]
    unfold xs xst
    have e := xnum_zero s
    rw [if_pos (by omega), dif_pos (by rw [e]; exact ⟨h, hr⟩)]
    exact congrArg some (Subtype.ext (by simp only [e]))
  · rw [Function.update_of_ne hs]
    have hs' : s.val ≠ j.val := fun h' => hs (Fin.ext h')
    unfold xs
    by_cases h1 : s.val < j.val
    · rw [if_pos h1, if_pos (by omega)]
    · rw [if_neg h1, if_neg (by omega)]

theorem c1_iff (h : tot ≤ 200) : k0_cond1 (BitVec.ofNat 32 tot) = 1#1 ↔ 0 < tot := cond1_iff tot h 0 (by decide)
theorem c2_iff (h : tot ≤ 200) : k0_cond2 (BitVec.ofNat 32 tot) = 1#1 ↔ 1 < tot := cond1_iff tot h 1 (by decide)
theorem c3_iff (h : tot ≤ 200) : k0_cond3 (BitVec.ofNat 32 tot) = 1#1 ↔ 2 < tot := cond1_iff tot h 2 (by decide)
theorem c4_iff (h : tot ≤ 200) : k0_cond4 (BitVec.ofNat 32 tot) = 1#1 ↔ 3 < tot := cond1_iff tot h 3 (by decide)
theorem c1_stop (h : tot ≤ 200) (hc : ¬ k0_cond1 (BitVec.ofNat 32 tot) = 1#1) : tot ≤ 0 := Nat.le_of_not_lt fun h' => hc ((c1_iff tot h).2 h')
theorem c1_not (h : tot ≤ 200) (hc : tot ≤ 0) : ¬ k0_cond1 (BitVec.ofNat 32 tot) = 1#1 := fun h' => Nat.not_lt.2 hc ((c1_iff tot h).1 h')
theorem c2_stop (h : tot ≤ 200) (hc : ¬ k0_cond2 (BitVec.ofNat 32 tot) = 1#1) : tot ≤ 1 := Nat.le_of_not_lt fun h' => hc ((c2_iff tot h).2 h')
theorem c2_not (h : tot ≤ 200) (hc : tot ≤ 1) : ¬ k0_cond2 (BitVec.ofNat 32 tot) = 1#1 := fun h' => Nat.not_lt.2 hc ((c2_iff tot h).1 h')
theorem c3_stop (h : tot ≤ 200) (hc : ¬ k0_cond3 (BitVec.ofNat 32 tot) = 1#1) : tot ≤ 2 := Nat.le_of_not_lt fun h' => hc ((c3_iff tot h).2 h')
theorem c3_not (h : tot ≤ 200) (hc : tot ≤ 2) : ¬ k0_cond3 (BitVec.ofNat 32 tot) = 1#1 := fun h' => Nat.not_lt.2 hc ((c3_iff tot h).1 h')
theorem c4_stop (h : tot ≤ 200) (hc : ¬ k0_cond4 (BitVec.ofNat 32 tot) = 1#1) : tot ≤ 3 := Nat.le_of_not_lt fun h' => hc ((c4_iff tot h).2 h')
theorem c4_not (h : tot ≤ 200) (hc : tot ≤ 3) : ¬ k0_cond4 (BitVec.ofNat 32 tot) = 1#1 := fun h' => Nat.not_lt.2 hc ((c4_iff tot h).1 h')

/-- What is kept aside while the read into slot `j` is started. -/
def xkeep (j : Fin 4) : sProp 𝕄 := Ring.restW (xslotAt c fx) (xs c fl tot j.val) j

theorem xopen (j : Fin 4) (n : ℕ) (hn : n = j.val) (w : BitVec 32) (hw : w.toNat < 4) (e : w.toNat = j.val) :
    Ring.AtW (xslotAt c fx) (xs c fl tot n) ⊢ iprop((∃ f, xfreeAt c fx (Ring.slotOfW w hw) f) ∗ xkeep c fx fl tot j) := by
  subst hn
  have es : Ring.slotOfW w hw = j := Fin.ext e
  rw [es, Ring.AtW_focus (xslotAt c fx) (xs c fl tot j.val) j, show xs c fl tot j.val j = none from if_neg (Nat.lt_irrefl _), xslotAt_none]
  unfold xkeep
  iintro H; iexact H

theorem xclose (j : Fin 4) (n n' : ℕ) (hn : n = j.val) (hn' : n' = j.val + 1) (w : BitVec 32) (hw : w.toNat < 4) (e : w.toNat = j.val) (h : n < tot) (v : BitVec 32) (hv : v = lW c fl n) (hr : RowOk (rowW v)) :
    iprop(xfly c fx (Ring.slotOfW w hw) (rowW v) hr ∗ xkeep c fx fl tot j) ⊢ Ring.AtW (xslotAt c fx) (xs c fl tot n') := by
  subst hn hn'
  have es : Ring.slotOfW w hw = j := Fin.ext e
  subst hv
  rw [es, ← xs_next c fl tot j h hr]
  unfold xkeep
  iintro ⟨H1, H2⟩
  iapply (Ring.AtW_update (xslotAt c fx) (xs c fl tot j.val) j (some ⟨_, hr⟩))
  isplitr [H2]
  · rw [xslotAt_some]; iexact H1
  · iexact H2

theorem xst_end (g : ℕ) (h : tot ≤ g) : xst c fl tot g = fun _ => none := by
  funext s
  unfold xst
  rw [dif_neg]
  intro h'
  have := h'.1
  unfold xnum at this
  omega

end

end Cert.Kernel.Hand

end
-- ==== Proof.Loop1.lean ====
module

public import proofs.«01_k».proof.Proof.Data
public import Idealize.ShloMosaic.Lib.LoopRemainder

/-! # The loop that writes the list of chunks and the counts -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-- Count `e` of the result. -/
def cW (c : Dev nD) (fc : BufC F c) (e : ℕ) : BitVec 32 :=
  (Memref.whole cc0_stg3_0).view.read (Elt F) fc (ix64 e)

/-- The result's counts after a store. -/
theorem cW_store (c : Dev nD) (fc : BufC F c) (p : ℕ) (hp : p < 64) (off : Fin 1 → ℕ) (inb : ∀ a, off a + S1.size a ≤ S64.size a) (ho : off = ![p]) (w : BitVec 32) (j : ℕ) (hj : j < 64) :
    cW c ((Memref.whole cc0_stg3_0).view.writes (Elt F) fc [⟨Rect.unit (s := S64) off S1.size inb, fun _ => w⟩]) j = if j = p then w else cW c fc j := by
  subst ho
  have := View.read_writes_cons_cell (Val := Elt F) (Memref.whole cc0_stg3_0).view fc inb w [] (ix64 j)
  unfold cW
  refine this.trans ?_
  have e : (ix64 j 0).val = j := Nat.mod_eq_of_lt hj
  by_cases h : j = p
  · rw [if_pos h]; exact if_pos (e.trans h)
  · rw [if_neg h]; exact if_neg (fun h' => h (e.symm.trans h'))

/-- Count `e` of the result, from the row offsets and the counts so far. -/
def newN (c : Dev nD) (fo : BufO F c) (fn : BufN F c) (e : ℕ) : BitVec 32 :=
  Scalar.addi (nW c fn e) (Scalar.subi (oW c fo (e + 1)) (oW c fo e))

/-- What the outer loop holds before trip `k`. -/
def inv1 (c : Dev nD) (fo : BufO F c) (fn : BufN F c) (k : ℕ) (acc : BitVec 32) : sProp 𝕄 :=
  iprop(⌜acc = BitVec.ofNat 32 (pre c fo k)⌝
    ∗ ((Memref.whole cc0_stg0_0).view.loc (c : Thread nD τ) ↦{fullShare} fo) ∗ ((Memref.whole cc0_stg1_0).view.loc (c : Thread nD τ) ↦{fullShare} fn)
    ∗ (∃ fl, ⌜ListOk c fo fl k⌝ ∗ ((Memref.whole cc0_scratch4).view.loc (c : Thread nD τ) ↦{fullShare} fl))
    ∗ (∃ fc, ⌜∀ e, e < k → cW c fc e = newN c fo fn e⌝ ∗ ((Memref.whole cc0_stg3_0).view.loc (c : Thread nD τ) ↦{fullShare} fc)))

/-- What the inner loop holds before trip `k`. -/
def inv2 (c : Dev nD) (fo : BufO F c) (e : ℕ) (k : ℕ) (_ : Unit) : sProp 𝕄 :=
  iprop(∃ fl, ⌜ListOk c fo fl e ∧ ∀ j, j < k → lW c fl (pre c fo e + j) = BitVec.ofNat 32 (base (oW c fo e).toNat + 256 * j)⌝
    ∗ ((Memref.whole cc0_scratch4).view.loc (c : Thread nD τ) ↦{fullShare} fl))

theorem off3_eq : ∀ k : Fin k0_t1_loop.trips, k0_off3 k = ![k.val] := by decide +kernel
theorem off4_eq : ∀ k : Fin k0_t1_loop.trips, k0_off4 k = ![k.val + 1] := by decide +kernel
theorem off5_eq : ∀ k : Fin k0_t1_loop.trips, k0_off5 k = ![k.val] := by decide +kernel
theorem t1_trips : k0_t1_loop.trips = 64 := by decide +kernel

set_option maxHeartbeats 2000000 in
theorem step1 (c : Dev nD) (𝒱₀ : Variants) (fo : BufO F c) (fn : BufN F c) (ok : OffOk c fo) (k : Fin k0_t1_loop.trips) (acc : BitVec 32) :
    inv1 c fo fn k.val acc
      ⊢ wp frame (wpE (defs₀ (F := F)) 𝒱₀ (c : Thread nD τ) none) Set.univ
          (k0_t1_body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 k acc)
          (inv1 c fo fn (k.val + 1)) := by
  have hk : k.val < 64 := t1_trips ▸ k.isLt
  have w3 := oW_of c fo k.val (by omega) (k0_off3 k) (k0_off3_inb k) (off3_eq k)
  have w4 := oW_of c fo (k.val + 1) (by omega) (k0_off4 k) (k0_off4_inb k) (off4_eq k)
  have w5 := nW_of c fn k.val (by omega) (k0_off5 k) (k0_off5_inb k) (off5_eq k)
  have hl := ok.le k.val (by omega)
  have hh := ok.le (k.val + 1) (by omega)
  have hpre : pre c fo k.val + cnt (oW c fo k.val).toNat (oW c fo (k.val + 1)).toNat ≤ 200 := by
    have := pre_le c fo ok (k.val + 1) (by omega)
    rw [pre_succ] at this
    exact this
  have htr : (k0_t2_loop (oW c fo k.val) (oW c fo (k.val + 1))).trips = cn c fo k.val := t2_trips hl hh
  unfold inv1
  iintro ⟨%hacc, Ho, Hn, ⟨%fl, %hfl, Hl⟩, ⟨%fc, %hfc, Hc⟩⟩
  subst hacc
  have h1 := chk1_of (oW c fo k.val) (oW c fo (k.val + 1)) (pre c fo k.val) hl hh hpre
  rw [← w3, ← w4] at h1
  sl_unfold [k0_t1_body]
  sl_exec
  sl_for (inv2 c fo k.val) $$ [Hl]
  · intro k2 _
    unfold inv2
    iintro ⟨%fl, %h, Hl⟩
    sl_exec

    have r0 : step1.sl.r c fo k = oW c fo k.val := w3
    have r1 : step1.sl.r_1 c fo k = oW c fo (k.val + 1) := w4
    have htr' : (k0_t2_loop (step1.sl.r c fo k) (step1.sl.r_1 c fo k)).trips = cn c fo k.val := by rw [r0, r1]; exact htr
    have hk2 : k2.val < cn c fo k.val := lt_of_lt_of_eq k2.isLt htr'
    have hcn : pre c fo k.val + cn c fo k.val ≤ 200 := hpre
    have hbase : base (oW c fo k.val).toNat ≤ 18432 := by unfold base; omega
    have hv : step1.sl.v162 c fo k k2 = BitVec.ofNat 32 (base (oW c fo k.val).toNat + 256 * k2.val) := by
      have e1 : baseW (step1.sl.r c fo k) = BitVec.ofNat 32 (base (oW c fo k.val).toNat) := by
        rw [r0]; exact baseW_eq _ (lt_of_le_of_lt hl (by decide))
      have e2 : Scalar.muli (Scf.iv 0#32 1#32 k2.val) 256#32 = BitVec.ofNat 32 (256 * k2.val) := by
        rw [iv_eq, Nat.mul_comm]; exact WordCmp.muli_ofNat _ _
      have e3 : step1.sl.v162 c fo k k2 = Scalar.addi (baseW (step1.sl.r c fo k)) (Scalar.muli (Scf.iv 0#32 1#32 k2.val) 256#32) := rfl
      rw [e3, e1, e2]
      exact WordCmp.addi_ofNat _ _
    have ho : k0_off6 (BitVec.ofNat 32 (pre c fo k.val)) (step1.sl.r c fo k) (step1.sl.r_1 c fo k) k2 = ![pre c fo k.val + k2.val] := by
      show ![(Scalar.addi (BitVec.ofNat 32 (pre c fo k.val)) (Scf.iv 0#32 1#32 k2.val)).toNat] = _
      rw [addi_iv, toNat_ofNat_small _ (by omega)]
    sl_step
    iexists _
    isplitr
    rotate_left
    · iexact Hl
    · ipureintro
      constructor
      · intro e he j hj
        have h2 : pre c fo (e + 1) ≤ pre c fo k.val := pre_mono c fo (by omega)
        rw [pre_succ] at h2
        have h3 : pre c fo e + j < 200 := by omega
        refine (lW_store c fl (pre c fo k.val + k2.val) (by omega) _ _ ho _ _ h3).trans ?_
        rw [if_neg (by omega)]
        exact h.1 e he j hj
      · intro j hj
        have h3 : pre c fo k.val + j < 200 := by omega
        refine (lW_store c fl (pre c fo k.val + k2.val) (by omega) _ _ ho _ _ h3).trans ?_
        by_cases hjk : j = k2.val
        · subst hjk; rw [if_pos rfl]; exact hv
        · rw [if_neg (by omega)]; exact h.2 j (by omega)
  · unfold inv2
    iexists fl
    isplitr
    · ipureintro; exact ⟨hfl, fun j hj => absurd hj (by omega)⟩
    iexact Hl
  iintro %_ H2
  sl_exec

  have r0 : step1.sl.r c fo k = oW c fo k.val := w3
  have r1 : step1.sl.r_1 c fo k = oW c fo (k.val + 1) := w4
  have htr' : (k0_t2_loop (step1.sl.r c fo k) (step1.sl.r_1 c fo k)).trips = cn c fo k.val := by rw [r0, r1]; exact htr
  have hacc : step1.sl.v160 c fo k = BitVec.ofNat 32 (pre c fo (k.val + 1)) := by
    have e3 : step1.sl.v160 c fo k = Scalar.addi (BitVec.ofNat 32 (pre c fo k.val)) (cntW (step1.sl.r c fo k) (step1.sl.r_1 c fo k)) := rfl
    rw [e3, r0, r1, cntW_eq _ _ hl hh, pre_succ]
    exact WordCmp.addi_ofNat _ _
  have hn : step1.sl.v94 c fo fn k = newN c fo fn k.val := by
    show Scalar.addi (View.readAt (Elt F) (Memref.whole cc0_stg1_0).view (Rect.unit (s := S64) (k0_off5 k) S1.size (k0_off5_inb k)).toLoadRect fn (Shape.Idx.first (numel1_S1.symm ▸ Nat.one_pos)))
      (Scalar.subi (step1.sl.r_1 c fo k) (step1.sl.r c fo k)) = _
    rw [r0, r1, w5]; rfl
  unfold inv2
  icases H2 with ⟨%fl2, %h2, Hl⟩
  sl_step
  isplitr
  · ipureintro; exact hacc
  isplitl [Ho]; · iexact Ho
  isplitl [Hn]; · iexact Hn
  isplitl [Hl]
  · iexists fl2
    isplitr
    · ipureintro
      intro e he j hj
      rcases Nat.lt_or_ge e k.val with h | h
      · exact h2.1 e h j hj
      · obtain rfl : e = k.val := by omega
        exact h2.2 j (lt_of_lt_of_eq hj htr'.symm)
    iexact Hl
  iexists _
  isplitr
  rotate_left
  · iexact Hc
  · ipureintro
    intro e he
    have h3 : e < 64 := by omega
    refine (cW_store c fc k.val hk _ _ (off5_eq k) _ _ h3).trans ?_
    by_cases h : e = k.val
    · subst h; rw [if_pos rfl]; exact hn
    · rw [if_neg h]; exact hfc e (by omega)

end Cert.Kernel.Hand

end
-- ==== Proof.Body.lean ====
module

public import proofs.«01_k».proof.Proof.Starts
public import proofs.«01_k».proof.Proof.Loop1

/-! # The kernel's body -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

section
variable (c : Dev nD) (𝒱₀ : Variants) (fo : BufO F c) (fn : BufN F c) (fs : BufS F c) (fx : BufX F c) (fH : BufH F c) (ok : OffOk c fo)

/-- What the body starts from. -/
def preB : sProp 𝕄 := iprop(((Memref.whole cc0_stg0_0).view.loc (c : Thread nD τ) ↦{fullShare} fo) ∗ ((Memref.whole cc0_stg1_0).view.loc (c : Thread nD τ) ↦{fullShare} fn) ∗ ((Memref.whole cc0_stg2_0).view.loc (c : Thread nD τ) ↦{fullShare} fs)
    ∗ (∃ fc, ((Memref.whole cc0_stg3_0).view.loc (c : Thread nD τ) ↦{fullShare} fc))
    ∗ (∃ f, ((Memref.whole cc0_scratch2).view.loc (c : Thread nD τ) ↦{fullShare} f)) ∗ (∃ f, ((Memref.whole cc0_scratch3).view.loc (c : Thread nD τ) ↦{fullShare} f)) ∗ (∃ f, ((Memref.whole cc0_scratch4).view.loc (c : Thread nD τ) ↦{fullShare} f))
    ∗ Ring.AtW (hslotAt c fH (OB c fo fn fs fx fH ok)) (fun _ => HSt.free) ∗ Ring.AtW (outAt c (OB c fo fn fs fx fH ok)) (fun _ => .todo)
    ∗ Ring.AtW (xslotAt c fx) (fun _ => none) ∗ (∃ W, owes (c : Thread nD τ) 0 W))

/-- What the body leaves. -/
def postB : sProp 𝕄 := iprop(((Memref.whole cc0_stg0_0).view.loc (c : Thread nD τ) ↦{fullShare} fo) ∗ ((Memref.whole cc0_stg1_0).view.loc (c : Thread nD τ) ↦{fullShare} fn) ∗ ((Memref.whole cc0_stg2_0).view.loc (c : Thread nD τ) ↦{fullShare} fs)
    ∗ (∃ fc, ⌜∀ e, e < 64 → cW c fc e = newN c fo fn e⌝ ∗ ((Memref.whole cc0_stg3_0).view.loc (c : Thread nD τ) ↦{fullShare} fc))
    ∗ (∃ f, ((Memref.whole cc0_scratch2).view.loc (c : Thread nD τ) ↦{fullShare} f)) ∗ (∃ f, ((Memref.whole cc0_scratch3).view.loc (c : Thread nD τ) ↦{fullShare} f)) ∗ (∃ f, ((Memref.whole cc0_scratch4).view.loc (c : Thread nD τ) ↦{fullShare} f))
    ∗ Ring.AtW (hslotAt c fH (OB c fo fn fs fx fH ok)) (fun _ => HSt.free) ∗ Ring.AtW (outAt c (OB c fo fn fs fx fH ok)) (fun _ => .done)
    ∗ Ring.AtW (xslotAt c fx) (fun _ => none) ∗ (∃ W, owes (c : Thread nD τ) 0 W))

theorem hst0_zero : hst0 0 = fun _ => .free := by decide +kernel

set_option maxHeartbeats 2000000 in
theorem body :
    preB c fo fn fs fx fH ok
      ⊢ wp frame (wpE (defs₀ (F := F)) 𝒱₀ (c : Thread nD τ) none) Set.univ
          (cc0__body (Memref.whole cc0_stg0_0) (Memref.isWhole_whole _) (Memref.whole cc0_stg1_0) (Memref.isWhole_whole _) (Memref.whole cc0_stg2_0) (Memref.isWhole_whole _) (Memref.whole main_arg0) (Memref.isWhole_whole _) (Memref.whole main_arg3) (Memref.isWhole_whole _) (Memref.whole main_v1_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7) (fun _ => postB c fo fn fs fx fH ok) := by
  unfold preB
  rw [← hst0_zero, ← ost_zero]
  iintro ⟨Ho, Hn, Hs, ⟨%fc, Hc⟩, ⟨%f9, H9⟩, ⟨%f10, H10⟩, ⟨%fl0, Hl⟩, HH, HU, HX, ⟨%W, HO⟩⟩
  ihave HH := (hopen c fH (OB c fo fn fs fx fH ok) 0 0 rfl (Scalar.remsi 0#32 7#32) (by decide) (by decide)) $$ HH
  icases HH with ⟨⟨Hi, ⟨%g0, Hg⟩, Ht⟩, HK⟩
  sl_unfold [cc0__body]
  sl_exec
  ihave HH : Ring.AtW (hslotAt c fH (OB c fo fn fs fx fH ok)) (hst0 1) $$ [Hi Ht HK]
  · iapply (hclose c fH (OB c fo fn fs fx fH ok) 0 1 rfl (Scalar.remsi 0#32 7#32) (by decide) (by decide) ![0, 0, 0] inb_S64x1408x1408_S1x1408x1408_0_0_0 (boff_eq 0 (by decide)).symm)
    isplitr [HK]
    · isplitl [Hi]
      · iexists g0; iexact Hi
      · iexact Ht
    · iexact HK
  ihave HH := (hopen c fH (OB c fo fn fs fx fH ok) 1 1 rfl (Scalar.remsi 1#32 7#32) (by decide) (by decide)) $$ HH
  icases HH with ⟨⟨Hi, ⟨%g1, Hg⟩, Ht⟩, HK⟩
  sl_exec
  ihave HH : Ring.AtW (hslotAt c fH (OB c fo fn fs fx fH ok)) (hst0 2) $$ [Hi Ht HK]
  · iapply (hclose c fH (OB c fo fn fs fx fH ok) 1 2 rfl (Scalar.remsi 1#32 7#32) (by decide) (by decide) ![1, 0, 0] inb_S64x1408x1408_S1x1408x1408_1_0_0 (boff_eq 1 (by decide)).symm)
    isplitr [HK]
    · isplitl [Hi]
      · iexists g1; iexact Hi
      · iexact Ht
    · iexact HK
  ihave HH := (hopen c fH (OB c fo fn fs fx fH ok) 2 2 rfl (Scalar.remsi 2#32 7#32) (by decide) (by decide)) $$ HH
  icases HH with ⟨⟨Hi, ⟨%g2, Hg⟩, Ht⟩, HK⟩
  sl_exec
  ihave HH : Ring.AtW (hslotAt c fH (OB c fo fn fs fx fH ok)) (hst0 3) $$ [Hi Ht HK]
  · iapply (hclose c fH (OB c fo fn fs fx fH ok) 2 3 rfl (Scalar.remsi 2#32 7#32) (by decide) (by decide) ![2, 0, 0] inb_S64x1408x1408_S1x1408x1408_2_0_0 (boff_eq 2 (by decide)).symm)
    isplitr [HK]
    · isplitl [Hi]
      · iexists g2; iexact Hi
      · iexact Ht
    · iexact HK
  ihave HH := (hopen c fH (OB c fo fn fs fx fH ok) 3 3 rfl (Scalar.remsi 3#32 7#32) (by decide) (by decide)) $$ HH
  icases HH with ⟨⟨Hi, ⟨%g3, Hg⟩, Ht⟩, HK⟩
  sl_exec
  ihave HH : Ring.AtW (hslotAt c fH (OB c fo fn fs fx fH ok)) (hst0 4) $$ [Hi Ht HK]
  · iapply (hclose c fH (OB c fo fn fs fx fH ok) 3 4 rfl (Scalar.remsi 3#32 7#32) (by decide) (by decide) ![3, 0, 0] inb_S64x1408x1408_S1x1408x1408_3_0_0 (boff_eq 3 (by decide)).symm)
    isplitr [HK]
    · isplitl [Hi]
      · iexists g3; iexact Hi
      · iexact Ht
    · iexact HK
  ihave HH := (hopen c fH (OB c fo fn fs fx fH ok) 4 4 rfl (Scalar.remsi 4#32 7#32) (by decide) (by decide)) $$ HH
  icases HH with ⟨⟨Hi, ⟨%g4, Hg⟩, Ht⟩, HK⟩
  sl_exec
  ihave HH : Ring.AtW (hslotAt c fH (OB c fo fn fs fx fH ok)) (hst0 5) $$ [Hi Ht HK]
  · iapply (hclose c fH (OB c fo fn fs fx fH ok) 4 5 rfl (Scalar.remsi 4#32 7#32) (by decide) (by decide) ![4, 0, 0] inb_S64x1408x1408_S1x1408x1408_4_0_0 (boff_eq 4 (by decide)).symm)
    isplitr [HK]
    · isplitl [Hi]
      · iexists g4; iexact Hi
      · iexact Ht
    · iexact HK
  ihave HH := (hopen c fH (OB c fo fn fs fx fH ok) 5 5 rfl (Scalar.remsi 5#32 7#32) (by decide) (by decide)) $$ HH
  icases HH with ⟨⟨Hi, ⟨%g5, Hg⟩, Ht⟩, HK⟩
  sl_exec
  ihave HH : Ring.AtW (hslotAt c fH (OB c fo fn fs fx fH ok)) (hst0 6) $$ [Hi Ht HK]
  · iapply (hclose c fH (OB c fo fn fs fx fH ok) 5 6 rfl (Scalar.remsi 5#32 7#32) (by decide) (by decide) ![5, 0, 0] inb_S64x1408x1408_S1x1408x1408_5_0_0 (boff_eq 5 (by decide)).symm)
    isplitr [HK]
    · isplitl [Hi]
      · iexists g5; iexact Hi
      · iexact Ht
    · iexact HK
  ihave HH := (hopen c fH (OB c fo fn fs fx fH ok) 6 6 rfl (Scalar.remsi 6#32 7#32) (by decide) (by decide)) $$ HH
  icases HH with ⟨⟨Hi, ⟨%g6, Hg⟩, Ht⟩, HK⟩
  sl_exec
  ihave HH : Ring.AtW (hslotAt c fH (OB c fo fn fs fx fH ok)) (hst0 7) $$ [Hi Ht HK]
  · iapply (hclose c fH (OB c fo fn fs fx fH ok) 6 7 rfl (Scalar.remsi 6#32 7#32) (by decide) (by decide) ![6, 0, 0] inb_S64x1408x1408_S1x1408x1408_6_0_0 (boff_eq 6 (by decide)).symm)
    isplitr [HK]
    · isplitl [Hi]
      · iexists g6; iexact Hi
      · iexact Ht
    · iexact HK
  rw [hst0_seven]
  sl_for (inv1 c fo fn) $$ [Ho Hn Hl Hc]
  · intro k acc
    unfold body.sl.prog.body_1
    exact step1 c 𝒱₀ fo fn ok k acc
  · unfold inv1
    isplitr; · ipureintro; rfl
    isplitl [Ho]; · iexact Ho
    isplitl [Hn]; · iexact Hn
    isplitl [Hl]
    · iexists fl0; isplitr
      · ipureintro; intro e he; exact absurd he (Nat.not_lt_zero _)
      · iexact Hl
    iexists fc; isplitr
    · ipureintro; intro e he; exact absurd he (Nat.not_lt_zero _)
    · iexact Hc
  unfold inv1
  iintro %v50 ⟨%hv, Ho, Hn, ⟨%fl, %hfl, Hl⟩, ⟨%fc1, %hfc, Hc⟩⟩
  rw [show Scf.trips k0_t1_loop.lb k0_t1_loop.ub k0_t1_loop.st = 64 from t1_trips] at hv hfl hfc
  subst hv
  have htot : pre c fo 64 ≤ 200 := pre_le c fo ok 64 le_rfl
  have hrow : ∀ g, g < pre c fo 64 → RowOk (rowW (lW c fl g)) := list_row c fo fl ok hfl
  rw [← xs_zero c fl (pre c fo 64)]
  rcases Nat.lt_or_ge 0 (pre c fo 64) with l0 | hle
  on_goal 2 =>
    have c1 := c1_not (pre c fo 64) htot (le_trans hle (by decide : 0 ≤ 0))
    have c2 := c2_not (pre c fo 64) htot (le_trans hle (by decide : 0 ≤ 1))
    have c3 := c3_not (pre c fo 64) htot (le_trans hle (by decide : 0 ≤ 2))
    have c4 := c4_not (pre c fo 64) htot (le_trans hle (by decide : 0 ≤ 3))
    rw [xs_stop c fl (pre c fo 64) 0 hle]
    sl_exec
  have c1 := (c1_iff (pre c fo 64) htot).2 l0
  have e0 : (View.readAt (Elt F) (Memref.whole cc0_scratch4).view (Rect.unit (s := S200) ![0] S1.size inb_S200_S1_0).toLoadRect fl (Shape.Idx.first (numel1_S1.symm ▸ Nat.one_pos))) = lW c fl 0 := lW_of c fl 0 (by decide) ![0] inb_S200_S1_0 rfl
  have r0 : RowOk (rowW (View.readAt (Elt F) (Memref.whole cc0_scratch4).view (Rect.unit (s := S200) ![0] S1.size inb_S200_S1_0).toLoadRect fl (Shape.Idx.first (numel1_S1.symm ▸ Nat.one_pos)))) := by rw [e0]; exact hrow _ l0
  have k0 : k0_chk2 (BitVec.ofNat 32 (pre c fo 64)) (View.readAt (Elt F) (Memref.whole cc0_scratch4).view (Rect.unit (s := S200) ![0] S1.size inb_S200_S1_0).toLoadRect fl (Shape.Idx.first (numel1_S1.symm ▸ Nat.one_pos))) := chk2_of _ _ r0
  ihave HX := (xopen c fx fl (pre c fo 64) 0 0 rfl (Scalar.remsi 0#32 4#32) (by decide) (by decide)) $$ HX
  icases HX with ⟨⟨%gx0, Hi, Hg, Ht⟩, HK⟩
  sl_exec
  ihave HX : Ring.AtW (xslotAt c fx) (xs c fl (pre c fo 64) 1) $$ [Hi Ht HK]
  · iapply (xclose c fx fl (pre c fo 64) 0 0 1 rfl rfl (Scalar.remsi 0#32 4#32) (by decide) (by decide) l0 (View.readAt (Elt F) (Memref.whole cc0_scratch4).view (Rect.unit (s := S200) ![0] S1.size inb_S200_S1_0).toLoadRect fl (Shape.Idx.first (numel1_S1.symm ▸ Nat.one_pos))) e0 r0)
    isplitr [HK]
    · isplitl [Hi]
      · iexists gx0; iexact Hi
      · iexact Ht
    · iexact HK
  rcases Nat.lt_or_ge 1 (pre c fo 64) with l1 | hle
  on_goal 2 =>
    have c2 := c2_not (pre c fo 64) htot (le_trans hle (by decide : 1 ≤ 1))
    have c3 := c3_not (pre c fo 64) htot (le_trans hle (by decide : 1 ≤ 2))
    have c4 := c4_not (pre c fo 64) htot (le_trans hle (by decide : 1 ≤ 3))
    rw [xs_stop c fl (pre c fo 64) 1 hle]
    sl_exec
  have c2 := (c2_iff (pre c fo 64) htot).2 l1
  have e1 : (View.readAt (Elt F) (Memref.whole cc0_scratch4).view (Rect.unit (s := S200) ![1] S1.size inb_S200_S1_1).toLoadRect fl (Shape.Idx.first (numel1_S1.symm ▸ Nat.one_pos))) = lW c fl 1 := lW_of c fl 1 (by decide) ![1] inb_S200_S1_1 rfl
  have r1 : RowOk (rowW (View.readAt (Elt F) (Memref.whole cc0_scratch4).view (Rect.unit (s := S200) ![1] S1.size inb_S200_S1_1).toLoadRect fl (Shape.Idx.first (numel1_S1.symm ▸ Nat.one_pos)))) := by rw [e1]; exact hrow _ l1
  have k1 : k0_chk3 (BitVec.ofNat 32 (pre c fo 64)) (View.readAt (Elt F) (Memref.whole cc0_scratch4).view (Rect.unit (s := S200) ![1] S1.size inb_S200_S1_1).toLoadRect fl (Shape.Idx.first (numel1_S1.symm ▸ Nat.one_pos))) := chk3_of _ _ r1
  ihave HX := (xopen c fx fl (pre c fo 64) 1 1 rfl (Scalar.remsi 1#32 4#32) (by decide) (by decide)) $$ HX
  icases HX with ⟨⟨%gx1, Hi, Hg, Ht⟩, HK⟩
  sl_exec
  ihave HX : Ring.AtW (xslotAt c fx) (xs c fl (pre c fo 64) 2) $$ [Hi Ht HK]
  · iapply (xclose c fx fl (pre c fo 64) 1 1 2 rfl rfl (Scalar.remsi 1#32 4#32) (by decide) (by decide) l1 (View.readAt (Elt F) (Memref.whole cc0_scratch4).view (Rect.unit (s := S200) ![1] S1.size inb_S200_S1_1).toLoadRect fl (Shape.Idx.first (numel1_S1.symm ▸ Nat.one_pos))) e1 r1)
    isplitr [HK]
    · isplitl [Hi]
      · iexists gx1; iexact Hi
      · iexact Ht
    · iexact HK
  rcases Nat.lt_or_ge 2 (pre c fo 64) with l2 | hle
  on_goal 2 =>
    have c3 := c3_not (pre c fo 64) htot (le_trans hle (by decide : 2 ≤ 2))
    have c4 := c4_not (pre c fo 64) htot (le_trans hle (by decide : 2 ≤ 3))
    rw [xs_stop c fl (pre c fo 64) 2 hle]
    sl_exec
  have c3 := (c3_iff (pre c fo 64) htot).2 l2
  have e2 : (View.readAt (Elt F) (Memref.whole cc0_scratch4).view (Rect.unit (s := S200) ![2] S1.size inb_S200_S1_2).toLoadRect fl (Shape.Idx.first (numel1_S1.symm ▸ Nat.one_pos))) = lW c fl 2 := lW_of c fl 2 (by decide) ![2] inb_S200_S1_2 rfl
  have r2 : RowOk (rowW (View.readAt (Elt F) (Memref.whole cc0_scratch4).view (Rect.unit (s := S200) ![2] S1.size inb_S200_S1_2).toLoadRect fl (Shape.Idx.first (numel1_S1.symm ▸ Nat.one_pos)))) := by rw [e2]; exact hrow _ l2
  have k2 : k0_chk4 (BitVec.ofNat 32 (pre c fo 64)) (View.readAt (Elt F) (Memref.whole cc0_scratch4).view (Rect.unit (s := S200) ![2] S1.size inb_S200_S1_2).toLoadRect fl (Shape.Idx.first (numel1_S1.symm ▸ Nat.one_pos))) := chk4_of _ _ r2
  ihave HX := (xopen c fx fl (pre c fo 64) 2 2 rfl (Scalar.remsi 2#32 4#32) (by decide) (by decide)) $$ HX
  icases HX with ⟨⟨%gx2, Hi, Hg, Ht⟩, HK⟩
  sl_exec
  ihave HX : Ring.AtW (xslotAt c fx) (xs c fl (pre c fo 64) 3) $$ [Hi Ht HK]
  · iapply (xclose c fx fl (pre c fo 64) 2 2 3 rfl rfl (Scalar.remsi 2#32 4#32) (by decide) (by decide) l2 (View.readAt (Elt F) (Memref.whole cc0_scratch4).view (Rect.unit (s := S200) ![2] S1.size inb_S200_S1_2).toLoadRect fl (Shape.Idx.first (numel1_S1.symm ▸ Nat.one_pos))) e2 r2)
    isplitr [HK]
    · isplitl [Hi]
      · iexists gx2; iexact Hi
      · iexact Ht
    · iexact HK
  rcases Nat.lt_or_ge 3 (pre c fo 64) with l3 | hle
  on_goal 2 =>
    have c4 := c4_not (pre c fo 64) htot (le_trans hle (by decide : 3 ≤ 3))
    rw [xs_stop c fl (pre c fo 64) 3 hle]
    sl_exec
  have c4 := (c4_iff (pre c fo 64) htot).2 l3
  have e3 : (View.readAt (Elt F) (Memref.whole cc0_scratch4).view (Rect.unit (s := S200) ![3] S1.size inb_S200_S1_3).toLoadRect fl (Shape.Idx.first (numel1_S1.symm ▸ Nat.one_pos))) = lW c fl 3 := lW_of c fl 3 (by decide) ![3] inb_S200_S1_3 rfl
  have r3 : RowOk (rowW (View.readAt (Elt F) (Memref.whole cc0_scratch4).view (Rect.unit (s := S200) ![3] S1.size inb_S200_S1_3).toLoadRect fl (Shape.Idx.first (numel1_S1.symm ▸ Nat.one_pos)))) := by rw [e3]; exact hrow _ l3
  have k3 : k0_chk5 (BitVec.ofNat 32 (pre c fo 64)) (View.readAt (Elt F) (Memref.whole cc0_scratch4).view (Rect.unit (s := S200) ![3] S1.size inb_S200_S1_3).toLoadRect fl (Shape.Idx.first (numel1_S1.symm ▸ Nat.one_pos))) := chk5_of _ _ r3
  ihave HX := (xopen c fx fl (pre c fo 64) 3 3 rfl (Scalar.remsi 3#32 4#32) (by decide) (by decide)) $$ HX
  icases HX with ⟨⟨%gx3, Hi, Hg, Ht⟩, HK⟩
  sl_exec
  ihave HX : Ring.AtW (xslotAt c fx) (xs c fl (pre c fo 64) 4) $$ [Hi Ht HK]
  · iapply (xclose c fx fl (pre c fo 64) 3 3 4 rfl rfl (Scalar.remsi 3#32 4#32) (by decide) (by decide) l3 (View.readAt (Elt F) (Memref.whole cc0_scratch4).view (Rect.unit (s := S200) ![3] S1.size inb_S200_S1_3).toLoadRect fl (Shape.Idx.first (numel1_S1.symm ▸ Nat.one_pos))) e3 r3)
    isplitr [HK]
    · isplitl [Hi]
      · iexists gx3; iexact Hi
      · iexact Ht
    · iexact HK
  rw [xs_four c fl (pre c fo 64)]
  all_goals
    sl_for (inv4 c fo fn fs fx fH ok fl) $$ [Ho Hn Hl Hs H9 H10 HH HU HX HO]
    · intro k acc
      exact step4 c 𝒱₀ fo fn fs fx fH ok fl hfl _ k acc
    · unfold inv4
      isplitr; · ipureintro; rfl
      isplitl [Ho]; · iexact Ho
      isplitl [Hn]; · iexact Hn
      isplitl [Hl]; · iexact Hl
      isplitl [Hs]; · iexact Hs
      isplitl [H9]; · iexists f9; iexact H9
      isplitl [H10]; · iexists f10; iexact H10
      isplitl [HH]; · iexact HH
      isplitl [HU]; · iexact HU
      isplitl [HX]; · iexact HX
      iexists _; iexact HO
    unfold inv4
    iintro %v64 ⟨%hv64, Ho, Hn, Hl, Hs, H9, H10, HH, HU, HX, ⟨%W', HO⟩⟩
    rw [show Scf.trips k0_t4_loop.lb k0_t4_loop.ub k0_t4_loop.st = 64 from t4_trips, xst_end c fl _ _ (le_refl _)]
    ihave HH := (wopen c fH (OB c fo fn fs fx fH ok) 0 64 rfl ⟨61, by decide⟩ rfl (Scalar.remsi 61#32 7#32) (by decide) (by decide)) $$ HH
    icases HH with ⟨⟨%f0, %p0, %h0, Hf⟩, HK⟩
    sl_exec
    ihave HH : Ring.AtW (hslotAt c fH (OB c fo fn fs fx fH ok)) (hst 65) $$ [Hf Hf_src HK]
    · iapply (wclose c fH (OB c fo fn fs fx fH ok) 0 65 rfl (Scalar.remsi 61#32 7#32) (by decide) (by decide))
      isplitl [Hf]; · iexact Hf
      isplitl [Hf_src]; · iexists f0; iexact Hf_src
      iexact HK
    ihave HU : Ring.AtW (outAt c (OB c fo fn fs fx fH ok)) (ost 65) $$ [HU Hf_dst]
    · iapply (wout c (OB c fo fn fs fx fH ok) 0 64 65 rfl rfl ⟨61, by decide⟩ rfl p0 _ h0)
      isplitl [HU]; · iexact HU
      iexact Hf_dst
    ihave HH := (wopen c fH (OB c fo fn fs fx fH ok) 1 65 rfl ⟨62, by decide⟩ rfl (Scalar.remsi 62#32 7#32) (by decide) (by decide)) $$ HH
    icases HH with ⟨⟨%f1, %p1, %h1, Hf⟩, HK⟩
    sl_exec
    ihave HH : Ring.AtW (hslotAt c fH (OB c fo fn fs fx fH ok)) (hst 66) $$ [Hf Hf_src HK]
    · iapply (wclose c fH (OB c fo fn fs fx fH ok) 1 66 rfl (Scalar.remsi 62#32 7#32) (by decide) (by decide))
      isplitl [Hf]; · iexact Hf
      isplitl [Hf_src]; · iexists f1; iexact Hf_src
      iexact HK
    ihave HU : Ring.AtW (outAt c (OB c fo fn fs fx fH ok)) (ost 66) $$ [HU Hf_dst]
    · iapply (wout c (OB c fo fn fs fx fH ok) 1 65 66 rfl rfl ⟨62, by decide⟩ rfl p1 _ h1)
      isplitl [HU]; · iexact HU
      iexact Hf_dst
    ihave HH := (wopen c fH (OB c fo fn fs fx fH ok) 2 66 rfl ⟨63, by decide⟩ rfl (Scalar.remsi 63#32 7#32) (by decide) (by decide)) $$ HH
    icases HH with ⟨⟨%f2, %p2, %h2, Hf⟩, HK⟩
    sl_exec
    ihave HH : Ring.AtW (hslotAt c fH (OB c fo fn fs fx fH ok)) (hst 67) $$ [Hf Hf_src HK]
    · iapply (wclose c fH (OB c fo fn fs fx fH ok) 2 67 rfl (Scalar.remsi 63#32 7#32) (by decide) (by decide))
      isplitl [Hf]; · iexact Hf
      isplitl [Hf_src]; · iexists f2; iexact Hf_src
      iexact HK
    ihave HU : Ring.AtW (outAt c (OB c fo fn fs fx fH ok)) (ost 67) $$ [HU Hf_dst]
    · iapply (wout c (OB c fo fn fs fx fH ok) 2 66 67 rfl rfl ⟨63, by decide⟩ rfl p2 _ h2)
      isplitl [HU]; · iexact HU
      iexact Hf_dst
    sl_step
    unfold postB
    rw [hst_end, ost_end]
    isplitl [Ho]; · iexact Ho
    isplitl [Hn]; · iexact Hn
    isplitl [Hs]; · iexact Hs
    isplitl [Hc]
    · iexists fc1; isplitr
      · ipureintro; exact hfc
      · iexact Hc
    isplitl [H9]; · iexact H9
    isplitl [H10]; · iexact H10
    isplitl [Hl]; · iexists fl; iexact Hl
    isplitl [HH]; · iexact HH
    isplitl [HU]; · iexact HU
    isplitl [HX]; · iexact HX
    iexists _; iexact HO

end

end Cert.Kernel.Hand

end
-- ==== Proof.Split.lean ====
module

public import proofs.«01_k».proof.Proof.Body

/-! # The big buffers, whole and in parts

The ring of blocks in its seven slots, the ring of row chunks in its four, the result in its sixty-four
blocks, and the arrays read from memory in read shares. -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-! ## Seven slots -/

theorem hset_disjoint (b b' : Fin 7) (h : b ≠ b') : Disjoint (hslot b).view.set (hslot b').view.set := by
  rw [hslot_set, hslot_set]
  refine Rect.disjoint_of_axis _ _ (0 : Fin 3) fun j₁ hj₁ j₂ hj₂ => ?_
  have hb : b.val ≠ b'.val := fun e => h (Fin.ext e)
  have hj₁ : j₁ < 1 := hj₁
  have hj₂ : j₂ < 1 := hj₂
  show b.val + 1 * j₁ ≠ b'.val + 1 * j₂
  omega

/-- The elements of a slot. -/
abbrev hset (b : Fin 7) : Finset S7x1408x1408.Idx := (hslot b).view.set

theorem mem_hset (b : Fin 7) (i : S7x1408x1408.Idx) (h : (i (0 : Fin 3)).val = b.val) : i ∈ (hslot b).view.set := by
  rw [hslot_set]
  refine Rect.mem_set_unit.mpr fun a => ?_
  have := (i a).isLt
  fin_cases a
  · show b.val ≤ (i (0 : Fin 3)).val ∧ (i (0 : Fin 3)).val < b.val + 1
    rw [h]
    exact ⟨le_refl _, Nat.lt_succ_self _⟩
  · exact ⟨Nat.zero_le _, by simpa using this⟩
  · exact ⟨Nat.zero_le _, by simpa using this⟩

theorem hset_cover : (Finset.univ : Finset (Fin 7)).biUnion hset = Finset.univ :=
  Finset.eq_univ_iff_forall.mpr fun i => Finset.mem_biUnion.mpr ⟨i (0 : Fin 3), Finset.mem_univ _, mem_hset _ i rfl⟩

/-! ## Four slots -/

theorem xset_disjoint (b b' : Fin 4) (h : b ≠ b') : Disjoint (xslot b).view.set (xslot b').view.set := by
  rw [xslot_set, xslot_set]
  refine Rect.disjoint_of_axis _ _ (0 : Fin 3) fun j₁ hj₁ j₂ hj₂ => ?_
  have hb : b.val ≠ b'.val := fun e => h (Fin.ext e)
  have hj₁ : j₁ < 1 := hj₁
  have hj₂ : j₂ < 1 := hj₂
  show b.val + 1 * j₁ ≠ b'.val + 1 * j₂
  omega

/-- The elements of a slot. -/
abbrev xset (b : Fin 4) : Finset S4x256x1408.Idx := (xslot b).view.set

theorem mem_xset (b : Fin 4) (i : S4x256x1408.Idx) (h : (i (0 : Fin 3)).val = b.val) : i ∈ (xslot b).view.set := by
  rw [xslot_set]
  refine Rect.mem_set_unit.mpr fun a => ?_
  have := (i a).isLt
  fin_cases a
  · show b.val ≤ (i (0 : Fin 3)).val ∧ (i (0 : Fin 3)).val < b.val + 1
    rw [h]
    exact ⟨le_refl _, Nat.lt_succ_self _⟩
  · exact ⟨Nat.zero_le _, by simpa using this⟩
  · exact ⟨Nat.zero_le _, by simpa using this⟩

theorem xset_cover : (Finset.univ : Finset (Fin 4)).biUnion xset = Finset.univ :=
  Finset.eq_univ_iff_forall.mpr fun i => Finset.mem_biUnion.mpr ⟨i (0 : Fin 3), Finset.mem_univ _, mem_xset _ i rfl⟩

/-! ## Sixty-four blocks -/

theorem oblk_set (b : Fin 64) : (oblk b).view.set = (Rect.unit (s := S64x1408x1408) (boff b.val) S1x1408x1408.size (boff_inb b)).set := by
  unfold oblk
  exact (View.set_reshape _ _).trans (View.set_slice_whole _ _)

theorem boff_zero (b : Fin 64) : boff b.val 0 = b.val := by rw [boff_eq b.val b.isLt]; rfl
theorem boff_one (b : Fin 64) : boff b.val 1 = 0 := rfl
theorem boff_two (b : Fin 64) : boff b.val 2 = 0 := rfl

theorem oset_disjoint (b b' : Fin 64) (h : b ≠ b') : Disjoint (oblk b).view.set (oblk b').view.set := by
  rw [oblk_set, oblk_set]
  refine Rect.disjoint_of_axis _ _ (0 : Fin 3) fun j₁ hj₁ j₂ hj₂ => ?_
  have hb : b.val ≠ b'.val := fun e => h (Fin.ext e)
  have hj₁ : j₁ < 1 := hj₁
  have hj₂ : j₂ < 1 := hj₂
  show boff b.val 0 + 1 * j₁ ≠ boff b'.val 0 + 1 * j₂
  rw [boff_zero, boff_zero]
  omega

theorem mem_oset (b : Fin 64) (i : S64x1408x1408.Idx) (h : (i (0 : Fin 3)).val = b.val) : i ∈ (oblk b).view.set := by
  rw [oblk_set]
  refine Rect.mem_set_unit.mpr fun a => ?_
  have := (i a).isLt
  fin_cases a
  · show boff b.val 0 ≤ (i (0 : Fin 3)).val ∧ (i (0 : Fin 3)).val < boff b.val 0 + 1
    rw [boff_zero, h]
    exact ⟨le_refl _, Nat.lt_succ_self _⟩
  · exact ⟨Nat.zero_le _, by simpa [boff_one] using this⟩
  · exact ⟨Nat.zero_le _, by simpa [boff_two] using this⟩

/-- The elements of a block of the result. -/
abbrev oset (b : Fin 64) : Finset S64x1408x1408.Idx := (oblk b).view.set

theorem oset_cover : (Finset.univ : Finset (Fin 64)).biUnion oset = Finset.univ :=
  Finset.eq_univ_iff_forall.mpr fun i => Finset.mem_biUnion.mpr ⟨i (0 : Fin 3), Finset.mem_univ _, mem_oset _ i rfl⟩

/-- The place in a block of a place in the result. -/
def bidx (i : S64x1408x1408.Idx) : S1408x1408.Idx := fun a => match a with
  | ⟨0, _⟩ => i (1 : Fin 3)
  | ⟨1, _⟩ => i (2 : Fin 3)

/-- The result as its blocks say. -/
def gather (c : Dev nD) (B : Fin 64 → Blk F) : Buf (Elt F) ((Memref.whole main_v1_0).view.loc (c : Thread nD τ)) :=
  fun (i : S64x1408x1408.Idx) => B (i (0 : Fin 3)) (bidx i)

theorem oblk_emb (b : Fin 64) (y : S1408x1408.Idx) (a : Fin 3) :
    ((oblk b).view.emb y a).val = (![b.val, (y 0).val, (y 1).val] : Fin 3 → ℕ) a := by
  have h1 : (oblk b).view.emb y = (Rect.unit (s := S64x1408x1408) (boff b.val) S1x1408x1408.size (boff_inb b)).emb
      (Shape.reshapeEquiv squeezes_S1x1408x1408_S1408x1408.numel_eq y) := rfl
  rw [h1, Shape.reshapeEquiv_cons_one, Rect.emb_apply]
  match a with
  | ⟨0, _⟩ => show boff b.val 0 + 1 * 0 = b.val; rw [boff_zero]; exact Nat.add_zero _
  | ⟨1, _⟩ => show 0 + 1 * (y 0).val = (y 0).val; omega
  | ⟨2, _⟩ => show 0 + 1 * (y 1).val = (y 1).val; omega

/-- A block written whole is what the result says of it. -/
theorem gather_block (c : Dev nD) (B : Fin 64 → Blk F) (b : Fin 64) (g : Buf (Elt F) ((oblk b).view.loc (c : Thread nD τ)))
    (i : S64x1408x1408.Idx) (hi : i ∈ (oblk b).view.set) :
    (oblk b).view.writes (Elt F) g [⟨Rect.whole S1408x1408, ReadAs.same.apply (B b)⟩] i = gather c B i := by
  obtain ⟨y, -, rfl⟩ := Finset.mem_map.mp hi
  have h0 := oblk_emb b y 0
  have h1 := oblk_emb b y 1
  have h2 := oblk_emb b y 2
  have e0 : ((oblk b).view.emb y (0 : Fin 3) : Fin 64) = b := Fin.ext h0
  have e1 : bidx ((oblk b).view.emb y) = y := by
    funext a
    match a with
    | ⟨0, _⟩ => exact Fin.ext h1
    | ⟨1, _⟩ => exact Fin.ext h2
  unfold gather
  show _ = B ((oblk b).view.emb y (0 : Fin 3)) (bidx ((oblk b).view.emb y))
  rw [e1, e0, View.writes_singleton]
  have hw := View.write_emb_of_mem (Val := Elt F) (v := (oblk b).view.slice (Rect.whole S1408x1408)) g (ReadAs.same.apply (B b)) (Finset.mem_univ (y : (Rect.whole S1408x1408).shape.Idx))
  have he : ((oblk b).view.slice (Rect.whole S1408x1408)).emb y = (oblk b).view.emb y := by
    rw [View.emb_slice]
    exact congrArg (oblk b).view.emb (by funext a; apply Fin.ext; rw [Rect.emb_apply]; show 0 + 1 * (y a).val = (y a).val; omega)
  rw [he] at hw
  exact hw

/-! ## Split and joined -/

/-- The kernel's own counters: of the reads into and the writes out of the ring of blocks, and of the ring of row chunks. -/
abbrev osem0 : Fin 7 ⊕ (Fin 7 ⊕ Fin 4) → SemLoc sig := Sum.elim icell (Sum.elim ocell xcell)

theorem ownSems0_split (c : Dev nD) :
    (Pipeline.ownSems0 osem0 c : sProp 𝕄)
      = iprop(bigSep Finset.univ (fun s => semVal ((c : Thread nD τ), icell s) 0)
        ∗ bigSep Finset.univ (fun s => semVal ((c : Thread nD τ), ocell s) 0)
        ∗ bigSep Finset.univ (fun s => semVal ((c : Thread nD τ), xcell s) 0)) := by
  unfold Pipeline.ownSems0
  rw [bigSep_univ_sum, bigSep_univ_sum]
  rfl

theorem hring_eq (c : Dev nD) (fH : BufH F c) (B : Fin 64 → Blk F) :
    (Ring.AtW (hslotAt c fH B) (fun _ => HSt.free) : sProp 𝕄)
      = iprop(bigSep Finset.univ (fun s => semVal ((c : Thread nD τ), icell s) 0)
        ∗ bigSep Finset.univ (fun s => semVal ((c : Thread nD τ), ocell s) 0)
        ∗ bigSep Finset.univ (fun s => iprop(∃ f, (hslot s).view.loc (c : Thread nD τ) ↦[(hslot s).view.set]{fullShare} f))
        ∗ bigSep Finset.univ (fun s => htok c s Finset.univ fH)) := by
  refine (bigSep_sep Finset.univ (fun s => semVal ((c : Thread nD τ), icell s) 0) _).trans (congrArg (BI.sep _) ?_)
  refine (bigSep_sep Finset.univ (fun s => semVal ((c : Thread nD τ), ocell s) 0) _).trans (congrArg (BI.sep _) ?_)
  exact bigSep_sep Finset.univ (fun s => iprop(∃ f, (hslot s).view.loc (c : Thread nD τ) ↦[(hslot s).view.set]{fullShare} f)) _

theorem xring_eq (c : Dev nD) (fx : BufX F c) :
    (Ring.AtW (xslotAt c fx) (fun _ => none) : sProp 𝕄) ⊣⊢
      iprop(bigSep Finset.univ (fun s => semVal ((c : Thread nD τ), xcell s) 0)
        ∗ bigSep Finset.univ (fun s => iprop(∃ f, (xslot s).view.loc (c : Thread nD τ) ↦[(xslot s).view.set]{fullShare} f))
        ∗ bigSep Finset.univ (fun s => xtok c s Finset.univ fx)) := by
  have e : (bigSep Finset.univ (fun s => iprop(semVal ((c : Thread nD τ), xcell s) 0
        ∗ (∃ f, (xslot s).view.loc (c : Thread nD τ) ↦[(xslot s).view.set]{fullShare} f) ∗ xtok c s Finset.univ fx)) : sProp 𝕄)
      = iprop(bigSep Finset.univ (fun s => semVal ((c : Thread nD τ), xcell s) 0)
        ∗ bigSep Finset.univ (fun s => iprop(∃ f, (xslot s).view.loc (c : Thread nD τ) ↦[(xslot s).view.set]{fullShare} f))
        ∗ bigSep Finset.univ (fun s => xtok c s Finset.univ fx)) := by
    refine (bigSep_sep Finset.univ (fun s => semVal ((c : Thread nD τ), xcell s) 0) _).trans (congrArg (BI.sep _) ?_)
    exact bigSep_sep Finset.univ (fun s => iprop(∃ f, (xslot s).view.loc (c : Thread nD τ) ↦[(xslot s).view.set]{fullShare} f)) _
  rw [← e]
  have k1 : ∀ s : Fin 4, (xslotAt c fx s none : sProp 𝕄) ⊢ iprop(semVal ((c : Thread nD τ), xcell s) 0
        ∗ (∃ f, (xslot s).view.loc (c : Thread nD τ) ↦[(xslot s).view.set]{fullShare} f) ∗ xtok c s Finset.univ fx) := fun s => by
    rw [xslotAt_none]
    unfold xfreeAt
    iintro ⟨%f, H1, H2, H3⟩
    isplitl [H1]; · iexact H1
    isplitl [H2]; · iexists f; iexact H2
    iexact H3
  have k2 : ∀ s : Fin 4, iprop(semVal ((c : Thread nD τ), xcell s) 0
        ∗ (∃ f, (xslot s).view.loc (c : Thread nD τ) ↦[(xslot s).view.set]{fullShare} f) ∗ xtok c s Finset.univ fx)
        ⊢ (xslotAt c fx s none : sProp 𝕄) := fun s => by
    rw [xslotAt_none]
    unfold xfreeAt
    iintro ⟨H1, ⟨%f, H2⟩, H3⟩
    iexists f
    isplitl [H1]; · iexact H1
    isplitl [H2]; · iexact H2
    iexact H3
  exact ⟨bigSep_mono fun s _ => k1 s, bigSep_mono fun s _ => k2 s⟩

/-- The ring of blocks, whole, is its slots. -/
theorem hslots_split (c : Dev nD) (f : Buf (Elt F) ((c : Thread nD τ).loc cc0_scratch0)) :
    ((c : Thread nD τ).loc cc0_scratch0 ↦{fullShare} f : sProp 𝕄)
      ⊢ bigSep Finset.univ (fun s => iprop(∃ f, (hslot s).view.loc (c : Thread nD τ) ↦[(hslot s).view.set]{fullShare} f)) := by
  rw [Ring.pointsTo_blocks (ℓ := (c : Thread nD τ).loc cc0_scratch0) hset hset_disjoint hset_cover]
  have key : ∀ s, ((c : Thread nD τ).loc cc0_scratch0 ↦[hset s]{fullShare} f : sProp 𝕄)
      ⊢ iprop(∃ f, (hslot s).view.loc (c : Thread nD τ) ↦[(hslot s).view.set]{fullShare} f) := fun s => by
    iintro H; iexists f; iexact H
  exact bigSep_mono fun s _ => key s

theorem hslots_join (c : Dev nD) (f₀ : Buf (Elt F) ((c : Thread nD τ).loc cc0_scratch0)) :
    bigSep Finset.univ (fun s => iprop(∃ f, (hslot s).view.loc (c : Thread nD τ) ↦[(hslot s).view.set]{fullShare} f))
      ⊢ (iprop(∃ f, (c : Thread nD τ).loc cc0_scratch0 ↦{fullShare} f) : sProp 𝕄) :=
  Ring.pointsTo_blocks_join_exists (ℓ := (c : Thread nD τ).loc cc0_scratch0) hset hset_disjoint hset_cover f₀

/-- The ring of row chunks, whole, is its slots. -/
theorem xslots_split (c : Dev nD) (f : Buf (Elt F) ((c : Thread nD τ).loc cc0_scratch1)) :
    ((c : Thread nD τ).loc cc0_scratch1 ↦{fullShare} f : sProp 𝕄)
      ⊢ bigSep Finset.univ (fun s => iprop(∃ f, (xslot s).view.loc (c : Thread nD τ) ↦[(xslot s).view.set]{fullShare} f)) := by
  rw [Ring.pointsTo_blocks (ℓ := (c : Thread nD τ).loc cc0_scratch1) xset xset_disjoint xset_cover]
  have key : ∀ s, ((c : Thread nD τ).loc cc0_scratch1 ↦[xset s]{fullShare} f : sProp 𝕄)
      ⊢ iprop(∃ f, (xslot s).view.loc (c : Thread nD τ) ↦[(xslot s).view.set]{fullShare} f) := fun s => by
    iintro H; iexists f; iexact H
  exact bigSep_mono fun s _ => key s

theorem xslots_join (c : Dev nD) (f₀ : Buf (Elt F) ((c : Thread nD τ).loc cc0_scratch1)) :
    bigSep Finset.univ (fun s => iprop(∃ f, (xslot s).view.loc (c : Thread nD τ) ↦[(xslot s).view.set]{fullShare} f))
      ⊢ (iprop(∃ f, (c : Thread nD τ).loc cc0_scratch1 ↦{fullShare} f) : sProp 𝕄) :=
  Ring.pointsTo_blocks_join_exists (ℓ := (c : Thread nD τ).loc cc0_scratch1) xset xset_disjoint xset_cover f₀

/-- The result, whole, is its blocks. -/
theorem out_split (c : Dev nD) (B : Fin 64 → Blk F) (f : Buf (Elt F) ((c : Thread nD τ).loc main_v1_0)) :
    ((c : Thread nD τ).loc main_v1_0 ↦{fullShare} f : sProp 𝕄) ⊢ Ring.AtW (outAt c B) (fun _ => .todo) := by
  rw [Ring.pointsTo_blocks (ℓ := (c : Thread nD τ).loc main_v1_0) oset oset_disjoint oset_cover]
  have key : ∀ s, ((c : Thread nD τ).loc main_v1_0 ↦[oset s]{fullShare} f : sProp 𝕄) ⊢ outAt c B s .todo := fun s => by
    unfold outAt
    iintro H; iexists f; iexact H
  exact bigSep_mono fun s _ => key s

theorem out_join (c : Dev nD) (B : Fin 64 → Blk F) :
    (Ring.AtW (outAt c B) (fun _ => .done) : sProp 𝕄) ⊢ ((c : Thread nD τ).loc main_v1_0 ↦{fullShare} gather c B : sProp 𝕄) := by
  rw [Ring.pointsTo_blocks (ℓ := (c : Thread nD τ).loc main_v1_0) oset oset_disjoint oset_cover]
  have key : ∀ b, (outAt c B b .done : sProp 𝕄) ⊢ ((c : Thread nD τ).loc main_v1_0 ↦[oset b]{fullShare} gather c B : sProp 𝕄) := fun b => by
    unfold outAt
    iintro ⟨%g, H⟩
    iapply (Entails.of_eq (pointsTo_congr (gather_block c B b g)))
    iexact H
  exact bigSep_mono fun b _ => key b

end Cert.Kernel.Hand

end
-- ==== Proof.Run.lean ====
module

public import proofs.«01_k».proof.Proof.Split
public import proofs.«01_k».proof.Proof.Gen.Kernel.Frame

/-! # The launch

From the memory as launched to the memory as left: the one point of the grid runs the body, the
result is what the blocks say, and the counts are what the loop over the experts stored. -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.ShloMosaic.Pipeline (Dat BodyObligation Cfg)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

variable (m : (ℓ : Loc nD τ sig) → Buf (Elt F) ℓ) (ρ : Dev nD → PrngReg)

/-- The staged inputs: the row offsets, the previous counts and the scales. -/
def foM (c : Dev nD) : BufO F c := iblk m c 0 t0_0
def fnM (c : Dev nD) : BufN F c := iblk m c 1 t0_0
def fsM (c : Dev nD) : BufS F c := iblk m c 2 t0_0
/-- The arrays the body reads from memory: the rows and the previous values. -/
def fxM (c : Dev nD) : BufX F c := V m c main_arg0
def fHM (c : Dev nD) : BufH F c := V m c main_arg3

variable (hok : ∀ c, OffOk c (foM m c))

/-- The blocks of the result. -/
def OBM (c : Dev nD) : Fin 64 → Blk F := OB c (foM m c) (fnM m c) (fsM m c) (fxM m c) (fHM m c) (hok c)

/-- The counts stored. -/
def cntM (c : Dev nD) : BufC F c := fun (i : S64.Idx) => newN c (foM m c) (fnM m c) (i (0 : Fin 1)).val

/-- The buffers the body reaches by its own transfers. -/
abbrev R0 : Finset (Ref sig .tc) := {main_arg0, main_arg3, main_v1_0}
theorem R0_sub : R0 ⊆ Pipeline.restRefs sig spec0 := by decide

/-- Memory after the region, where the body writes it. -/
def YM (c : Dev nD) : (b : Ref sig .tc) → Buf (Elt F) ((c.tc : Thread nD τ).loc b) :=
  Function.update (V m c) main_v1_0 (gather c (OBM m hok c))

theorem ownSemFacts0 : Pipeline.OwnSemFacts spec0 osem0 := by decide

theorem routed0_eq (c : Dev nD) (W : (b : Ref sig .tc) → Buf (Elt F) ((c.tc : Thread nD τ).loc b)) :
    (Pipeline.routed R0 c W : sProp 𝕄)
      = iprop(((c : Thread nD τ).loc main_arg0 ↦{fullShare} W main_arg0) ∗ ((c : Thread nD τ).loc main_arg3 ↦{fullShare} W main_arg3)
        ∗ ((c : Thread nD τ).loc main_v1_0 ↦{fullShare} W main_v1_0)) := by
  unfold Pipeline.routed
  rw [bigSep_insert (by decide), bigSep_insert (by decide), bigSep_singleton]
  rfl

/-- The proof data of the one pipeline. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => cntM m c
  Φ t := if t.val = 0 then Pipeline.Ends spec0 osem0 R0 c (V m c) else Pipeline.Ends spec0 osem0 R0 c (YM m hok c)
  q _ := fullShare
  owed _ := 0

theorem A_eq (c : Dev nD) (w : Fin cfg0.W) : (dats m hok 0 c).A w = V m c (Pipeline.arrRef spec0 w) := by
  dsimp only [dats]

theorem before_0 (c : Dev nD) (t : Fin cfg0.N) (d) : (dats m hok 0 c).before 0 t d = iblk m c 0 t :=
  ((dats m hok 0 c).before_in_eq_fetched 0 rfl (fun _ => rfl) (fun _ _ _ => rfl) (fun t => by
    show iblk m c 0 t = _; unfold Dat.blockOf iblk; rw [A_eq]; try rfl) t d).trans
    (by unfold Dat.fetched Dat.blockOf iblk; rw [A_eq]; try rfl)
theorem before_1 (c : Dev nD) (t : Fin cfg0.N) (d) : (dats m hok 0 c).before 1 t d = iblk m c 1 t :=
  ((dats m hok 0 c).before_in_eq_fetched 1 rfl (fun _ => rfl) (fun _ _ _ => rfl) (fun t => by
    show iblk m c 1 t = _; unfold Dat.blockOf iblk; rw [A_eq]; try rfl) t d).trans
    (by unfold Dat.fetched Dat.blockOf iblk; rw [A_eq]; try rfl)
theorem before_2 (c : Dev nD) (t : Fin cfg0.N) (d) : (dats m hok 0 c).before 2 t d = iblk m c 2 t :=
  ((dats m hok 0 c).before_in_eq_fetched 2 rfl (fun _ => rfl) (fun _ _ _ => rfl) (fun t => by
    show iblk m c 2 t = _; unfold Dat.blockOf iblk; rw [A_eq]; try rfl) t d).trans
    (by unfold Dat.fetched Dat.blockOf iblk; rw [A_eq]; try rfl)

/-- The parts of memory the body starts from. -/
def partsB (c : Dev nD) : sProp 𝕄 := iprop((∃ f, ((Memref.whole cc0_scratch2).view.loc (c : Thread nD τ) ↦{fullShare} f))
    ∗ (∃ f, ((Memref.whole cc0_scratch3).view.loc (c : Thread nD τ) ↦{fullShare} f)) ∗ (∃ f, ((Memref.whole cc0_scratch4).view.loc (c : Thread nD τ) ↦{fullShare} f))
    ∗ Ring.AtW (hslotAt c (fHM m c) (OBM m hok c)) (fun _ => HSt.free)
    ∗ Ring.AtW (xslotAt c (fxM m c)) (fun _ => none)
    ∗ ((c : Thread nD τ).loc main_arg3 ↦{Transfers.shareDrop fullShare 7} fHM m c)
    ∗ ((c : Thread nD τ).loc main_arg0 ↦{Transfers.shareDrop fullShare 4} fxM m c)
    ∗ ∃ r, prngReg c r)

theorem entry (c : Dev nD) :
    (Pipeline.Ends spec0 osem0 R0 c (V m c) : sProp 𝕄)
      ⊢ iprop(partsB m hok c ∗ Ring.AtW (outAt c (OBM m hok c)) (fun _ => .todo)) := by
  unfold Pipeline.Ends partsB
  rw [routed0_eq, ownSems0_split, scopedRest0_eq, hring_eq]
  iintro ⟨⟨H0, H3, Hv⟩, ⟨Hi, Ho, Hx⟩, ⟨⟨%f0, S0⟩, ⟨%f1, S1⟩, S2, S3, S4⟩, Hr⟩
  ihave S0 := (hslots_split c f0) $$ S0
  ihave S1 := (xslots_split c f1) $$ S1
  ihave Hv := (out_split c (OBM m hok c) _) $$ Hv
  ihave H0 := (Transfers.pointsTo_toks_split fullShare 4) $$ H0
  ihave H3 := (Transfers.pointsTo_toks_split fullShare 7) $$ H3
  icases H0 with ⟨H0, T0⟩
  icases H3 with ⟨H3, T3⟩
  isplitr [Hv]; rotate_left; · iexact Hv
  isplitl [S2]; · iexact S2
  isplitl [S3]; · iexact S3
  isplitl [S4]; · iexact S4
  isplitl [Hi Ho S0 T3]
  · isplitl [Hi]; · iexact Hi
    isplitl [Ho]; · iexact Ho
    isplitl [S0]; · iexact S0
    iexact T3
  isplitl [Hx S1 T0]
  · iapply (xring_eq c (fxM m c)).2
    isplitl [Hx]; · iexact Hx
    isplitl [S1]; · iexact S1
    iexact T0
  isplitl [H3]; · iexact H3
  isplitl [H0]; · iexact H0
  iexact Hr

theorem YM_arg0 (c : Dev nD) : YM m hok c main_arg0 = V m c main_arg0 := Function.update_of_ne (by decide) _ _
theorem YM_arg3 (c : Dev nD) : YM m hok c main_arg3 = V m c main_arg3 := Function.update_of_ne (by decide) _ _
theorem YM_out (c : Dev nD) : YM m hok c main_v1_0 = gather c (OBM m hok c) := Function.update_self _ _ _

theorem exit (c : Dev nD) :
    iprop(partsB m hok c ∗ Ring.AtW (outAt c (OBM m hok c)) (fun _ => .done))
      ⊢ (Pipeline.Ends spec0 osem0 R0 c (YM m hok c) : sProp 𝕄) := by
  unfold Pipeline.Ends partsB
  rw [routed0_eq, ownSems0_split, scopedRest0_eq, hring_eq, YM_arg0, YM_arg3, YM_out]
  iintro ⟨⟨S2, S3, S4, ⟨Hi, Ho, S0, T3⟩, HX, H3, H0, Hr⟩, Hv⟩
  ihave HX := (xring_eq c (fxM m c)).1 $$ HX
  icases HX with ⟨Hx, S1, T0⟩
  ihave S0 := (hslots_join c (Memref.whole cc0_scratch0).view.junk) $$ S0
  ihave S1 := (xslots_join c (Memref.whole cc0_scratch1).view.junk) $$ S1
  ihave Hv := (out_join c (OBM m hok c)) $$ Hv
  isplitl [H0 H3 Hv T0 T3]
  · isplitl [H0 T0]
    · iapply (Transfers.pointsTo_toks_join fullShare 4)
      isplitl [H0]; · iexact H0
      iexact T0
    isplitl [H3 T3]
    · iapply (Transfers.pointsTo_toks_join fullShare 7)
      isplitl [H3]; · iexact H3
      iexact T3
    iexact Hv
  isplitl [Hi Ho Hx]
  · isplitl [Hi]; · iexact Hi
    isplitl [Ho]; · iexact Ho
    iexact Hx
  isplitl [S0 S1 S2 S3 S4]
  · isplitl [S0]; · iexact S0
    isplitl [S1]; · iexact S1
    isplitl [S2]; · iexact S2
    isplitl [S3]; · iexact S3
    iexact S4
  iexact Hr

/-! ## The one point -/

def bodyPre (c : Dev nD) (t : Fin cfg0.N) : sProp 𝕄 :=
  iprop((dats m hok 0 c).Φ t.castSucc ∗ (dats m hok 0 c).owesAt () t.castSucc
    ∗ (∃ d, owns (c : Thread nD τ) (st0_0 t) fullShare ((dats m hok 0 c).before 0 t d))
    ∗ (∃ d, owns (c : Thread nD τ) (st0_1 t) fullShare ((dats m hok 0 c).before 1 t d))
    ∗ (∃ d, owns (c : Thread nD τ) (st0_2 t) fullShare ((dats m hok 0 c).before 2 t d))
    ∗ (∃ d, owns (c : Thread nD τ) (st0_3 t) fullShare ((dats m hok 0 c).before 3 t d)))
def bodyPost (c : Dev nD) (t : Fin cfg0.N) : sProp 𝕄 :=
  iprop((dats m hok 0 c).Φ t.succ ∗ (dats m hok 0 c).owesAt () t.succ
    ∗ owns (c : Thread nD τ) (st0_0 t) fullShare ((dats m hok 0 c).after 0 t)
    ∗ owns (c : Thread nD τ) (st0_1 t) fullShare ((dats m hok 0 c).after 1 t)
    ∗ owns (c : Thread nD τ) (st0_2 t) fullShare ((dats m hok 0 c).after 2 t)
    ∗ owns (c : Thread nD τ) (st0_3 t) fullShare ((dats m hok 0 c).after 3 t))

/-- A staging buffer at its contents. -/
theorem own0 (c : Dev nD) (X : BufO F c) :
    (owns (c : Thread nD τ) (st0_0 t0_0) fullShare X : sProp 𝕄) = ((Memref.whole cc0_stg0_0).view.loc (c : Thread nD τ) ↦{fullShare} X) :=
  owns_whole (c : Thread nD τ) cc0_stg0_0 fullShare X
theorem own1 (c : Dev nD) (X : BufN F c) :
    (owns (c : Thread nD τ) (st0_1 t0_0) fullShare X : sProp 𝕄) = ((Memref.whole cc0_stg1_0).view.loc (c : Thread nD τ) ↦{fullShare} X) :=
  owns_whole (c : Thread nD τ) cc0_stg1_0 fullShare X
theorem own2 (c : Dev nD) (X : BufS F c) :
    (owns (c : Thread nD τ) (st0_2 t0_0) fullShare X : sProp 𝕄) = ((Memref.whole cc0_stg2_0).view.loc (c : Thread nD τ) ↦{fullShare} X) :=
  owns_whole (c : Thread nD τ) cc0_stg2_0 fullShare X
theorem own3 (c : Dev nD) (X : BufC F c) :
    (owns (c : Thread nD τ) (st0_3 t0_0) fullShare X : sProp 𝕄) = ((Memref.whole cc0_stg3_0).view.loc (c : Thread nD τ) ↦{fullShare} X) :=
  owns_whole (c : Thread nD τ) cc0_stg3_0 fullShare X

/-- The counts, all stored, are the counts. -/
theorem cnt_all (c : Dev nD) (fc : BufC F c) (h : ∀ e, e < 64 → cW c fc e = newN c (foM m c) (fnM m c) e) : fc = cntM m c := by
  funext (i : S64.Idx)
  have h1 := h (i (0 : Fin 1)).val (i (0 : Fin 1)).isLt
  unfold cntM
  rw [← h1]
  have e : i = ix64 (i (0 : Fin 1)).val := by
    funext a
    match a with
    | ⟨0, _⟩ => exact Fin.ext (Nat.mod_eq_of_lt (i (0 : Fin 1)).isLt).symm
  exact congrArg fc e

theorem sound_body (c : Dev nD) :
    bodyPre m hok c t0_0 ⊢ wp frame (wpE (defs₀ (F := F)) Variants.none c none) Set.univ (bodyAt0 t0_0) (fun _ => bodyPost m hok c t0_0) := by
  unfold bodyPre bodyPost
  rw [show (dats m hok 0 c).Φ t0_0.castSucc = Pipeline.Ends spec0 osem0 R0 c (V m c) from by dsimp only [dats]; exact if_pos rfl,
    show (dats m hok 0 c).Φ t0_0.succ = Pipeline.Ends spec0 osem0 R0 c (YM m hok c) from by dsimp only [dats]; exact if_neg (Nat.succ_ne_zero _)]
  rw [show (dats m hok 0 c).after 0 t0_0 = foM m c from rfl, show (dats m hok 0 c).after 1 t0_0 = fnM m c from rfl,
    show (dats m hok 0 c).after 2 t0_0 = fsM m c from rfl, show (dats m hok 0 c).after 3 t0_0 = cntM m c from rfl]
  unfold Dat.owesAt Pipeline.owesWithin
  rw [show (dats m hok 0 c).owed t0_0.castSucc = 0 from rfl, show (dats m hok 0 c).owed t0_0.succ = 0 from rfl]
  iintro ⟨HE, ⟨%W, -, HW⟩, ⟨%d0, H0⟩, ⟨%d1, H1⟩, ⟨%d2, H2⟩, ⟨%d3, H3⟩⟩
  ihave HE := (entry m hok c) $$ HE
  icases HE with ⟨HP, HU⟩
  ihave H0 := (Entails.of_eq ((congrArg _ (before_0 m hok c t0_0 d0)).trans (own0 c (foM m c)))) $$ H0
  ihave H1 := (Entails.of_eq ((congrArg _ (before_1 m hok c t0_0 d1)).trans (own1 c (fnM m c)))) $$ H1
  ihave H2 := (Entails.of_eq ((congrArg _ (before_2 m hok c t0_0 d2)).trans (own2 c (fsM m c)))) $$ H2
  ihave H3 := (Entails.of_eq (own3 c ((dats m hok 0 c).before 3 t0_0 d3))) $$ H3
  unfold partsB
  icases HP with ⟨S2, S3, S4, HH, HX, D3, D0, Hr⟩
  ihave HB : preB c (foM m c) (fnM m c) (fsM m c) (fxM m c) (fHM m c) (hok c) $$ [H0 H1 H2 H3 S2 S3 S4 HH HU HX HW]
  · unfold preB
    isplitl [H0]; · iexact H0
    isplitl [H1]; · iexact H1
    isplitl [H2]; · iexact H2
    isplitl [H3]; · iexists _; iexact H3
    isplitl [S2]; · iexact S2
    isplitl [S3]; · iexact S3
    isplitl [S4]; · iexact S4
    isplitl [HH]; · iexact HH
    isplitl [HU]; · iexact HU
    isplitl [HX]; · iexact HX
    iexists W; iexact HW
  ihave HB := (body c Variants.none (foM m c) (fnM m c) (fsM m c) (fxM m c) (fHM m c) (hok c)) $$ HB
  iapply wp_wand_r
  isplitl [HB]; · iexact HB
  iintro %_ HB
  unfold postB
  icases HB with ⟨H0, H1, H2, ⟨%fc, %hfc, H3⟩, S2, S3, S4, HH, HU, HX, ⟨%W', HW⟩⟩
  rw [cnt_all m c fc hfc]
  isplitl [S2 S3 S4 HH HU HX D3 D0 Hr]
  · iapply (exit m hok c)
    isplitr [HU]; rotate_left; · iexact HU
    unfold partsB
    isplitl [S2]; · iexact S2
    isplitl [S3]; · iexact S3
    isplitl [S4]; · iexact S4
    isplitl [HH]; · iexact HH
    isplitl [HX]; · iexact HX
    isplitl [D3]; · iexact D3
    isplitl [D0]; · iexact D0
    iexact Hr
  isplitl [HW]
  · iexists W'; isplitr; · ipureintro; exact fun _ _ => Or.inl trivial
    iexact HW
  isplitl [H0]; · iapply (Entails.of_eq (own0 c (foM m c)).symm); iexact H0
  isplitl [H1]; · iapply (Entails.of_eq (own1 c (fnM m c)).symm); iexact H1
  isplitl [H2]; · iapply (Entails.of_eq (own2 c (fsM m c)).symm); iexact H2
  iapply (Entails.of_eq (own3 c (cntM m c)).symm); iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m hok 0 c) (defs₀ (F := F)) Variants.none () Set.univ := fun t => by
  obtain rfl := fin_N0 t
  rw [bigSep_W0, bigSep_W0, defs₀_row]
  exact triple_restated (sound_body m hok c) rfl .rfl fun _ => .rfl

/-! ## The run -/

set_option backward.isDefEq.respectTransparency.types false in
/-- What a run of the kernel ends with. -/
theorem run_main : θ_run defs (onTc (τ := τ) (main (F := F))) (s₀ m ρ)
    (fun r => Pipeline.RoutedPost cfgs (dats m hok) 0 R0 (V m) (YM m hok) r ∧ r.2.sem = fun _ => 0) :=
  Pipeline.θ_run_frame_routed (Q' := _) cfgs (dats m hok) (0 : Fin 1) launch0 ownSemFacts0 defs₀ Variants.none m ρ main
    (hbody := fun c => (body_obligation m hok c).loose) (hshare := fun c => (dats m hok 0 c).share_full fun _ => rfl)
    (howed := fun _ _ => rfl) (V := V m)
    (hmain := Pipeline.hmain_prefix cfgs 0 defs₀ Variants.none m main hostOps0 hostOps0_sub hostOps0_fresh main_chain)
    (hA := A_eq m hok) (R := R0) (hR := R0_sub) (Y := YM m hok)
    (hin := fun c => by dsimp only [dats]; exact Entails.of_eq (if_pos rfl).symm)
    (hout := fun c => by dsimp only [dats]; exact Entails.of_eq (if_neg (by decide)))
    (hQ' := fun _ h => h)

/-- The arguments end as they began, and every counter is at zero; the results are what the body says. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1_0) = gather c (OBM m hok c)
      ∧ r.2.mem ((c.tc : Thread nD τ).loc main_v1_1) = (dats m hok 0 c).arrAt 3 cfg0.N)
      ∧ r.2.sem = fun _ => 0) :=
  (θ_run defs _ _).mono (fun _ h => ⟨fun c =>
      ⟨⟨((h.1 c).2.1 main_arg0 (by decide)).trans ((YM_arg0 m hok c).trans (V_main_arg0 m c)),
        ((h.1 c).2.2 main_arg1 (Finset.mem_sdiff.mpr ⟨Pipeline.mem_restRefs_of main_arg1 (by decide) (by decide), by decide⟩)).trans (V_main_arg1 m c),
        ((h.1 c).1 0).trans (((dats m hok 0 c).arrAt_in 0 rfl _).trans ((A_eq m hok c 0).trans (V_main_arg2 m c))),
        ((h.1 c).2.1 main_arg3 (by decide)).trans ((YM_arg3 m hok c).trans (V_main_arg3 m c)),
        ((h.1 c).1 1).trans (((dats m hok 0 c).arrAt_in 1 rfl _).trans ((A_eq m hok c 1).trans (V_main_arg4 m c)))⟩,
       ((h.1 c).2.1 main_v1_0 (by decide)).trans (YM_out m hok c), (h.1 c).1 3⟩, h.2⟩) (run_main m ρ hok)

end Cert.Kernel.Hand

end
-- ==== Proof.Valid.lean ====
module

public import proofs.«01_k».proof.Pre_in_range
public import proofs.«01_k».proof.Pre_valid
public import Idealize.ShloMosaic.Lib.ReduceAll
public import Idealize.ShloMosaic.Lib.WordCmp

/-! # What the preconditions say

`in_range`: the row offsets are sorted row numbers. `valid`: so they are, and no expert has seen a negative
number of rows. -/

@[expose] public section

namespace Cert.Valid

open Idealize.ShloMosaic Cert.Pre_valid

theorem and_one {a b : BitVec 1} (h : a &&& b = 1#1) : a = 1#1 ∧ b = 1#1 := by
  revert a b; decide

/-- Offset `e`. -/
def ix65 (e : ℕ) (h : e < 65) : S65.Idx := fun a => ⟨e, by fin_cases a; exact h⟩
def ix64 (e : ℕ) (h : e < 64) : S64.Idx := fun a => ⟨e, by fin_cases a; exact h⟩

instance : Subsingleton S_.Idx := ⟨fun a b => funext fun i => i.elim0⟩

/-- `in_range`, entry by entry. -/
structure Sorted (a2 : IVec S65 32) : Prop where
  pos : ∀ i, 0 ≤ (a2 i).toInt
  le : ∀ i, (a2 i).toInt ≤ 18432
  mono : ∀ (e : ℕ) (h : e < 64), (a2 (ix65 e (by omega))).toInt ≤ (a2 (ix65 (e + 1) (by omega))).toInt

/-- `valid`, entry by entry. -/
structure Says (a2 : IVec S65 32) (a4 : IVec S64 32) : Prop extends Sorted a2 where
  prev : ∀ i, 0 ≤ (a4 i).toInt

variable {F : FTy → Type} [FloatOps F]

theorem cmp_one {b : Bool} (h : BitVec.ofBool b = 1#1) : b = true := by revert b; decide

/-- What the slices of the offsets compared in order say. -/
theorem mono_of (a2 : IVec S65 32) (s0 : S65.Slices ![0] S64) (s1 : S65.Slices ![1] S64)
    (km : ∀ i, cmpi .sle (extractStridedSlice S64 ![0] a2 s0) (extractStridedSlice S64 ![1] a2 s1) i = 1#1) (e : ℕ) (he : e < 64) :
    (a2 (ix65 e (by omega))).toInt ≤ (a2 (ix65 (e + 1) (by omega))).toInt := by
  have k := of_decide_eq_true (cmp_one (km (ix64 e he)))
  have e0 : extractStridedSlice S64 ![0] a2 s0 (ix64 e he) = a2 (ix65 e (by omega)) :=
    congrArg a2 (funext fun a => Fin.ext (by fin_cases a; exact Nat.zero_add _))
  have e1 : extractStridedSlice S64 ![1] a2 s1 (ix64 e he) = a2 (ix65 (e + 1) (by omega)) :=
    congrArg a2 (funext fun a => Fin.ext (by fin_cases a; exact Nat.add_comm _ _))
  rw [← e0, ← e1]
  exact k

theorem of_in_range [Cert.Pre_in_range.Facts] (a0 : FVec F S18432x1408 .fp8e4m3) (a1 : FVec F S18432 .f32) (a2 : IVec S65 32)
    (a3 : FVec F S64x1408x1408 .f32) (a4 : IVec S64 32) (h : Cert.Pre_in_range.fn a0 a1 a2 a3 a4 = fun _ => 1#1) : Sorted a2 := by
  have h0 := congrFun h (fun a => a.elim0)
  unfold Cert.Pre_in_range.fn at h0
  obtain ⟨h2, hm⟩ := and_one h0
  obtain ⟨hg, hl⟩ := and_one h2
  have km := Host.reduce_andi_all _ _ _ _ _ hm
  have kg := Host.reduce_andi_all _ _ _ _ _ hg
  have kl := Host.reduce_andi_all _ _ _ _ _ hl
  exact ⟨fun i => of_decide_eq_true (cmp_one (kg i)), fun i => of_decide_eq_true (cmp_one (kl i)), mono_of a2 _ _ km⟩

theorem of_fn [Facts] (a0 : FVec F S18432x1408 .fp8e4m3) (a1 : FVec F S18432 .f32) (a2 : IVec S65 32) (a3 : FVec F S64x1408x1408 .f32) (a4 : IVec S64 32)
    (h : fn a0 a1 a2 a3 a4 = fun _ => 1#1) : Says a2 a4 := by
  have h0 := congrFun h (fun a => a.elim0)
  unfold fn at h0
  obtain ⟨h1, hp⟩ := and_one h0
  obtain ⟨h2, hm⟩ := and_one h1
  obtain ⟨hg, hl⟩ := and_one h2
  have kp := Host.reduce_andi_all _ _ _ _ _ hp
  have km := Host.reduce_andi_all _ _ _ _ _ hm
  have kg := Host.reduce_andi_all _ _ _ _ _ hg
  have kl := Host.reduce_andi_all _ _ _ _ _ hl
  exact ⟨⟨fun i => of_decide_eq_true (cmp_one (kg i)), fun i => of_decide_eq_true (cmp_one (kl i)), mono_of a2 _ _ km⟩,
    fun i => of_decide_eq_true (cmp_one (kp i))⟩

/-- The side conditions of `in_range`. -/
theorem in_range_facts : Cert.Pre_in_range.Facts where
  bcast_S_S65 := by decide
  reducesTo_S65_S_d0 := by decide
  h_S_ := by decide
  slices_S65_S64_0 := by decide
  slices_S65_S64_1 := by decide
  reducesTo_S64_S_d0 := by decide

end Cert.Valid
-- ==== Proof.Kframe.lean ====
module

public import proofs.«01_k».proof.Proof.Run
public import proofs.«01_k».proof.Proof.Valid
public import Idealize.ShloMosaic.Lib.Pipeline.ValueKit.Geometry

/-! # The kernel's frame

Under the precondition the run of `Run` holds: the row offsets are what the body asks of them. -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic
open Idealize.ShloMosaic.Pipeline (Dat BodyObligation Cfg)
open Idealize.SL Idealize.SL.RA Idealize.SL.BI Idealize.SL.Sem

variable {F : FTy → Type} [FloatOps F]
variable (m : (ℓ : Loc nD τ sig) → Buf (Elt F) ℓ) (ρ : Dev nD → PrngReg)

/-- The staged inputs are the arguments. -/
theorem foM_eq (c : Dev nD) : foM m c = m ((c : Thread nD τ).loc main_arg2) := by
  rw [← V_main_arg2 m c]
  funext (j : S65.Idx)
  have he : ((cfg0.win 0).blk t0_0).view.emb j = j := by
    funext a
    match a with
    | ⟨0, _⟩ => exact Fin.ext (show 0 * 65 + 1 * (j 0).val = (j 0).val by omega)
  show V m c main_arg2 (((cfg0.win 0).blk t0_0).view.emb j) = V m c main_arg2 j
  rw [he]
theorem fnM_eq (c : Dev nD) : fnM m c = m ((c : Thread nD τ).loc main_arg4) := by
  rw [← V_main_arg4 m c]
  funext (j : S64.Idx)
  have he : ((cfg0.win 1).blk t0_0).view.emb j = j := by
    funext a
    match a with
    | ⟨0, _⟩ => exact Fin.ext (show 0 * 64 + 1 * (j 0).val = (j 0).val by omega)
  show V m c main_arg4 (((cfg0.win 1).blk t0_0).view.emb j) = V m c main_arg4 j
  rw [he]
theorem fsM_eq (c : Dev nD) : fsM m c = V m c main_v0 := by
  funext (j : S144x128.Idx)
  have he : ((cfg0.win 2).blk t0_0).view.emb j = j := by
    funext a
    match a with
    | ⟨0, _⟩ => exact Fin.ext (show 0 * 144 + 1 * (j 0).val = (j 0).val by omega)
    | ⟨1, _⟩ => exact Fin.ext (show 0 * 128 + 1 * (j 1).val = (j 1).val by omega)
  show V m c main_v0 (((cfg0.win 2).blk t0_0).view.emb j) = V m c main_v0 j
  rw [he]

/-- The counts as left are the counts as stored. -/
theorem cnt_final (hok : ∀ c, OffOk c (foM m c)) (c : Dev nD) : (dats m hok 0 c).arrAt 3 cfg0.N = cntM m c := by
  funext (i : S64.Idx)
  exact (dats m hok 0 c).arrAt_emb_eq_after_last 3 t0_0 (by decide +kernel) i

/-- What the body asks of the row offsets. -/
theorem ok_of_sorted (c : Dev nD) (h : Cert.Valid.Sorted (m ((c : Thread nD τ).loc main_arg2))) : OffOk c (foM m c) := by
  have hw : ∀ e (he : e < 65), oW c (foM m c) e = m ((c : Thread nD τ).loc main_arg2) (Cert.Valid.ix65 e he) := fun e he => by
    rw [foM_eq]
    refine congrArg (m ((c : Thread nD τ).loc main_arg2)) ?_
    funext a
    fin_cases a
    exact Fin.ext (Nat.mod_eq_of_lt he)
  have hn : ∀ e (he : e < 65), (oW c (foM m c) e).toInt = ((oW c (foM m c) e).toNat : ℤ) := fun e he => by
    refine WordCmp.toInt_eq_toNat_of_lt_half ?_
    exact (WordCmp.toInt_nonneg_iff_lt_half _).mp (by rw [hw e he]; exact h.pos _)
  constructor
  · intro e he
    have h1 := hn e (by omega)
    have h2 := h.le (Cert.Valid.ix65 e (by omega))
    rw [← hw] at h2
    omega
  · intro e he
    have h1 := hn e (by omega)
    have h3 := hn (e + 1) (by omega)
    have h2 := h.mono e he
    rw [← hw, ← hw] at h2
    omega

/-- What is asked of memory. -/
def Good : Prop := ∀ c : Dev nD, Cert.Valid.Sorted (m ((c : Thread nD τ).loc main_arg2))

theorem Good.ok (h : Good m) (c : Dev nD) : OffOk c (foM m c) := ok_of_sorted m c (h c)

/-- A run ends with the arguments as they were, every counter at zero, and the results the body wrote. -/
theorem run_good (h : Good m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1_0) = gather c (OBM m (Good.ok m h) c)
      ∧ r.2.mem ((c.tc : Thread nD τ).loc main_v1_1) = cntM m c)
      ∧ r.2.sem = fun _ => 0) :=
  (θ_run defs _ _).mono (fun _ k => ⟨fun c => ⟨(k.1 c).1, (k.1 c).2.1, (k.1 c).2.2.trans (cnt_final m (Good.ok m h) c)⟩, k.2⟩)
    (run_all m ρ (Good.ok m h))

end Cert.Kernel.Hand

end
-- ==== Proof.Same.lean ====
module

public import proofs.«01_k».proof.Proof.Kframe
public import proofs.«01_k».proof.Proof.Gen.KernelIdeal

/-!
The kernel printed for the machine's arithmetic and the kernel printed for exact arithmetic are one
and the same program text, so what is proved of the first for every arithmetic holds of the second.
-/

@[expose] public section

noncomputable section

open Idealize.ShloMosaic Idealize.ShloMosaic.TcCoe Idealize.SL.Sem

namespace Cert.Kernel.Hand

variable {F : FTy → Type} [FloatOps F]

set_option maxRecDepth 100000
set_option maxHeartbeats 2000000

/-- The two printings give the kernel's labels the same bodies. -/
theorem defs₀_same : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl

/-- … and so, with the pipeline around them, all labels. -/
theorem defs_same : Cert.KernelIdeal.defs (F := F) = Cert.Kernel.defs (F := F) := by
  unfold Cert.KernelIdeal.defs Cert.Kernel.defs
  exact congrArg (Pipeline.defs _) defs₀_same

/-- The two main programs are the same. -/
theorem main_same : Cert.KernelIdeal.main (F := F) = Cert.Kernel.main (F := F) := by rfl

end Cert.Kernel.Hand

end
-- ==== Proof.Pay.lean ====
module

public import proofs.«01_k».proof.Proof.Base
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.Pipeline.Value

/-! # What one trip over a chunk computes, at an index

Over exact arithmetic: the column of masked scales, a piece of the scaled chunk and of its transpose, and a column
block of the matrix with the chunk's product added. -/

@[expose] public section

set_option maxRecDepth 16384

noncomputable section

namespace Cert.Kernel.Hand

open Cert.Kernel Cert.Kernel.Gen
open Idealize.ShloMosaic Idealize.ShloMosaic.ValueIdx

theorem zero_f32 : Ideal.ofBits .f32 0x00000000#32 = 0 := by simp [Ideal.ofBits, Ideal.ieee]

theorem one_f32 : Ideal.ofBits .f32 0x3F800000#32 = 1 := by
  rw [show (1 : EReal) = ((1 : ℝ) : EReal) by norm_cast]
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

/-- A piece of the scaled chunk: the codes times the scales. -/
theorem piece_apply (s : FVec Ideal S256x128 .bf16) (x : Vec Ideal S1x256x128 .fp8e4m3) (r : Fin 256) (j : Fin 128) :
    k0_pay11 s x (ix2 r j) = x (ix3 (0 : Fin 1) r j) * s (ix2 r j) := by
  unfold k0_pay11 k0_pay10
  rw [shapeCast_self, mulf_apply, extf_apply]
  exact congrArg (· * _) (shapeCast_1ab_ab_apply x _ r j)

/-- The piece's transpose. -/
theorem pieceT_apply (s : FVec Ideal S256x128 .bf16) (x : Vec Ideal S1x256x128 .fp8e4m3) (r : Fin 256) (j : Fin 128) :
    k0_pay12 s x (ix2 j r) = x (ix3 (0 : Fin 1) r j) * s (ix2 r j) := by
  refine Eq.trans ?_ (piece_apply s x r j)
  unfold k0_pay12 k0_pay11
  rw [shapeCast_self, shapeCast_self]
  exact transpose_ix2_apply (k0_pay10 s x) _ j r

/-- A column block of the matrix: what it held times a row of weights, and the product times another. -/
theorem block_apply (B kp : FVec Ideal S1x256 .f32) (xt : Vec Ideal S1408x256 .bf16) (xs : Vec Ideal S256x256 .bf16)
    (h : Vec Ideal S1x1408x256 .f32) (u : Fin 1) (d : Fin 1408) (f : Fin 256) :
    k0_pay40 B kp xt xs h (ix3 u d f)
      = h (ix3 (0 : Fin 1) d f) * kp (ix2 (0 : Fin 1) f) + (∑ r : Fin 256, xt (ix2 d r) * xs (ix2 r f)) * B (ix2 (0 : Fin 1) f) := by
  unfold k0_pay40
  refine (shapeCast_ab_1ab_apply _ _ u d f).trans ?_
  rw [addf_apply, mulf_apply, mulf_apply]
  refine congrArg₂ (· + ·) (congrArg₂ (· * ·) (shapeCast_1ab_ab_apply h _ d f) (broadcastTo_1b_ab_apply kp _ d f)) (congrArg₂ (· * ·) ?_ (broadcastTo_1b_ab_apply B _ d f))
  refine (Ideal.matmul_plain_apply (M := 1408) (K := 256) (N := 256) none xt xs _ d f).trans ?_
  rw [constant_apply, show Ideal.ofBits .f32 0x00000000#32 = 0 from zero_f32]
  exact zero_add _

/-- The last column block, half as wide. -/
theorem blockN_apply (v88 v91 v137 : Elt Ideal .i32) (kp : FVec Ideal S1x256 .f32) (xt : Vec Ideal S1408x256 .bf16) (xs : Vec Ideal S256x128 .bf16)
    (h : Vec Ideal S1x1408x128 .f32) (u : Fin 1) (d : Fin 1408) (f : Fin 128) (f' : Fin 256) (e : f'.val = f.val) :
    k0_pay89 v88 v91 v137 kp xt xs h (ix3 u d f)
      = h (ix3 (0 : Fin 1) d f) * kp (ix2 (0 : Fin 1) f') + (∑ r : Fin 256, xt (ix2 d r) * xs (ix2 r f)) * k0_pay87 v88 v91 v137 (ix2 (0 : Fin 1) f') := by
  unfold k0_pay89
  refine (shapeCast_ab_1ab_apply _ _ u d f).trans ?_
  rw [addf_apply, mulf_apply, mulf_apply]
  refine congrArg₂ (· + ·) (congrArg₂ (· * ·) (shapeCast_1ab_ab_apply h _ d f) ((broadcastTo_1b_ab_apply _ _ d f).trans (slice2_axis1_apply 0 kp _ 0 f f' (by omega))))
    (congrArg₂ (· * ·) ?_ ((broadcastTo_1b_ab_apply _ _ d f).trans (slice2_axis1_apply 0 _ _ 0 f f' (by omega))))
  refine (Ideal.matmul_plain_apply (M := 1408) (K := 256) (N := 128) none xt xs _ d f).trans ?_
  rw [constant_apply, show Ideal.ofBits .f32 0x00000000#32 = 0 from zero_f32]
  exact zero_add _

/-- The scales of a chunk's rows. -/
def rowScale (v204 v208 : FVec Ideal S1x128 .f32) (r : Fin 256) : EReal :=
  if h : r.val < 128 then v204 (ix2 (0 : Fin 1) ⟨r.val, h⟩) else v208 (ix2 (0 : Fin 1) ⟨r.val - 128, by omega⟩)

/-- The column of scales, zero outside the expert's rows. -/
theorem scale_apply (v88 v91 v182 : Elt Ideal .i32) (v183 : BitVec 32) (v204 v208 : FVec Ideal S1x128 .f32) (r : Fin 256) (j : Fin 128) :
    k0_pay3 v88 v91 v182 v183 v204 v208 (ix2 r j)
      = Scalar.select (IntOp.andi (IntOp.cmpi .sge (v183 + BitVec.ofNat 32 r.val) (Scalar.maxsi v88 v182)) (IntOp.cmpi .slt (v183 + BitVec.ofNat 32 r.val) v91))
          (rowScale v204 v208 r) (0 : EReal) := by
  unfold k0_pay3
  rw [truncf_apply]
  refine (transpose_ix2_apply _ _ r j).trans ?_
  refine (broadcastTo_1b_ab_apply _ _ j r).trans ?_
  rw [shapeCast_self, select_apply]
  have hc : ∀ (c c' : BitVec 1) (a a' b b' : EReal), c = c' → a = a' → b = b' → Scalar.select c a b = Scalar.select c' a' b' := by
    rintro c _ a _ b _ rfl rfl rfl; rfl
  have hi : iota .tc S1x256 32 [1] iota_S1x256_d1_w32 (ix2 (0 : Fin 1) r) = BitVec.ofNat 32 r.val := iota_single_apply _ _ _ _ _ _
  have h1 : concatenate S1x256 1 [⟨S1x128, v204⟩, ⟨S1x128, v208⟩] concatenates_S1x128_S1x128_S1x256_d1 (ix2 (0 : Fin 1) r) = rowScale v204 v208 r := by
    unfold rowScale
    split
    · rename_i h
      exact concatenate_pair_apply_left (1 : Fin 2) v204 v208 _ (ix2 (0 : Fin 1) r) rfl (ix2 (0 : Fin 1) ⟨r.val, h⟩) (by intro b; match b with | 0 => rfl | 1 => rfl)
    · rename_i h
      exact concatenate_pair_apply_right (1 : Fin 2) v204 v208 _ (ix2 (0 : Fin 1) r) rfl rfl (ix2 (0 : Fin 1) ⟨r.val - 128, by omega⟩)
        (by intro b hb; match b with | 0 => rfl | 1 => exact absurd rfl hb) (by show r.val - 128 + 128 = r.val; omega)
  exact hc _ _ _ _ _ _ (by rw [← hi]; rfl) h1 zero_f32

/-- The divisor: the tokens seen, at least one. -/
def total (n lo hi : BitVec 32) : EReal := max (((n + (hi - lo)).toInt : ℝ) : EReal) (Ideal.ofBits .f32 0x3F800000#32)

theorem keep_apply (lo hi n : BitVec 32) (f : Fin 256) :
    k0_pay86 (F := Ideal) lo hi n n (ix2 (0 : Fin 1) f) = Ideal.div ((n.toInt : ℝ) : EReal) (total n lo hi) := rfl

theorem new_apply (lo hi n : BitVec 32) (f : Fin 256) :
    k0_pay87 (F := Ideal) lo hi n (ix2 (0 : Fin 1) f) = Ideal.div (Ideal.ofBits .f32 0x40000000#32) (total n lo hi) := rfl

/-- On the first trip the matrix is scaled down; later it is kept. -/
theorem sel_apply (kp : FVec Ideal S1x256 .f32) (k : BitVec 32) (f : Fin 256) :
    k0_pay37 kp k (ix2 (0 : Fin 1) f) = if k = 0#32 then kp (ix2 (0 : Fin 1) f) else 1 := by
  unfold k0_pay37 Scalar.select
  by_cases h : k = 0#32
  · rw [if_pos h, if_pos (by rw [h]; decide)]
  · rw [if_neg h, if_neg (by simp only [Scalar.cmpi, IntOp.cmpi]; rw [show (k == 0#32) = false from beq_false_of_ne h]; decide)]
    exact one_f32

end Cert.Kernel.Hand

end
-- ==== Proof.TripVal.lean ====
module

public import proofs.«01_k».proof.Proof.Pay
public import proofs.«01_k».proof.Proof.Blocks
public import proofs.«01_k».proof.Proof.Run

/-! # What the scratch buffers of one trip hold -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic Idealize.ShloMosaic.ValueIdx

variable (c : Dev nD)

/-- The codes. -/
def X (fx : BufX Ideal c) (r : Fin 18432) (j : Fin 1408) : EReal := (Memref.whole main_arg0).view.read (Elt Ideal) fx (ix2 r j)

/-- The scale of a row. -/
def S (fs : BufS Ideal c) (r : Fin 18432) : EReal :=
  (Memref.whole cc0_stg2_0).view.read (Elt Ideal) fs (ix2 (⟨r.val / 128, by omega⟩ : Fin 144) (⟨r.val % 128, by omega⟩ : Fin 128))

/-- The slot of the fetched chunk, at a place of the chunk. -/
theorem xslot_read (k : Fin 4) (f) (r : Fin 256) (j : Fin 1408) :
    (xslot k).view.read (Elt Ideal) f (ix2 r j) = (Memref.whole cc0_scratch1).view.read (Elt Ideal) f (ix3 (⟨k.val, k.isLt⟩ : Fin 4) r j) := by
  refine (shapeCast_1ab_ab_apply (a := 256) (b := 1408) (((Memref.whole cc0_scratch1).slice (Rect.unit (s := S4x256x1408) ![k.val, 0, 0] S1x256x1408.size (xslot_inb k)) (fun _ => rfl)).view.read (Elt Ideal) f) _ r j).trans ?_
  refine congrArg ((Memref.whole cc0_scratch1).view.read (Elt Ideal) f) (funext fun a => Fin.ext ?_)
  match a with
  | 0 => show k.val + 1 * 0 = k.val; omega
  | 1 => show 0 + 1 * r.val = r.val; omega
  | 2 => show 0 + 1 * j.val = j.val; omega

/-- The slot of a block, at a place of the block. -/
theorem hslot_read (k : Fin 7) (f) (r : Fin 1408) (j : Fin 1408) :
    (hslot k).view.read (Elt Ideal) f (ix2 r j) = (Memref.whole cc0_scratch0).view.read (Elt Ideal) f (ix3 (⟨k.val, k.isLt⟩ : Fin 7) r j) := by
  refine (shapeCast_1ab_ab_apply (a := 1408) (b := 1408) (((Memref.whole cc0_scratch0).slice (Rect.unit (s := S7x1408x1408) ![k.val, 0, 0] S1x1408x1408.size (hslot_inb k)) (fun _ => rfl)).view.read (Elt Ideal) f) _ r j).trans ?_
  refine congrArg ((Memref.whole cc0_scratch0).view.read (Elt Ideal) f) (funext fun a => Fin.ext ?_)
  match a with
  | 0 => show k.val + 1 * 0 = k.val; omega
  | 1 => show 0 + 1 * r.val = r.val; omega
  | 2 => show 0 + 1 * j.val = j.val; omega

/-- A fetched chunk, at a place. -/
theorem xfetched (k : Fin 4) (fx : BufX Ideal c) (n : ℕ) (hn : RowOk n) (g) (r : Fin 256) (j : Fin 1408) :
    (xslot k).view.read (Elt Ideal) ((xslot k).view.writes (Elt Ideal) g [⟨Rect.whole S256x1408, ReadAs.same.apply (View.read (Elt Ideal) (xsrc n hn).view fx)⟩]) (ix2 r j)
      = X c fx ⟨n + r.val, by have := hn.2; omega⟩ j := by
  refine (View.read_writes_apply_of_pieces (xslot k).view g (View.read (Elt Ideal) (xsrc n hn).view fx) _ ?_ (ix2 r j) ?_).trans ?_
  · intro p hp x
    obtain rfl := List.mem_singleton.mp hp
    exact congrArg (View.read (Elt Ideal) (xsrc n hn).view fx) (funext fun a => Fin.ext (by show (x a).val = 0 + 1 * (x a).val; omega))
  · exact ⟨_, List.mem_singleton.mpr rfl, by rw [Rect.set_whole]; exact Finset.mem_univ _⟩
  · refine congrArg ((Memref.whole main_arg0).view.read (Elt Ideal) fx) (funext fun a => Fin.ext ?_)
    match a with
    | 0 => show n + 1 * r.val = n + r.val; omega
    | 1 => show 0 + 1 * j.val = j.val; omega

/-- A column piece of a slot. -/
theorem xslot_piece (k : Fin 4) (f) (off : Fin 3 → ℕ) (inb) (o : ℕ) (ho : off = ![k.val, 0, o]) (h : o + 128 ≤ 1408) (r : Fin 256) (j : Fin 128) :
    View.readAt (Elt Ideal) (Memref.whole cc0_scratch1).view (Rect.unit (s := S4x256x1408) off S1x256x128.size inb).toLoadRect f (ix3 (0 : Fin 1) r j)
      = (xslot k).view.read (Elt Ideal) f (ix2 r (⟨o + j.val, by omega⟩ : Fin 1408)) := by
  subst ho
  refine Eq.trans ?_ (xslot_read k f r ⟨o + j.val, by omega⟩).symm
  refine congrArg ((Memref.whole cc0_scratch1).view.read (Elt Ideal) f) (funext fun a => Fin.ext ?_)
  match a with
  | 0 => show k.val + 1 * 0 = k.val; omega
  | 1 => show 0 + 1 * r.val = r.val; omega
  | 2 => show o + 1 * j.val = o + j.val; omega

/-- A column piece of a fetched chunk. -/
theorem xpiece (k : Fin 4) (fx : BufX Ideal c) (n : ℕ) (hn : RowOk n) (g) (off : Fin 3 → ℕ) (inb) (o : ℕ) (ho : off = ![k.val, 0, o]) (h : o + 128 ≤ 1408)
    (r : Fin 256) (j : Fin 128) :
    View.readAt (Elt Ideal) (Memref.whole cc0_scratch1).view (Rect.unit (s := S4x256x1408) off S1x256x128.size inb).toLoadRect
        ((xslot k).view.writes (Elt Ideal) g [⟨Rect.whole S256x1408, ReadAs.same.apply (View.read (Elt Ideal) (xsrc n hn).view fx)⟩]) (ix3 (0 : Fin 1) r j)
      = X c fx ⟨n + r.val, by have := hn.2; omega⟩ ⟨o + j.val, by omega⟩ :=
  (xslot_piece k _ off inb o ho h r j).trans (xfetched c k fx n hn g r ⟨o + j.val, by omega⟩)

/-- A row of scales. -/
theorem spiece (fs : BufS Ideal c) (off : Fin 2 → ℕ) (inb) (o : ℕ) (ho : off = ![o, 0]) (h : o < 144) (j : Fin 128) :
    shapeCast S1x128 (View.readAt (Elt Ideal) (Memref.whole cc0_stg2_0).view (Rect.unit (s := S144x128) off S1x128.size inb).toLoadRect fs) shapeCasts_S1x128_S1x128 (ix2 (0 : Fin 1) j)
      = S c fs ⟨o * 128 + j.val, by omega⟩ := by
  subst ho
  refine (congrFun (shapeCast_self (s := S1x128) _ shapeCasts_S1x128_S1x128) (ix2 (0 : Fin 1) j)).trans ?_
  refine congrArg ((Memref.whole cc0_stg2_0).view.read (Elt Ideal) fs) (funext fun a => Fin.ext ?_)
  match a with
  | 0 => show o + 1 * 0 = (o * 128 + j.val) / 128; omega
  | 1 => show 0 + 1 * j.val = (o * 128 + j.val) % 128; omega

end Cert.Kernel.Hand

end
-- ==== Proof.TripMath.lean ====
module

public import proofs.«01_k».proof.Proof.TripVal

/-! # What one trip does to a block

The chunk's rows, masked and scaled, fill two scratch buffers, one of them transposed. Six stores then replace the
block by its weighted sum with the product of the two. -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic Idealize.ShloMosaic.ValueIdx

/-- The test that keeps a row of a chunk: at or past the row listed, at or past the expert's first, before its last. -/
theorem mask_eq (lo hi w : BitVec 32) (hlo : lo.toNat ≤ 18432) (hhi : hi.toNat ≤ 18432) (hw : w.toNat ≤ 40000) (r : ℕ) (hr : r < 256) :
    IntOp.andi (IntOp.cmpi .sge (Scalar.minsi w 18176#32 + BitVec.ofNat 32 r) (Scalar.maxsi lo w)) (IntOp.cmpi .slt (Scalar.minsi w 18176#32 + BitVec.ofNat 32 r) hi)
      = BitVec.ofBool (decide (max lo.toNat w.toNat ≤ rowW w + r ∧ rowW w + r < hi.toNat)) := by
  have hm : (Scalar.minsi w 18176#32).toNat = rowW w := rfl
  have hmle : rowW w ≤ 18176 := by
    show (IntOp.minsi w 18176#32).toNat ≤ _
    rw [WordArith.toNat_minsi_of_lt _ _ (by omega) (by decide)]; exact Nat.min_le_right _ _
  have e1 : (Scalar.minsi w 18176#32 + BitVec.ofNat 32 r).toNat = rowW w + r := by
    rw [BitVec.toNat_add, hm, BitVec.toNat_ofNat]; omega
  have e2 : (Scalar.maxsi lo w).toNat = max lo.toNat w.toNat := by
    show (IntOp.maxsi lo w).toNat = _
    unfold IntOp.maxsi
    have : w.slt lo = decide (w.toNat < lo.toNat) := by
      rw [BitVec.slt_eq_decide, BitVec.toInt_eq_toNat_of_lt (by omega), BitVec.toInt_eq_toNat_of_lt (by omega)]
      exact decide_eq_decide.mpr Int.ofNat_lt
    rw [this]
    by_cases h : w.toNat < lo.toNat
    · simp [h]; omega
    · simp [h]; omega
  rw [WordCmp.cmpi_sge_of_lt (by rw [e1]; omega) (by rw [e2]; omega), WordCmp.cmpi_slt_of_lt (by rw [e1]; omega) (by omega), e1, e2, WordCmp.andi_ofBool, ← Bool.decide_and]

variable (c : Dev nD) (fs : BufS Ideal c) (fx : BufX Ideal c)

/-- The scale of a row of the chunk listed as `w`, zero for the rows left out. -/
def maskS (lo hi w : BitVec 32) (hn : RowOk (rowW w)) (r : Fin 256) : EReal :=
  if max lo.toNat w.toNat ≤ rowW w + r.val ∧ rowW w + r.val < hi.toNat then S c fs ⟨rowW w + r.val, by have := hn.2; omega⟩ else 0

/-- The chunk's rows, scaled and masked. -/
def XS (lo hi w : BitVec 32) (hn : RowOk (rowW w)) (r : Fin 256) (j : Fin 1408) : EReal :=
  X c fx ⟨rowW w + r.val, by have := hn.2; omega⟩ j * maskS c fs lo hi w hn r

/-- What the first scratch buffer holds. -/
def G9 (lo hi w : BitVec 32) (hn : RowOk (rowW w)) : S256x1408.Idx → Elt Ideal .bf16 := fun y => XS c fs fx lo hi w hn (y 0) (y 1)
/-- What the second holds: the transpose. -/
def G10 (lo hi w : BitVec 32) (hn : RowOk (rowW w)) : S1408x256.Idx → Elt Ideal .bf16 := fun y => XS c fs fx lo hi w hn (y 1) (y 0)

/-- A piece of the scaled chunk is its columns. -/
theorem h9piece (v88 v91 w : BitVec 32) (hn : RowOk (rowW w)) (s : FVec Ideal S256x128 .bf16) (xp : Vec Ideal S1x256x128 .fp8e4m3) (o : ℕ) (inb) (h : o + 128 ≤ 1408)
    (hs : ∀ r j, s (ix2 r j) = maskS c fs v88 v91 w hn r)
    (hx : ∀ (r : Fin 256) (j : Fin 128), xp (ix3 (0 : Fin 1) r j) = X c fx ⟨rowW w + r.val, by have := hn.2; omega⟩ ⟨o + j.val, by omega⟩) (x : S256x128.Idx) :
    k0_pay11 s xp x = (G9 c fs fx v88 v91 w hn) ((Rect.unit (s := S256x1408) ![0, o] S256x128.size inb).emb x) := by
  obtain ⟨r, j, rfl⟩ : ∃ r j, x = ix2 r j := ⟨x 0, x 1, eq_ix2 x⟩
  rw [piece_apply, hs, hx]
  have e0 : ((Rect.unit (s := S256x1408) ![0, o] S256x128.size inb).emb (ix2 r j)) 0 = r := Fin.ext (by show 0 + 1 * r.val = r.val; omega)
  have e1 : ((Rect.unit (s := S256x1408) ![0, o] S256x128.size inb).emb (ix2 r j)) 1 = (⟨o + j.val, by omega⟩ : Fin 1408) := Fin.ext (by show o + 1 * j.val = o + j.val; omega)
  show _ = XS c fs fx v88 v91 w hn _ _
  rw [e0, e1]; rfl

/-- A piece of the transposed chunk is its rows. -/
theorem h10piece (v88 v91 w : BitVec 32) (hn : RowOk (rowW w)) (s : FVec Ideal S256x128 .bf16) (xp : Vec Ideal S1x256x128 .fp8e4m3) (o : ℕ) (inb) (h : o + 128 ≤ 1408)
    (hs : ∀ r j, s (ix2 r j) = maskS c fs v88 v91 w hn r)
    (hx : ∀ (r : Fin 256) (j : Fin 128), xp (ix3 (0 : Fin 1) r j) = X c fx ⟨rowW w + r.val, by have := hn.2; omega⟩ ⟨o + j.val, by omega⟩) (x : S128x256.Idx) :
    k0_pay12 s xp x = (G10 c fs fx v88 v91 w hn) ((Rect.unit (s := S1408x256) ![o, 0] S128x256.size inb).emb x) := by
  obtain ⟨j, r, rfl⟩ : ∃ j r, x = ix2 j r := ⟨x 0, x 1, eq_ix2 x⟩
  rw [pieceT_apply, hs, hx]
  have e0 : ((Rect.unit (s := S1408x256) ![o, 0] S128x256.size inb).emb (ix2 j r)) 1 = r := Fin.ext (by show 0 + 1 * r.val = r.val; omega)
  have e1 : ((Rect.unit (s := S1408x256) ![o, 0] S128x256.size inb).emb (ix2 j r)) 0 = (⟨o + j.val, by omega⟩ : Fin 1408) := Fin.ext (by show o + 1 * j.val = o + j.val; omega)
  show _ = XS c fs fx v88 v91 w hn _ _
  rw [e0, e1]; rfl

section Trip
variable (v50 arg16 : BitVec 32) (v88 v91 n0 : Elt Ideal .i32) (hw6 : k0_chk6 v50 arg16 v88 v91) (t4 : Fin k0_t4_loop.trips)
  (t5 : Fin (k0_t5_loop v88 v91).trips) (w : BitVec 32)
  (hw : (Scalar.remsi (Scalar.addi arg16 (Scf.iv 0#32 1#32 t5)) 4#32).toNat < 4)
  (hwh : (Scalar.remsi (Scf.iv 0#32 1#32 t4) 7#32).toNat < 7)
  (hn : RowOk (rowW w))
  (h8 : k0_chk8 (View.readAt (Elt Ideal) (Memref.whole cc0_scratch4).view (Rect.unit (s := S200) (k0_off30 arg16 v88 v91 t5) S1.size (k0_off30_inb v50 arg16 v88 v91 hw6 t5)).toLoadRect (fun _ => w : BufL Ideal c) (Shape.Idx.first (numel1_S1.symm ▸ Nat.one_pos))))
  (hlo : v88.toNat ≤ 18432) (hhi : v91.toNat ≤ 18432) (hwl : w.toNat ≤ 40000)

include hlo hhi hwl in
theorem r2_apply (r : Fin 256) (j : Fin 128) :
    t5_gen.sl.r_2 c v50 arg16 v88 v91 hw6 t5 (fun _ => w) fs h8 (ix2 r j) = maskS c fs v88 v91 w hn r := by
  unfold t5_gen.sl.r_2
  refine (scale_apply _ _ _ _ _ _ r j).trans ?_
  have hr1 : t5_gen.sl.r_1 c v50 arg16 v88 v91 hw6 t5 (fun _ => w : BufL Ideal c) = w := rfl
  have hv : t5_gen.sl.v183 c v50 arg16 v88 v91 hw6 t5 (fun _ => w : BufL Ideal c) = Scalar.minsi w 18176#32 := rfl
  rw [hv, hr1, mask_eq v88 v91 w hlo hhi hwl r.val r.isLt]
  have hs : rowScale (t5_gen.sl.v204 c v50 arg16 v88 v91 hw6 t5 (fun _ => w) fs h8) (t5_gen.sl.v208 c v50 arg16 v88 v91 hw6 t5 (fun _ => w) fs h8) r
      = S c fs ⟨rowW w + r.val, by have := hn.2; omega⟩ := by
    have hd := hn.1; have hl := hn.2
    unfold rowScale
    split
    · rename_i h
      refine (spiece c fs _ _ (rowW w / 128) (off31_eq w hn 0 (by omega)) (by omega) ⟨r.val, h⟩).trans ?_
      exact congrArg (S c fs) (Fin.ext (by show rowW w / 128 * 128 + r.val = rowW w + r.val; omega))
    · rename_i h
      refine (spiece c fs _ _ (rowW w / 128 + 1) (off31_eq w hn 1 (by omega)) (by omega) ⟨r.val - 128, by omega⟩).trans ?_
      exact congrArg (S c fs) (Fin.ext (by show (rowW w / 128 + 1) * 128 + (r.val - 128) = rowW w + r.val; omega))
  rw [hs]
  unfold maskS Scalar.select
  by_cases h : max v88.toNat w.toNat ≤ rowW w + r.val ∧ rowW w + r.val < v91.toNat
  · rw [if_pos h, decide_eq_true h]; rfl
  · rw [if_neg h, decide_eq_false h]; rfl

include hlo hhi hwl in
theorem h9_canon (y : S256x1408.Idx) :
    View.canon (t5_gen.sl.H9_11 c v50 arg16 v88 v91 hw6 t5 (fun _ => w) fs fx hw (rowW w) hn h8) y = G9 c fs fx v88 v91 w hn y := by
  have hs := r2_apply c fs v50 arg16 v88 v91 hw6 t5 w hn h8 hlo hhi hwl
  refine View.canon_apply_of_pieces (G9 c fs fx v88 v91 w hn) _ ?_ y ?_
  · unfold t5_gen.sl.H9_11
    refine List.forall_mem_cons.2 ⟨fun x => h9piece c fs fx v88 v91 w hn _ _ 1280 inb_S256x1408_S256x128_0_1280 (by omega) hs (xpiece c (Ring.slotOfW _ hw) fx _ hn _ _ _ 1280 rfl (by omega)) x, ?_⟩
    refine List.forall_mem_cons.2 ⟨fun x => h9piece c fs fx v88 v91 w hn _ _ 1152 inb_S256x1408_S256x128_0_1152 (by omega) hs (xpiece c (Ring.slotOfW _ hw) fx _ hn _ _ _ 1152 rfl (by omega)) x, ?_⟩
    refine List.forall_mem_cons.2 ⟨fun x => h9piece c fs fx v88 v91 w hn _ _ 1024 inb_S256x1408_S256x128_0_1024 (by omega) hs (xpiece c (Ring.slotOfW _ hw) fx _ hn _ _ _ 1024 rfl (by omega)) x, ?_⟩
    refine List.forall_mem_cons.2 ⟨fun x => h9piece c fs fx v88 v91 w hn _ _ 896 inb_S256x1408_S256x128_0_896 (by omega) hs (xpiece c (Ring.slotOfW _ hw) fx _ hn _ _ _ 896 rfl (by omega)) x, ?_⟩
    refine List.forall_mem_cons.2 ⟨fun x => h9piece c fs fx v88 v91 w hn _ _ 768 inb_S256x1408_S256x128_0_768 (by omega) hs (xpiece c (Ring.slotOfW _ hw) fx _ hn _ _ _ 768 rfl (by omega)) x, ?_⟩
    refine List.forall_mem_cons.2 ⟨fun x => h9piece c fs fx v88 v91 w hn _ _ 640 inb_S256x1408_S256x128_0_640 (by omega) hs (xpiece c (Ring.slotOfW _ hw) fx _ hn _ _ _ 640 rfl (by omega)) x, ?_⟩
    refine List.forall_mem_cons.2 ⟨fun x => h9piece c fs fx v88 v91 w hn _ _ 512 inb_S256x1408_S256x128_0_512 (by omega) hs (xpiece c (Ring.slotOfW _ hw) fx _ hn _ _ _ 512 rfl (by omega)) x, ?_⟩
    refine List.forall_mem_cons.2 ⟨fun x => h9piece c fs fx v88 v91 w hn _ _ 384 inb_S256x1408_S256x128_0_384 (by omega) hs (xpiece c (Ring.slotOfW _ hw) fx _ hn _ _ _ 384 rfl (by omega)) x, ?_⟩
    refine List.forall_mem_cons.2 ⟨fun x => h9piece c fs fx v88 v91 w hn _ _ 256 inb_S256x1408_S256x128_0_256 (by omega) hs (xpiece c (Ring.slotOfW _ hw) fx _ hn _ _ _ 256 rfl (by omega)) x, ?_⟩
    refine List.forall_mem_cons.2 ⟨fun x => h9piece c fs fx v88 v91 w hn _ _ 128 inb_S256x1408_S256x128_0_128 (by omega) hs (xpiece c (Ring.slotOfW _ hw) fx _ hn _ _ _ 128 rfl (by omega)) x, ?_⟩
    refine List.forall_mem_cons.2 ⟨fun x => h9piece c fs fx v88 v91 w hn _ _ 0 inb_S256x1408_S256x128_0_0 (by omega) hs (xpiece c (Ring.slotOfW _ hw) fx _ hn _ _ _ 0 rfl (by omega)) x, ?_⟩
    intro p hp; exact absurd hp List.not_mem_nil
  · exact View.cover_of_tiled (s := S256x1408) _ ![256, 128] (by rfl) y

include hlo hhi hwl in
theorem h10_canon (y : S1408x256.Idx) :
    View.canon (t5_gen.sl.H10_11 c v50 arg16 v88 v91 hw6 t5 (fun _ => w) fs fx hw (rowW w) hn h8) y = G10 c fs fx v88 v91 w hn y := by
  have hs := r2_apply c fs v50 arg16 v88 v91 hw6 t5 w hn h8 hlo hhi hwl
  refine View.canon_apply_of_pieces (G10 c fs fx v88 v91 w hn) _ ?_ y ?_
  · unfold t5_gen.sl.H10_11
    refine List.forall_mem_cons.2 ⟨fun x => h10piece c fs fx v88 v91 w hn _ _ 1280 inb_S1408x256_S128x256_1280_0 (by omega) hs (xpiece c (Ring.slotOfW _ hw) fx _ hn _ _ _ 1280 rfl (by omega)) x, ?_⟩
    refine List.forall_mem_cons.2 ⟨fun x => h10piece c fs fx v88 v91 w hn _ _ 1152 inb_S1408x256_S128x256_1152_0 (by omega) hs (xpiece c (Ring.slotOfW _ hw) fx _ hn _ _ _ 1152 rfl (by omega)) x, ?_⟩
    refine List.forall_mem_cons.2 ⟨fun x => h10piece c fs fx v88 v91 w hn _ _ 1024 inb_S1408x256_S128x256_1024_0 (by omega) hs (xpiece c (Ring.slotOfW _ hw) fx _ hn _ _ _ 1024 rfl (by omega)) x, ?_⟩
    refine List.forall_mem_cons.2 ⟨fun x => h10piece c fs fx v88 v91 w hn _ _ 896 inb_S1408x256_S128x256_896_0 (by omega) hs (xpiece c (Ring.slotOfW _ hw) fx _ hn _ _ _ 896 rfl (by omega)) x, ?_⟩
    refine List.forall_mem_cons.2 ⟨fun x => h10piece c fs fx v88 v91 w hn _ _ 768 inb_S1408x256_S128x256_768_0 (by omega) hs (xpiece c (Ring.slotOfW _ hw) fx _ hn _ _ _ 768 rfl (by omega)) x, ?_⟩
    refine List.forall_mem_cons.2 ⟨fun x => h10piece c fs fx v88 v91 w hn _ _ 640 inb_S1408x256_S128x256_640_0 (by omega) hs (xpiece c (Ring.slotOfW _ hw) fx _ hn _ _ _ 640 rfl (by omega)) x, ?_⟩
    refine List.forall_mem_cons.2 ⟨fun x => h10piece c fs fx v88 v91 w hn _ _ 512 inb_S1408x256_S128x256_512_0 (by omega) hs (xpiece c (Ring.slotOfW _ hw) fx _ hn _ _ _ 512 rfl (by omega)) x, ?_⟩
    refine List.forall_mem_cons.2 ⟨fun x => h10piece c fs fx v88 v91 w hn _ _ 384 inb_S1408x256_S128x256_384_0 (by omega) hs (xpiece c (Ring.slotOfW _ hw) fx _ hn _ _ _ 384 rfl (by omega)) x, ?_⟩
    refine List.forall_mem_cons.2 ⟨fun x => h10piece c fs fx v88 v91 w hn _ _ 256 inb_S1408x256_S128x256_256_0 (by omega) hs (xpiece c (Ring.slotOfW _ hw) fx _ hn _ _ _ 256 rfl (by omega)) x, ?_⟩
    refine List.forall_mem_cons.2 ⟨fun x => h10piece c fs fx v88 v91 w hn _ _ 128 inb_S1408x256_S128x256_128_0 (by omega) hs (xpiece c (Ring.slotOfW _ hw) fx _ hn _ _ _ 128 rfl (by omega)) x, ?_⟩
    refine List.forall_mem_cons.2 ⟨fun x => h10piece c fs fx v88 v91 w hn _ _ 0 inb_S1408x256_S128x256_0_0 (by omega) hs (xpiece c (Ring.slotOfW _ hw) fx _ hn _ _ _ 0 rfl (by omega)) x, ?_⟩
    intro p hp; exact absurd hp List.not_mem_nil
  · exact View.cover_of_tiled (s := S1408x256) _ ![128, 256] (by rfl) y

end Trip

end Cert.Kernel.Hand

end
-- ==== Proof.TripBlock.lean ====
module

public import proofs.«01_k».proof.Proof.TripMath
public import Idealize.ShloMosaic.Lib.WritesUnit

/-! # The six stores of one trip -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic Idealize.ShloMosaic.ValueIdx

/-- The contents of the buffer of the blocks' slots. -/
abbrev Hbuf := (Memref.whole cc0_scratch0).view.ty.Contents (Elt Ideal)

/-- A place of a slot. -/
def hv (f : Hbuf) (s : Fin 7) (d j : Fin 1408) : EReal := (Memref.whole cc0_scratch0).view.read (Elt Ideal) f (ix3 s d j)

/-- A column block of a slot, as a load reads it. -/
theorem hv_load (f : Hbuf) (s : Fin 7) (off : Fin 3 → ℕ) (W : ℕ) (inb : ∀ a, off a + (![1, 1408, W] : Fin 3 → ℕ) a ≤ S7x1408x1408.size a) (o : ℕ) (ho : off = ![s.val, 0, o])
    (hW : o + W ≤ 1408) (d : Fin 1408) (j : Fin W) :
    View.readAt (Elt Ideal) (Memref.whole cc0_scratch0).view (Rect.unit (s := S7x1408x1408) off (![1, 1408, W] : Fin 3 → ℕ) inb).toLoadRect f (ix3 (0 : Fin 1) d j)
      = hv f s d ⟨o + j.val, by omega⟩ := by
  subst ho
  refine congrArg ((Memref.whole cc0_scratch0).view.read (Elt Ideal) f) (funext fun a => Fin.ext ?_)
  match a with
  | 0 => show s.val + 1 * 0 = s.val; omega
  | 1 => show 0 + 1 * d.val = d.val; omega
  | 2 => show o + 1 * j.val = o + j.val; omega

/-- A slot after a store of a column block. -/
theorem hv_store (f : Hbuf) (s : Fin 7) (off : Fin 3 → ℕ) (W : ℕ) (inb : ∀ a, off a + (![1, 1408, W] : Fin 3 → ℕ) a ≤ S7x1408x1408.size a) (o : ℕ) (ho : off = ![s.val, 0, o])
    (pay : (⟨3, ![1, 1408, W]⟩ : Shape).Idx → Elt Ideal .f32) (d j : Fin 1408) :
    hv (View.write (Elt Ideal) ((Memref.whole cc0_scratch0).access (Rect.unit (s := S7x1408x1408) off (![1, 1408, W] : Fin 3 → ℕ) inb)) f pay Finset.univ) s d j
      = if h : o ≤ j.val ∧ j.val < o + W then pay (ix3 (0 : Fin 1) d (⟨j.val - o, by omega⟩ : Fin W)) else hv f s d j := by
  by_cases h : o ≤ j.val ∧ j.val < o + W
  · rw [dif_pos h]
    refine View.read_writes_cons_unit_of_mem (Memref.whole cc0_scratch0).view f inb pay [] (ix3 s d j) (ix3 (0 : Fin 1) d (⟨j.val - o, by omega⟩ : Fin W)) ho ?_
    intro a
    match a with
    | 0 => show s.val = s.val + 0; omega
    | 1 => show d.val = 0 + d.val; omega
    | 2 => show j.val = o + (j.val - o); omega
  · rw [dif_neg h]
    refine View.read_writes_cons_unit_of_not_mem (Memref.whole cc0_scratch0).view f inb pay [] (ix3 s d j) ho (2 : Fin 3) ?_
    show j.val < o ∨ o + W ≤ j.val
    omega

/-- One store: if the columns before `o` already hold the new values, so do the columns before `o + W` after it. -/
theorem blk (fh f : Hbuf) (s : Fin 7) (off : Fin 3 → ℕ) (W : ℕ) (inb : ∀ a, off a + (![1, 1408, W] : Fin 3 → ℕ) a ≤ S7x1408x1408.size a) (o : ℕ) (ho : off = ![s.val, 0, o]) (hW : o + W ≤ 1408)
    (pay : (⟨3, ![1, 1408, W]⟩ : Shape).Idx → Elt Ideal .f32) (P : Fin 1408 → Fin 1408 → EReal) (K B : EReal)
    (hf : ∀ d j, hv f s d j = if j.val < o then hv fh s d j * K + P d j * B else hv fh s d j)
    (hp : ∀ (d : Fin 1408) (j : Fin W), pay (ix3 (0 : Fin 1) d j)
      = hv f s d ⟨o + j.val, by omega⟩ * K + P d ⟨o + j.val, by omega⟩ * B) (d j : Fin 1408) :
    hv (View.write (Elt Ideal) ((Memref.whole cc0_scratch0).access (Rect.unit (s := S7x1408x1408) off (![1, 1408, W] : Fin 3 → ℕ) inb)) f pay Finset.univ) s d j
      = if j.val < o + W then hv fh s d j * K + P d j * B else hv fh s d j := by
  rw [hv_store f s off W inb o ho pay d j]
  by_cases h : o ≤ j.val ∧ j.val < o + W
  · rw [dif_pos h, if_pos h.2, hp, hf, if_neg (by show ¬ (o + (j.val - o) < o); omega)]
    have e : (⟨o + (j.val - o), by omega⟩ : Fin 1408) = j := Fin.ext (by show o + (j.val - o) = j.val; omega)
    rw [e]
  · rw [dif_neg h, hf]
    by_cases h2 : j.val < o
    · rw [if_pos h2, if_pos (by omega)]
    · rw [if_neg h2, if_neg (by omega)]

variable (c : Dev nD) (fs : BufS Ideal c) (fx : BufX Ideal c)

/-- The chunk's product. -/
def prodXS (lo hi w : BitVec 32) (hn : RowOk (rowW w)) (d j : Fin 1408) : EReal :=
  ∑ r : Fin 256, XS c fs fx lo hi w hn r d * XS c fs fx lo hi w hn r j

theorem pay_of (lo hi w : BitVec 32) (hn : RowOk (rowW w)) (o : ℕ) (h : o + 256 ≤ 1408) (B kp : FVec Ideal S1x256 .f32) (xt : Vec Ideal S1408x256 .bf16) (xs : Vec Ideal S256x256 .bf16)
    (hb : Vec Ideal S1x1408x256 .f32) (H : Fin 1408 → Fin 1408 → EReal) (K N : EReal) (hB : ∀ f : Fin 256, B (ix2 (0 : Fin 1) f) = N) (hK : ∀ f : Fin 256, kp (ix2 (0 : Fin 1) f) = K)
    (hxt : ∀ (d : Fin 1408) (r : Fin 256), xt (ix2 d r) = XS c fs fx lo hi w hn r d)
    (hxs : ∀ (r : Fin 256) (j : Fin 256), xs (ix2 r j) = XS c fs fx lo hi w hn r ⟨o + j.val, by omega⟩)
    (hh : ∀ (d : Fin 1408) (j : Fin 256), hb (ix3 (0 : Fin 1) d j) = H d ⟨o + j.val, by omega⟩) (d : Fin 1408) (j : Fin 256) :
    k0_pay40 B kp xt xs hb (ix3 (0 : Fin 1) d j) = H d ⟨o + j.val, by omega⟩ * K + prodXS c fs fx lo hi w hn d ⟨o + j.val, by omega⟩ * N := by
  rw [block_apply]
  simp only [hxt, hxs, hB, hK, hh]
  rfl

theorem payN_of (lo hi w : BitVec 32) (hn : RowOk (rowW w)) (kp : FVec Ideal S1x256 .f32) (xt : Vec Ideal S1408x256 .bf16) (xs : Vec Ideal S256x128 .bf16)
    (hb : Vec Ideal S1x1408x128 .f32) (H : Fin 1408 → Fin 1408 → EReal) (K N : EReal) (n0 : BitVec 32) (hB : ∀ f : Fin 256, k0_pay87 (F := Ideal) lo hi n0 (ix2 (0 : Fin 1) f) = N) (hK : ∀ f : Fin 256, kp (ix2 (0 : Fin 1) f) = K)
    (hxt : ∀ (d : Fin 1408) (r : Fin 256), xt (ix2 d r) = XS c fs fx lo hi w hn r d)
    (hxs : ∀ (r : Fin 256) (j : Fin 128), xs (ix2 r j) = XS c fs fx lo hi w hn r ⟨1280 + j.val, by omega⟩)
    (hh : ∀ (d : Fin 1408) (j : Fin 128), hb (ix3 (0 : Fin 1) d j) = H d ⟨1280 + j.val, by omega⟩) (d : Fin 1408) (j : Fin 128) :
    k0_pay89 lo hi n0 kp xt xs hb (ix3 (0 : Fin 1) d j) = H d ⟨1280 + j.val, by omega⟩ * K + prodXS c fs fx lo hi w hn d ⟨1280 + j.val, by omega⟩ * N := by
  rw [blockN_apply lo hi n0 kp xt xs hb 0 d j ⟨j.val, by omega⟩ rfl]
  simp only [hxt, hxs, hB, hK, hh]
  rfl

section Trip
variable (v50 arg16 : BitVec 32) (v88 v91 n0 : Elt Ideal .i32) (hw6 : k0_chk6 v50 arg16 v88 v91)
  (t5 : Fin (k0_t5_loop v88 v91).trips) (w : BitVec 32)
  (hw : (Scalar.remsi (Scalar.addi arg16 (Scf.iv 0#32 1#32 t5)) 4#32).toNat < 4)
  (hn : RowOk (rowW w))
  (h8 : k0_chk8 (View.readAt (Elt Ideal) (Memref.whole cc0_scratch4).view (Rect.unit (s := S200) (k0_off30 arg16 v88 v91 t5) S1.size (k0_off30_inb v50 arg16 v88 v91 hw6 t5)).toLoadRect (fun _ => w : BufL Ideal c) (Shape.Idx.first (numel1_S1.symm ▸ Nat.one_pos))))
  (hlo : v88.toNat ≤ 18432) (hhi : v91.toNat ≤ 18432) (hwl : w.toNat ≤ 40000)

/-- What a trip scales the block by: by the weight of what was there on the first, by one after. -/
def keepAt (lo hi n : BitVec 32) (k : ℕ) : EReal := if k = 0 then Ideal.div ((n.toInt : ℝ) : EReal) (total n lo hi) else 1
/-- What a trip scales the product by. -/
def newAt (lo hi n : BitVec 32) : EReal := Ideal.div (Ideal.ofBits .f32 0x40000000#32) (total n lo hi)

include hlo hhi hwl in
/-- The columns of the chunk, as the stores read them. -/
theorem xs_read (o W : ℕ) (inb) (h : o + W ≤ 1408) (r : Fin 256) (j : Fin W) :
    (Memref.whole cc0_scratch2).view.readCov (t5_gen.sl.H9_11 c v50 arg16 v88 v91 hw6 t5 (fun _ => w) fs fx hw (rowW w) hn h8)
        (Rect.unit (s := S256x1408) ![0, o] (![256, W] : Fin 2 → ℕ) inb).toLoadRect (ix2 r j)
      = XS c fs fx v88 v91 w hn r ⟨o + j.val, by omega⟩ := by
  rw [View.readCov_eq_canon']
  refine (h9_canon c fs fx v50 arg16 v88 v91 hw6 t5 w hw hn h8 hlo hhi hwl _).trans ?_
  show XS c fs fx v88 v91 w hn _ _ = _
  refine congrArg₂ (XS c fs fx v88 v91 w hn) (Fin.ext ?_) (Fin.ext ?_)
  · show 0 + 1 * r.val = r.val; omega
  · show o + 1 * j.val = o + j.val; omega

include hlo hhi hwl in
theorem xt_read (d : Fin 1408) (r : Fin 256) :
    t5_gen.sl.v365 c v50 arg16 v88 v91 hw6 t5 (fun _ => w) fs fx hw (rowW w) hn h8 (ix2 d r) = XS c fs fx v88 v91 w hn r d := by
  unfold t5_gen.sl.v365
  rw [View.readCov_eq_canon']
  refine (h10_canon c fs fx v50 arg16 v88 v91 hw6 t5 w hw hn h8 hlo hhi hwl _).trans ?_
  show XS c fs fx v88 v91 w hn _ _ = _
  refine congrArg₂ (XS c fs fx v88 v91 w hn) (Fin.ext ?_) (Fin.ext ?_)
  · show 0 + 1 * r.val = r.val; omega
  · show 0 + 1 * d.val = d.val; omega

include hlo hhi in
theorem keep_sel (f : Fin 256) : t5_gen.sl.r_3 v88 v91 n0 n0 t5 (ix2 (0 : Fin 1) f) = keepAt v88 v91 n0 t5.val := by
  unfold t5_gen.sl.r_3
  refine (sel_apply _ _ f).trans ?_
  have hk : t5_gen.sl.arg17 v88 v91 t5 = 0#32 ↔ t5.val = 0 := by
    have hi : Scf.iv 0#32 1#32 t5.val = BitVec.ofNat 32 t5.val := by
      have := addi_iv 0 t5.val
      rw [Nat.zero_add] at this
      rw [← this]; exact (BitVec.zero_add _).symm
    show Scf.iv 0#32 1#32 t5.val = 0#32 ↔ _
    rw [hi]
    constructor
    · intro e
      have := congrArg BitVec.toNat e
      rw [BitVec.toNat_ofNat] at this
      have hlt : t5.val < 200 := by
        have h1 : t5.val < cnt v88.toNat v91.toNat := lt_of_lt_of_eq t5.isLt (t5_trips hlo hhi)
        exact lt_of_lt_of_le h1 (by unfold cnt base; split <;> omega)
      change t5.val % 2 ^ 32 = 0 at this
      omega
    · intro e; rw [e]
  unfold keepAt
  by_cases h : t5.val = 0
  · rw [if_pos h, if_pos (hk.2 h)]; exact keep_apply _ _ _ f
  · rw [if_neg h, if_neg (fun e => h (hk.1 e))]

include hlo hhi hwl in
theorem xs1 (r : Fin 256) (j : Fin 256) : t5_gen.sl.v366 c v50 arg16 v88 v91 hw6 t5 (fun _ => w) fs fx hw (rowW w) hn h8 (ix2 r j) = XS c fs fx v88 v91 w hn r ⟨0 + j.val, by omega⟩ := by
  unfold t5_gen.sl.v366
  exact xs_read c fs fx v50 arg16 v88 v91 hw6 t5 w hw hn h8 hlo hhi hwl 0 256 inb_S256x1408_S256x256_0_0 (by omega) r j
include hlo hhi hwl in
theorem xs2 (r : Fin 256) (j : Fin 256) : t5_gen.sl.v381 c v50 arg16 v88 v91 hw6 t5 (fun _ => w) fs fx hw (rowW w) hn h8 (ix2 r j) = XS c fs fx v88 v91 w hn r ⟨256 + j.val, by omega⟩ := by
  unfold t5_gen.sl.v381
  exact xs_read c fs fx v50 arg16 v88 v91 hw6 t5 w hw hn h8 hlo hhi hwl 256 256 inb_S256x1408_S256x256_0_256 (by omega) r j
include hlo hhi hwl in
theorem xs3 (r : Fin 256) (j : Fin 256) : t5_gen.sl.v396 c v50 arg16 v88 v91 hw6 t5 (fun _ => w) fs fx hw (rowW w) hn h8 (ix2 r j) = XS c fs fx v88 v91 w hn r ⟨512 + j.val, by omega⟩ := by
  unfold t5_gen.sl.v396
  exact xs_read c fs fx v50 arg16 v88 v91 hw6 t5 w hw hn h8 hlo hhi hwl 512 256 inb_S256x1408_S256x256_0_512 (by omega) r j
include hlo hhi hwl in
theorem xs4 (r : Fin 256) (j : Fin 256) : t5_gen.sl.v411 c v50 arg16 v88 v91 hw6 t5 (fun _ => w) fs fx hw (rowW w) hn h8 (ix2 r j) = XS c fs fx v88 v91 w hn r ⟨768 + j.val, by omega⟩ := by
  unfold t5_gen.sl.v411
  exact xs_read c fs fx v50 arg16 v88 v91 hw6 t5 w hw hn h8 hlo hhi hwl 768 256 inb_S256x1408_S256x256_0_768 (by omega) r j
include hlo hhi hwl in
theorem xs5 (r : Fin 256) (j : Fin 256) : t5_gen.sl.v426 c v50 arg16 v88 v91 hw6 t5 (fun _ => w) fs fx hw (rowW w) hn h8 (ix2 r j) = XS c fs fx v88 v91 w hn r ⟨1024 + j.val, by omega⟩ := by
  unfold t5_gen.sl.v426
  exact xs_read c fs fx v50 arg16 v88 v91 hw6 t5 w hw hn h8 hlo hhi hwl 1024 256 inb_S256x1408_S256x256_0_1024 (by omega) r j
include hlo hhi hwl in
theorem xs6 (r : Fin 256) (j : Fin 128) : t5_gen.sl.v441 c v50 arg16 v88 v91 hw6 t5 (fun _ => w) fs fx hw (rowW w) hn h8 (ix2 r j) = XS c fs fx v88 v91 w hn r ⟨1280 + j.val, by omega⟩ := by
  unfold t5_gen.sl.v441
  exact xs_read c fs fx v50 arg16 v88 v91 hw6 t5 w hw hn h8 hlo hhi hwl 1280 128 inb_S256x1408_S256x128_0_1280 (by omega) r j

variable (t4 : Fin k0_t4_loop.trips) (hwh : (Scalar.remsi (Scf.iv 0#32 1#32 t4) 7#32).toNat < 7)
  (fh : Buf (Elt Ideal) ((hslot (Ring.slotOfW _ hwh)).view.loc (c : Thread nD τ)))

include hlo hhi hwl in
theorem st1 (d j : Fin 1408) : hv (t5_gen.sl.Hh_w1 c v50 arg16 v88 v91 n0 n0 hw6 t4 t5 (fun _ => w) fs fx hw hwh fh (rowW w) hn h8) (Ring.slotOfW _ hwh) d j
    = if j.val < 0 + 256 then hv fh (Ring.slotOfW _ hwh) d j * keepAt v88 v91 n0 t5.val + prodXS c fs fx v88 v91 w hn d j * newAt v88 v91 n0 else hv fh (Ring.slotOfW _ hwh) d j := by
  unfold t5_gen.sl.Hh_w1
  exact blk fh fh (Ring.slotOfW _ hwh) (k0_off47 t4) 256 (k0_off47_inb t4) 0 rfl (by omega) _ (prodXS c fs fx v88 v91 w hn) (keepAt v88 v91 n0 t5.val) (newAt v88 v91 n0)
    (fun d j => (if_neg (Nat.not_lt_zero _)).symm)
    (pay_of c fs fx v88 v91 w hn 0 (by omega) (k0_pay87 v88 v91 n0) (t5_gen.sl.r_3 v88 v91 n0 n0 t5) (t5_gen.sl.v365 c v50 arg16 v88 v91 hw6 t5 (fun _ => w) fs fx hw (rowW w) hn h8) (t5_gen.sl.v366 c v50 arg16 v88 v91 hw6 t5 (fun _ => w) fs fx hw (rowW w) hn h8) (t5_gen.sl.v369 c t4 hwh fh) (hv fh (Ring.slotOfW _ hwh)) _ _
        (new_apply v88 v91 n0) (keep_sel v88 v91 n0 t5 hlo hhi) (xt_read c fs fx v50 arg16 v88 v91 hw6 t5 w hw hn h8 hlo hhi hwl) (xs1 c fs fx v50 arg16 v88 v91 hw6 t5 w hw hn h8 hlo hhi hwl) (hv_load fh (Ring.slotOfW _ hwh) (k0_off47 t4) 256 (k0_off47_inb t4) 0 rfl (by omega))) d j
include hlo hhi hwl in
theorem st2 (d j : Fin 1408) : hv (t5_gen.sl.Hh_w2 c v50 arg16 v88 v91 n0 n0 hw6 t4 t5 (fun _ => w) fs fx hw hwh fh (rowW w) hn h8) (Ring.slotOfW _ hwh) d j
    = if j.val < 256 + 256 then hv fh (Ring.slotOfW _ hwh) d j * keepAt v88 v91 n0 t5.val + prodXS c fs fx v88 v91 w hn d j * newAt v88 v91 n0 else hv fh (Ring.slotOfW _ hwh) d j := by
  unfold t5_gen.sl.Hh_w2
  exact blk fh (t5_gen.sl.Hh_w1 c v50 arg16 v88 v91 n0 n0 hw6 t4 t5 (fun _ => w) fs fx hw hwh fh (rowW w) hn h8) (Ring.slotOfW _ hwh) (k0_off48 t4) 256 (k0_off48_inb t4) 256 rfl (by omega) _ (prodXS c fs fx v88 v91 w hn) (keepAt v88 v91 n0 t5.val) (newAt v88 v91 n0)
    (st1 c fs fx v50 arg16 v88 v91 n0 hw6 t5 w hw hn h8 hlo hhi hwl t4 hwh fh)
    (pay_of c fs fx v88 v91 w hn 256 (by omega) (k0_pay87 v88 v91 n0) (t5_gen.sl.r_3 v88 v91 n0 n0 t5) (t5_gen.sl.v365 c v50 arg16 v88 v91 hw6 t5 (fun _ => w) fs fx hw (rowW w) hn h8) (t5_gen.sl.v381 c v50 arg16 v88 v91 hw6 t5 (fun _ => w) fs fx hw (rowW w) hn h8) (t5_gen.sl.v384 c v50 arg16 v88 v91 n0 n0 hw6 t4 t5 (fun _ => w) fs fx hw hwh fh (rowW w) hn h8) (hv (t5_gen.sl.Hh_w1 c v50 arg16 v88 v91 n0 n0 hw6 t4 t5 (fun _ => w) fs fx hw hwh fh (rowW w) hn h8) (Ring.slotOfW _ hwh)) _ _
        (new_apply v88 v91 n0) (keep_sel v88 v91 n0 t5 hlo hhi) (xt_read c fs fx v50 arg16 v88 v91 hw6 t5 w hw hn h8 hlo hhi hwl) (xs2 c fs fx v50 arg16 v88 v91 hw6 t5 w hw hn h8 hlo hhi hwl) (hv_load (t5_gen.sl.Hh_w1 c v50 arg16 v88 v91 n0 n0 hw6 t4 t5 (fun _ => w) fs fx hw hwh fh (rowW w) hn h8) (Ring.slotOfW _ hwh) (k0_off48 t4) 256 (k0_off48_inb t4) 256 rfl (by omega))) d j
include hlo hhi hwl in
theorem st3 (d j : Fin 1408) : hv (t5_gen.sl.Hh_w3 c v50 arg16 v88 v91 n0 n0 hw6 t4 t5 (fun _ => w) fs fx hw hwh fh (rowW w) hn h8) (Ring.slotOfW _ hwh) d j
    = if j.val < 512 + 256 then hv fh (Ring.slotOfW _ hwh) d j * keepAt v88 v91 n0 t5.val + prodXS c fs fx v88 v91 w hn d j * newAt v88 v91 n0 else hv fh (Ring.slotOfW _ hwh) d j := by
  unfold t5_gen.sl.Hh_w3
  exact blk fh (t5_gen.sl.Hh_w2 c v50 arg16 v88 v91 n0 n0 hw6 t4 t5 (fun _ => w) fs fx hw hwh fh (rowW w) hn h8) (Ring.slotOfW _ hwh) (k0_off49 t4) 256 (k0_off49_inb t4) 512 rfl (by omega) _ (prodXS c fs fx v88 v91 w hn) (keepAt v88 v91 n0 t5.val) (newAt v88 v91 n0)
    (st2 c fs fx v50 arg16 v88 v91 n0 hw6 t5 w hw hn h8 hlo hhi hwl t4 hwh fh)
    (pay_of c fs fx v88 v91 w hn 512 (by omega) (k0_pay87 v88 v91 n0) (t5_gen.sl.r_3 v88 v91 n0 n0 t5) (t5_gen.sl.v365 c v50 arg16 v88 v91 hw6 t5 (fun _ => w) fs fx hw (rowW w) hn h8) (t5_gen.sl.v396 c v50 arg16 v88 v91 hw6 t5 (fun _ => w) fs fx hw (rowW w) hn h8) (t5_gen.sl.v399 c v50 arg16 v88 v91 n0 n0 hw6 t4 t5 (fun _ => w) fs fx hw hwh fh (rowW w) hn h8) (hv (t5_gen.sl.Hh_w2 c v50 arg16 v88 v91 n0 n0 hw6 t4 t5 (fun _ => w) fs fx hw hwh fh (rowW w) hn h8) (Ring.slotOfW _ hwh)) _ _
        (new_apply v88 v91 n0) (keep_sel v88 v91 n0 t5 hlo hhi) (xt_read c fs fx v50 arg16 v88 v91 hw6 t5 w hw hn h8 hlo hhi hwl) (xs3 c fs fx v50 arg16 v88 v91 hw6 t5 w hw hn h8 hlo hhi hwl) (hv_load (t5_gen.sl.Hh_w2 c v50 arg16 v88 v91 n0 n0 hw6 t4 t5 (fun _ => w) fs fx hw hwh fh (rowW w) hn h8) (Ring.slotOfW _ hwh) (k0_off49 t4) 256 (k0_off49_inb t4) 512 rfl (by omega))) d j
include hlo hhi hwl in
theorem st4 (d j : Fin 1408) : hv (t5_gen.sl.Hh_w4 c v50 arg16 v88 v91 n0 n0 hw6 t4 t5 (fun _ => w) fs fx hw hwh fh (rowW w) hn h8) (Ring.slotOfW _ hwh) d j
    = if j.val < 768 + 256 then hv fh (Ring.slotOfW _ hwh) d j * keepAt v88 v91 n0 t5.val + prodXS c fs fx v88 v91 w hn d j * newAt v88 v91 n0 else hv fh (Ring.slotOfW _ hwh) d j := by
  unfold t5_gen.sl.Hh_w4
  exact blk fh (t5_gen.sl.Hh_w3 c v50 arg16 v88 v91 n0 n0 hw6 t4 t5 (fun _ => w) fs fx hw hwh fh (rowW w) hn h8) (Ring.slotOfW _ hwh) (k0_off50 t4) 256 (k0_off50_inb t4) 768 rfl (by omega) _ (prodXS c fs fx v88 v91 w hn) (keepAt v88 v91 n0 t5.val) (newAt v88 v91 n0)
    (st3 c fs fx v50 arg16 v88 v91 n0 hw6 t5 w hw hn h8 hlo hhi hwl t4 hwh fh)
    (pay_of c fs fx v88 v91 w hn 768 (by omega) (k0_pay87 v88 v91 n0) (t5_gen.sl.r_3 v88 v91 n0 n0 t5) (t5_gen.sl.v365 c v50 arg16 v88 v91 hw6 t5 (fun _ => w) fs fx hw (rowW w) hn h8) (t5_gen.sl.v411 c v50 arg16 v88 v91 hw6 t5 (fun _ => w) fs fx hw (rowW w) hn h8) (t5_gen.sl.v414 c v50 arg16 v88 v91 n0 n0 hw6 t4 t5 (fun _ => w) fs fx hw hwh fh (rowW w) hn h8) (hv (t5_gen.sl.Hh_w3 c v50 arg16 v88 v91 n0 n0 hw6 t4 t5 (fun _ => w) fs fx hw hwh fh (rowW w) hn h8) (Ring.slotOfW _ hwh)) _ _
        (new_apply v88 v91 n0) (keep_sel v88 v91 n0 t5 hlo hhi) (xt_read c fs fx v50 arg16 v88 v91 hw6 t5 w hw hn h8 hlo hhi hwl) (xs4 c fs fx v50 arg16 v88 v91 hw6 t5 w hw hn h8 hlo hhi hwl) (hv_load (t5_gen.sl.Hh_w3 c v50 arg16 v88 v91 n0 n0 hw6 t4 t5 (fun _ => w) fs fx hw hwh fh (rowW w) hn h8) (Ring.slotOfW _ hwh) (k0_off50 t4) 256 (k0_off50_inb t4) 768 rfl (by omega))) d j
include hlo hhi hwl in
theorem st5 (d j : Fin 1408) : hv (t5_gen.sl.Hh_w5 c v50 arg16 v88 v91 n0 n0 hw6 t4 t5 (fun _ => w) fs fx hw hwh fh (rowW w) hn h8) (Ring.slotOfW _ hwh) d j
    = if j.val < 1024 + 256 then hv fh (Ring.slotOfW _ hwh) d j * keepAt v88 v91 n0 t5.val + prodXS c fs fx v88 v91 w hn d j * newAt v88 v91 n0 else hv fh (Ring.slotOfW _ hwh) d j := by
  unfold t5_gen.sl.Hh_w5
  exact blk fh (t5_gen.sl.Hh_w4 c v50 arg16 v88 v91 n0 n0 hw6 t4 t5 (fun _ => w) fs fx hw hwh fh (rowW w) hn h8) (Ring.slotOfW _ hwh) (k0_off51 t4) 256 (k0_off51_inb t4) 1024 rfl (by omega) _ (prodXS c fs fx v88 v91 w hn) (keepAt v88 v91 n0 t5.val) (newAt v88 v91 n0)
    (st4 c fs fx v50 arg16 v88 v91 n0 hw6 t5 w hw hn h8 hlo hhi hwl t4 hwh fh)
    (pay_of c fs fx v88 v91 w hn 1024 (by omega) (k0_pay87 v88 v91 n0) (t5_gen.sl.r_3 v88 v91 n0 n0 t5) (t5_gen.sl.v365 c v50 arg16 v88 v91 hw6 t5 (fun _ => w) fs fx hw (rowW w) hn h8) (t5_gen.sl.v426 c v50 arg16 v88 v91 hw6 t5 (fun _ => w) fs fx hw (rowW w) hn h8) (t5_gen.sl.v429 c v50 arg16 v88 v91 n0 n0 hw6 t4 t5 (fun _ => w) fs fx hw hwh fh (rowW w) hn h8) (hv (t5_gen.sl.Hh_w4 c v50 arg16 v88 v91 n0 n0 hw6 t4 t5 (fun _ => w) fs fx hw hwh fh (rowW w) hn h8) (Ring.slotOfW _ hwh)) _ _
        (new_apply v88 v91 n0) (keep_sel v88 v91 n0 t5 hlo hhi) (xt_read c fs fx v50 arg16 v88 v91 hw6 t5 w hw hn h8 hlo hhi hwl) (xs5 c fs fx v50 arg16 v88 v91 hw6 t5 w hw hn h8 hlo hhi hwl) (hv_load (t5_gen.sl.Hh_w4 c v50 arg16 v88 v91 n0 n0 hw6 t4 t5 (fun _ => w) fs fx hw hwh fh (rowW w) hn h8) (Ring.slotOfW _ hwh) (k0_off51 t4) 256 (k0_off51_inb t4) 1024 rfl (by omega))) d j
include hlo hhi hwl in
theorem st6 (d j : Fin 1408) : hv (t5_gen.sl.Hh_w6 c v50 arg16 v88 v91 n0 n0 hw6 t4 t5 (fun _ => w) fs fx hw hwh fh (rowW w) hn h8) (Ring.slotOfW _ hwh) d j
    = if j.val < 1280 + 128 then hv fh (Ring.slotOfW _ hwh) d j * keepAt v88 v91 n0 t5.val + prodXS c fs fx v88 v91 w hn d j * newAt v88 v91 n0 else hv fh (Ring.slotOfW _ hwh) d j := by
  unfold t5_gen.sl.Hh_w6
  exact blk fh (t5_gen.sl.Hh_w5 c v50 arg16 v88 v91 n0 n0 hw6 t4 t5 (fun _ => w) fs fx hw hwh fh (rowW w) hn h8) (Ring.slotOfW _ hwh) (k0_off52 t4) 128 (k0_off52_inb t4) 1280 rfl (by omega) _ (prodXS c fs fx v88 v91 w hn) (keepAt v88 v91 n0 t5.val) (newAt v88 v91 n0)
    (st5 c fs fx v50 arg16 v88 v91 n0 hw6 t5 w hw hn h8 hlo hhi hwl t4 hwh fh)
    (payN_of c fs fx v88 v91 w hn (t5_gen.sl.r_3 v88 v91 n0 n0 t5) (t5_gen.sl.v365 c v50 arg16 v88 v91 hw6 t5 (fun _ => w) fs fx hw (rowW w) hn h8) (t5_gen.sl.v441 c v50 arg16 v88 v91 hw6 t5 (fun _ => w) fs fx hw (rowW w) hn h8) (t5_gen.sl.v444 c v50 arg16 v88 v91 n0 n0 hw6 t4 t5 (fun _ => w) fs fx hw hwh fh (rowW w) hn h8) (hv (t5_gen.sl.Hh_w5 c v50 arg16 v88 v91 n0 n0 hw6 t4 t5 (fun _ => w) fs fx hw hwh fh (rowW w) hn h8) (Ring.slotOfW _ hwh)) _ _ n0
        (new_apply v88 v91 n0) (keep_sel v88 v91 n0 t5 hlo hhi) (xt_read c fs fx v50 arg16 v88 v91 hw6 t5 w hw hn h8 hlo hhi hwl) (xs6 c fs fx v50 arg16 v88 v91 hw6 t5 w hw hn h8 hlo hhi hwl) (hv_load (t5_gen.sl.Hh_w5 c v50 arg16 v88 v91 n0 n0 hw6 t4 t5 (fun _ => w) fs fx hw hwh fh (rowW w) hn h8) (Ring.slotOfW _ hwh) (k0_off52 t4) 128 (k0_off52_inb t4) 1280 rfl (by omega))) d j

include hlo hhi hwl in
/-- A trip replaces the block by its weighted sum with the chunk's product. -/
theorem trip_val (d j : Fin 1408) :
    hv (t5_gen.sl.Hh_w6 c v50 arg16 v88 v91 n0 n0 hw6 t4 t5 (fun _ => w) fs fx hw hwh fh (rowW w) hn h8) (Ring.slotOfW _ hwh) d j
      = hv fh (Ring.slotOfW _ hwh) d j * keepAt v88 v91 n0 t5.val + prodXS c fs fx v88 v91 w hn d j * newAt v88 v91 n0 := by
  exact (st6 c fs fx v50 arg16 v88 v91 n0 hw6 t5 w hw hn h8 hlo hhi hwl t4 hwh fh d j).trans (if_pos j.isLt)

end Trip

end Cert.Kernel.Hand

end
-- ==== Proof.Iter.lean ====
module

public import proofs.«01_k».proof.Proof.TripBlock

/-! # All the chunks of an expert

The products of an expert's chunks add up to the sum over the expert's rows, each row lying in one chunk. So the block
ends as its weighted sum with that. -/

@[expose] public section

set_option maxRecDepth 16384

noncomputable section

namespace Cert.Kernel.Hand

open Cert.Kernel Cert.Kernel.Gen Cert.Chunks
open Idealize.ShloMosaic Idealize.ShloMosaic.TcCoe Idealize.ShloMosaic.Tactic Idealize.ShloMosaic.ValueIdx

variable (c : Dev nD) (fs : BufS Ideal c) (fx : BufX Ideal c)

/-- A row's term of the product. -/
def T (row : Fin 18432) (d j : Fin 1408) : EReal := (X c fx row d * S c fs row) * (X c fx row j * S c fs row)

/-- The rows `lo … hi−1` before row `e`: their terms' sum. -/
def upTo (lo hi e : ℕ) (d j : Fin 1408) : EReal :=
  ∑ row : Fin 18432, if lo ≤ row.val ∧ row.val < hi ∧ row.val < e then T c fs fx row d j else 0

/-- A chunk's product is the sum over its rows that are the expert's. -/
theorem prodXS_eq (lo hi w : BitVec 32) (hn : RowOk (rowW w)) (hhi : hi.toNat ≤ 18432) (hwl : w.toNat ≤ 40000) (d j : Fin 1408) :
    prodXS c fs fx lo hi w hn d j
      = ∑ row : Fin 18432, if lo.toNat ≤ row.val ∧ row.val < hi.toNat ∧ w.toNat ≤ row.val ∧ row.val < w.toNat + 256 then T c fs fx row d j else 0 := by
  have hm : rowW w = min w.toNat 18176 := by
    have := rowW_eq w.toNat (by omega)
    rwa [BitVec.ofNat_toNat, BitVec.setWidth_eq] at this
  unfold prodXS
  refine Finset.sum_of_injOn (fun r : Fin 256 => (⟨rowW w + r.val, by have := hn.2; omega⟩ : Fin 18432)) ?_ ?_ ?_ ?_
  · intro a _ b _ e
    exact Fin.ext (by have := congrArg Fin.val e; change rowW w + a.val = rowW w + b.val at this; omega)
  · intro a _; exact Finset.mem_coe.2 (Finset.mem_univ _)
  · intro row _ hrow
    refine if_neg fun h => hrow ⟨⟨row.val - rowW w, by omega⟩, Finset.mem_coe.2 (Finset.mem_univ _), Fin.ext ?_⟩
    show rowW w + (row.val - rowW w) = row.val
    omega
  · intro r _
    unfold XS maskS
    by_cases h : max lo.toNat w.toNat ≤ rowW w + r.val ∧ rowW w + r.val < hi.toNat
    · rw [if_pos h, if_pos (by show _ ≤ rowW w + r.val ∧ rowW w + r.val < _ ∧ _ ≤ rowW w + r.val ∧ rowW w + r.val < _; omega)]
      rfl
    · rw [if_neg h, if_neg (by show ¬ (_ ≤ rowW w + r.val ∧ rowW w + r.val < _ ∧ _ ≤ rowW w + r.val ∧ rowW w + r.val < _); omega), mul_zero, zero_mul]

theorem upTo_zero (lo hi e : ℕ) (h : e ≤ lo) (d j : Fin 1408) : upTo c fs fx lo hi e d j = 0 :=
  Finset.sum_eq_zero fun row _ => if_neg (by omega)

theorem upTo_all (lo hi e : ℕ) (h : hi ≤ e) (d j : Fin 1408) :
    upTo c fs fx lo hi e d j = ∑ row : Fin 18432, if lo ≤ row.val ∧ row.val < hi then T c fs fx row d j else 0 :=
  Finset.sum_congr rfl fun row _ => if_congr (by omega) rfl rfl

theorem upTo_succ (lo hi e : ℕ) (d j : Fin 1408) :
    upTo c fs fx lo hi (e + 256) d j
      = upTo c fs fx lo hi e d j + ∑ row : Fin 18432, if lo ≤ row.val ∧ row.val < hi ∧ e ≤ row.val ∧ row.val < e + 256 then T c fs fx row d j else 0 := by
  unfold upTo
  rw [← Finset.sum_add_distrib]
  refine Finset.sum_congr rfl fun row _ => ?_
  by_cases h1 : lo ≤ row.val ∧ row.val < hi ∧ row.val < e
  · rw [if_pos (by omega), if_pos h1, if_neg (by omega), add_zero]
  · rw [if_neg h1, zero_add]
    exact if_congr (by omega) rfl rfl

/-- The divisor is a positive number. -/
theorem total_real (n lo hi : BitVec 32) : total n lo hi = ((max ((n + (hi - lo)).toInt : ℝ) 1 : ℝ) : EReal) := by
  unfold total
  rw [one_f32]
  exact (EReal.coe_strictMono.monotone.map_max (a := ((n + (hi - lo)).toInt : ℝ)) (b := 1)).symm

theorem newAt_real (lo hi n : BitVec 32) : newAt lo hi n = ((2 / max ((n + (hi - lo)).toInt : ℝ) 1 : ℝ) : EReal) := by
  unfold newAt
  rw [total_real, two_f32, Ideal.div_coe (by positivity), ← EReal.coe_mul]
  congr 1; ring

variable (v50 : BitVec 32) (p : ℕ) (v88 v91 n0 : Elt Ideal .i32) (hw6 : k0_chk6 v50 (BitVec.ofNat 32 p) v88 v91) (t4 : Fin k0_t4_loop.trips)
  (hwh : (Scalar.remsi (Scf.iv 0#32 1#32 t4) 7#32).toNat < 7)
  (fh : Buf (Elt Ideal) ((hslot (Ring.slotOfW _ hwh)).view.loc (c : Thread nD τ)))
  (hlo : v88.toNat ≤ 18432) (hhi : v91.toNat ≤ 18432) (hp : p + cnt v88.toNat v91.toNat ≤ 200)

include hlo hhi hp in
/-- One more trip. -/
theorem hIter_succ (k : ℕ) (hk : k < cnt v88.toNat v91.toNat) (d j : Fin 1408) :
    hv (hIter c v50 p v88 v91 n0 n0 hw6 t4 fs fx hwh fh (k + 1)) (Ring.slotOfW _ hwh) d j
      = hv (hIter c v50 p v88 v91 n0 n0 hw6 t4 fs fx hwh fh k) (Ring.slotOfW _ hwh) d j * keepAt v88 v91 n0 k
        + (∑ row : Fin 18432, if v88.toNat ≤ row.val ∧ row.val < v91.toNat ∧ base v88.toNat + 256 * k ≤ row.val ∧ row.val < base v88.toNat + 256 * k + 256 then T c fs fx row d j else 0) * newAt v88 v91 n0 := by
  have hb := row_bound _ _ k hk hhi
  have hr : RowOk (rowW (rowOf v88 k)) := rowOk_of _ hb.1 (by omega)
  have hk' : k < (k0_t5_loop v88 v91).trips := lt_of_lt_of_eq hk (t5_trips hlo hhi).symm
  have hw : (Scalar.remsi (Scalar.addi (BitVec.ofNat 32 p) (Scf.iv 0#32 1#32 k)) 4#32).toNat < 4 := by
    rw [addi_iv, remsi_ofNat _ 4 (by omega) (by decide) (by decide)]; omega
  have h8 : k0_chk8 (View.readAt (Elt Ideal) (Memref.whole cc0_scratch4).view (Rect.unit (s := S200) (k0_off30 (BitVec.ofNat 32 p) v88 v91 ⟨k, hk'⟩) S1.size (k0_off30_inb v50 (BitVec.ofNat 32 p) v88 v91 hw6 ⟨k, hk'⟩)).toLoadRect (fun _ => rowOf v88 k : BufL Ideal c) (Shape.Idx.first (numel1_S1.symm ▸ Nat.one_pos))) :=
    chk8_of _ hr
  have hwt : (rowOf v88 k).toNat = base v88.toNat + 256 * k := toNat_ofNat_small _ (by omega)
  have hit : hIter c v50 p v88 v91 n0 n0 hw6 t4 fs fx hwh fh (k + 1)
      = t5_gen.sl.Hh_w6 c v50 (BitVec.ofNat 32 p) v88 v91 n0 n0 hw6 t4 ⟨k, hk'⟩ (fun _ => rowOf v88 k) fs fx hw hwh
        (hIter c v50 p v88 v91 n0 n0 hw6 t4 fs fx hwh fh k) (rowW (rowOf v88 k)) hr h8 := dif_pos ⟨hk', hw, hr, h8⟩
  rw [hit]
  refine (trip_val c fs fx v50 (BitVec.ofNat 32 p) v88 v91 n0 hw6 ⟨k, hk'⟩ (rowOf v88 k) hw hr h8 hlo hhi (by omega) t4 hwh _ d j).trans ?_
  rw [prodXS_eq c fs fx v88 v91 (rowOf v88 k) hr hhi (by omega) d j, hwt]

include hlo hhi hp in
/-- After `k` trips, at least one. -/
theorem hIter_val (k : ℕ) (hk : k < cnt v88.toNat v91.toNat) (d j : Fin 1408) :
    hv (hIter c v50 p v88 v91 n0 n0 hw6 t4 fs fx hwh fh (k + 1)) (Ring.slotOfW _ hwh) d j
      = hv fh (Ring.slotOfW _ hwh) d j * keepAt v88 v91 n0 0 + upTo c fs fx v88.toNat v91.toNat (base v88.toNat + 256 * (k + 1)) d j * newAt v88 v91 n0 := by
  induction k with
  | zero =>
    have h1 := upTo_succ c fs fx v88.toNat v91.toNat (base v88.toNat + 256 * 0) d j
    rw [upTo_zero c fs fx v88.toNat v91.toNat (base v88.toNat + 256 * 0) (by rw [mul_zero, add_zero]; exact Nat.div_mul_le_self _ _), zero_add, show base v88.toNat + 256 * 0 + 256 = base v88.toNat + 256 * (0 + 1) by omega] at h1
    refine (hIter_succ c fs fx v50 p v88 v91 n0 hw6 t4 hwh fh hlo hhi hp 0 hk d j).trans ?_
    rw [h1]
    refine congrArg₂ (· + ·) rfl (congrArg (· * newAt v88 v91 n0) (Finset.sum_congr rfl fun row _ => if_congr ?_ rfl rfl))
    omega
  | succ k ih =>
    have h1 := upTo_succ c fs fx v88.toNat v91.toNat (base v88.toNat + 256 * (k + 1)) d j
    have e1 : keepAt v88 v91 n0 (k + 1) = 1 := if_neg (by omega)
    have hnn : 0 ≤ newAt v88 v91 n0 := by rw [newAt_real]; exact EReal.coe_nonneg.2 (by positivity)
    have hnt : newAt v88 v91 n0 ≠ ⊤ := by rw [newAt_real]; exact EReal.coe_ne_top _
    refine (hIter_succ c fs fx v50 p v88 v91 n0 hw6 t4 hwh fh hlo hhi hp (k + 1) hk d j).trans ?_
    rw [e1, mul_one, ih (by omega), add_assoc, ← EReal.right_distrib_of_nonneg_of_ne_top hnn hnt, ← h1]
    rfl

end Cert.Kernel.Hand

end
-- ==== Proof.BlockVal.lean ====
/- The value of a block of the result: the previous block, or the previous block scaled plus the scaled sum
   of the products of the expert's rows. -/
module

public import proofs.«01_k».proof.Proof.Iter

@[expose] public section

noncomputable section

namespace Cert.Kernel.Hand

open Cert.Kernel Cert.Kernel.Gen Cert.Chunks
open Idealize.ShloMosaic Idealize.ShloMosaic.TcCoe Idealize.ShloMosaic.Tactic Idealize.ShloMosaic.ValueIdx

section
variable (c : Dev nD)

/-- The previous values, at a place. -/
def Hp (fH : BufH Ideal c) (b : Fin 64) (d j : Fin 1408) : EReal := (Memref.whole main_arg3).view.read (Elt Ideal) fH (ix3 b d j)

/-- A block of the previous values, at a place. -/
theorem hsrc_read (fH : BufH Ideal c) (b : Fin 64) (d j : Fin 1408) :
    (hsrc b).view.read (Elt Ideal) fH (ix2 d j) = Hp c fH b d j := by
  refine (shapeCast_1ab_ab_apply (a := 1408) (b := 1408) (((Memref.whole main_arg3).slice (Rect.unit (s := S64x1408x1408) (boff b.val) S1x1408x1408.size (boff_inb b)) (fun _ => rfl)).view.read (Elt Ideal) fH) _ d j).trans ?_
  refine congrArg ((Memref.whole main_arg3).view.read (Elt Ideal) fH) (funext fun a => Fin.ext ?_)
  match a with
  | 0 => show boff b.val 0 + 1 * 0 = b.val; rw [boff_eq _ b.isLt]; show b.val + 1 * 0 = b.val; omega
  | 1 => show boff b.val 1 + 1 * d.val = d.val; rw [boff_eq _ b.isLt]; show 0 + 1 * d.val = d.val; omega
  | 2 => show boff b.val 2 + 1 * j.val = j.val; rw [boff_eq _ b.isLt]; show 0 + 1 * j.val = j.val; omega

/-- The slot a block is fetched into, at a place. -/
theorem hcan_val (fH : BufH Ideal c) (b : Fin 64) (s : Fin 7) (d j : Fin 1408) : hv (hcan c fH b s) s d j = Hp c fH b d j := by
  refine (hslot_read s (hcan c fH b s) d j).symm.trans ?_
  refine (View.read_writes_apply_of_pieces (hslot s).view (hslot s).view.junk (View.read (Elt Ideal) (hsrc b).view fH) _ ?_ (ix2 d j) ?_).trans (hsrc_read c fH b d j)
  · intro p hp x
    obtain rfl := List.mem_singleton.mp hp
    exact congrArg (View.read (Elt Ideal) (hsrc b).view fH) (funext fun a => Fin.ext (by show (x a).val = 0 + 1 * (x a).val; omega))
  · exact ⟨_, List.mem_singleton.mpr rfl, by rw [Rect.set_whole]; exact Finset.mem_univ _⟩

variable (fo : BufO Ideal c) (fn : BufN Ideal c) (fs : BufS Ideal c) (fx : BufX Ideal c) (fH : BufH Ideal c)

/-- The block of an expert with no rows: as it was. -/
theorem OB_none (ok : OffOk c fo) (b : Fin 64) (d j : Fin 1408) (h : ¬ (oW c fo b.val).toNat < (oW c fo (b.val + 1)).toNat) :
    OB c fo fn fs fx fH ok b (ix2 d j) = Hp c fH b d j := by
  have h0 : cn c fo b.val = 0 := if_neg h
  unfold OB
  rw [h0]
  exact (hslot_read (slotT (t4of b)) _ d j).trans (hcan_val c fH b (slotT (t4of b)) d j)

/-- The block of an expert with rows. -/
theorem OB_some (ok : OffOk c fo) (b : Fin 64) (d j : Fin 1408) (h : (oW c fo b.val).toNat < (oW c fo (b.val + 1)).toNat) :
    OB c fo fn fs fx fH ok b (ix2 d j)
      = Hp c fH b d j * keepAt (oW c fo b.val) (oW c fo (b.val + 1)) (nW c fn b.val) 0
        + (∑ row : Fin 18432, if (oW c fo b.val).toNat ≤ row.val ∧ row.val < (oW c fo (b.val + 1)).toNat then T c fs fx row d j else 0)
          * newAt (oW c fo b.val) (oW c fo (b.val + 1)) (nW c fn b.val) := by
  have hc : cn c fo b.val = ((oW c fo (b.val + 1)).toNat - base (oW c fo b.val).toNat + 255) / 256 := if_pos h
  have hb : base (oW c fo b.val).toNat ≤ (oW c fo b.val).toNat := Nat.div_mul_le_self _ _
  obtain ⟨k, hk⟩ : ∃ k, cn c fo b.val = k + 1 := ⟨cn c fo b.val - 1, by omega⟩
  have he : (oW c fo (b.val + 1)).toNat ≤ base (oW c fo b.val).toNat + 256 * (k + 1) := by omega
  have h1 := hIter_val c fs fx (BitVec.ofNat 32 (pre c fo 64)) (pre c fo b.val) (oW c fo b.val) (oW c fo (b.val + 1)) (nW c fn b.val)
    (hw6_of c fo ok (t4of b)) (t4of b) (hwh_of (t4of b)) (hcan c fH b (slotT (t4of b))) (off_lo c fo ok (t4of b)) (off_hi c fo ok (t4of b))
    (le_trans (pre_hi c fo (t4of b)) (pre_le c fo ok 64 le_rfl)) k (by show k < cn c fo b.val; omega) d j
  unfold OB
  rw [hk]
  refine (hslot_read (slotT (t4of b)) _ d j).trans (h1.trans ?_)
  exact congrArg₂ (· + ·) (congrArg (· * keepAt (oW c fo b.val) (oW c fo (b.val + 1)) (nW c fn b.val) 0) (hcan_val c fH b (slotT (t4of b)) d j))
    (congrArg (· * newAt (oW c fo b.val) (oW c fo (b.val + 1)) (nW c fn b.val)) (upTo_all c fs fx (oW c fo b.val).toNat (oW c fo (b.val + 1)).toNat _ he d j))

end

end Cert.Kernel.Hand

end
-- ==== Proof.RefTail.lean ====
/- The lines of the reference after its region: its two results, in terms of the region's result and the
   arguments. -/
module

public import proofs.«01_k».proof.Proof.Gen.ReferenceIdeal.Frame
public import Idealize.ShloMosaic.Lib.StableHlo.RunRead
public import Idealize.ShloMosaic.PureOps.Ideal

@[expose] public section

noncomputable section

namespace Cert.ReferenceIdeal.Hand

open Cert.ReferenceIdeal Cert.ReferenceIdeal.Gen
open Idealize.ShloMosaic Idealize.ShloMosaic.TcCoe Idealize.ShloMosaic.StableHlo

/-- The lines after the region. -/
abbrev tail : List (HloOp τ sig (Elt Ideal)) := ([hostOps1, hostOps1_1, hostOps1_2, hostOps1_3] : List (List (HloOp τ sig (Elt Ideal)))).flatten

/-- The updated counts. -/
def rCnt (o : Vec Ideal S65 .i32) (n : Vec Ideal S64 .i32) : Vec Ideal S64 .i32 :=
  addi n (subi (extractStridedSlice S64 ![1] o slices_S65_S64_1) (extractStridedSlice S64 ![0] o slices_S65_S64_0))

/-- The updated counts, as real numbers, and at least one. -/
def rCntF (o : Vec Ideal S65 .i32) (n : Vec Ideal S64 .i32) : FVec Ideal S64 .f32 := sitofp .f32 (rCnt o n)
def rTot (o : Vec Ideal S65 .i32) (n : Vec Ideal S64 .i32) : FVec Ideal S64 .f32 :=
  maximumf (rCntF o n) (broadcastInDim S64 ![] bcast_S_S64 (constant S_ .f32 0x3F800000#32))

/-- The rows times their scales. -/
def rXS (x : FVec Ideal S18432x1408 .bf16) (s : FVec Ideal S18432 .f32) : FVec Ideal S18432x1408 .bf16 :=
  mulf x (broadcastInDim S18432x1408 ![0, 1] bcast_S18432x1_S18432x1408_0_1
    (truncf .bf16 (broadcastInDim S18432x1 ![0] bcast_S18432_S18432x1_0 s) bitsLt_bf16_f32))

/-- Which row is which expert's. -/
def rMask (o : Vec Ideal S65 .i32) : Vec Ideal S64x18432 .i1 :=
  andi
    (cmpi .sge (broadcastInDim S64x18432 ![0, 1] bcast_S1x18432_S64x18432_0_1 (broadcastInDim S1x18432 ![1] bcast_S18432_S1x18432_1 (iotaInDim S18432 32 0)))
      (broadcastInDim S64x18432 ![0, 1] bcast_S64x1_S64x18432_0_1 (broadcastInDim S64x1 ![0] bcast_S64_S64x1_0 (extractStridedSlice S64 ![0] o slices_S65_S64_0))))
    (cmpi .slt (broadcastInDim S64x18432 ![0, 1] bcast_S1x18432_S64x18432_0_1 (broadcastInDim S1x18432 ![1] bcast_S18432_S1x18432_1 (iotaInDim S18432 32 0)))
      (broadcastInDim S64x18432 ![0, 1] bcast_S64x1_S64x18432_0_1 (broadcastInDim S64x1 ![0] bcast_S64_S64x1_0 (extractStridedSlice S64 ![1] o slices_S65_S64_1))))

/-- The rows of each expert, zero elsewhere. -/
def rSel (x : FVec Ideal S18432x1408 .bf16) (s : FVec Ideal S18432 .f32) (o : Vec Ideal S65 .i32) : FVec Ideal S64x18432x1408 .bf16 :=
  select
    (broadcastInDim S64x18432x1408 ![0, 1, 2] bcast_S64x18432x1_S64x18432x1408_0_1_2 (broadcastInDim S64x18432x1 ![0, 1] bcast_S64x18432_S64x18432x1_0_1 (rMask o)))
    (broadcastInDim S64x18432x1408 ![1, 2] bcast_S18432x1408_S64x18432x1408_1_2 (rXS x s))
    (broadcastInDim S64x18432x1408 ![1, 2] bcast_S18432x1408_S64x18432x1408_1_2 (broadcastInDim S18432x1408 ![] bcast_S_S18432x1408 (constant S_ .bf16 0x0000#16)))

/-- A number per expert, at every place of its block. -/
def rBc (v : FVec Ideal S64 .f32) : FVec Ideal S64x1408x1408 .f32 :=
  broadcastInDim S64x1408x1408 ![0, 1, 2] bcast_S64x1x1_S64x1408x1408_0_1_2 (broadcastInDim S64x1x1 ![0] bcast_S64_S64x1x1_0 v)

/-- The sum of products, per expert. -/
def rDot (x : FVec Ideal S18432x1408 .bf16) (s : FVec Ideal S18432 .f32) (o : Vec Ideal S65 .i32) : FVec Ideal S64x1408x1408 .f32 :=
  Host.dotGeneral dot_S64x18432x1408_S18432x1408_S64x1408x1408_1_0_02_1_n_n none (rSel x s o) (rXS x s)

/-- The new value, for an expert with samples. -/
def rNew (x : FVec Ideal S18432x1408 .bf16) (s : FVec Ideal S18432 .f32) (o : Vec Ideal S65 .i32) (h : FVec Ideal S64x1408x1408 .f32) (n : Vec Ideal S64 .i32) :
    FVec Ideal S64x1408x1408 .f32 :=
  addf (mulf h (rBc (Host.divf (sitofp .f32 n) (rTot o n))))
    (mulf (rDot x s o) (rBc (Host.divf (broadcastInDim S64 ![] bcast_S_S64 (constant S_ .f32 0x40000000#32)) (rTot o n))))

/-- The first result. -/
def rOut (x : FVec Ideal S18432x1408 .bf16) (s : FVec Ideal S18432 .f32) (o : Vec Ideal S65 .i32) (h : FVec Ideal S64x1408x1408 .f32) (n : Vec Ideal S64 .i32) :
    FVec Ideal S64x1408x1408 .f32 :=
  select (broadcastInDim S64x1408x1408 ![0] bcast_S64_S64x1408x1408_0
    (cmpf .oeq (rCntF o n) (broadcastInDim S64 ![] bcast_S_S64 (constant S_ .f32 0x00000000#32)))) h (rNew x s o h n)

theorem tail_v9 (W : Valuation τ sig (Elt Ideal)) :
    after tail W (Proc.devRef .tc main_v9) = rCnt (W (Proc.devRef .tc main_arg2)) (W (Proc.devRef .tc main_arg4)) := by
  simp only [tail, List.flatten_cons, List.flatten_nil, List.append_nil]
  after_reads_simp
  rfl

theorem tail_v40 (W : Valuation τ sig (Elt Ideal)) :
    after tail W (Proc.devRef .tc main_v40) = rOut (W (Proc.devRef .tc main_v0)) (W (Proc.devRef .tc main_arg1)) (W (Proc.devRef .tc main_arg2))
      (W (Proc.devRef .tc main_arg3)) (W (Proc.devRef .tc main_arg4)) := by
  simp only [tail, List.flatten_cons, List.flatten_nil, List.append_nil]
  after_reads_simp
  simp only [TRef.ofBuf, TRef.toBuf, cast_cast, cast_eq]
  unfold rOut rNew rDot rSel rMask rXS rTot rCntF rCnt rBc
  exact rfl

end Cert.ReferenceIdeal.Hand

end
-- ==== Proof.RefVal.lean ====
/- The two results of the reference at a place: a count, and a value of an expert's block. -/
module

public import proofs.«01_k».proof.Proof.RefTail
public import Idealize.ShloMosaic.Lib.ValueIdx
public import Idealize.ShloMosaic.Lib.IdealHost
public import Idealize.ShloMosaic.Lib.Pointwise.Contract
public import Idealize.ShloMosaic.Lib.Pipeline.Value
public import proofs.«01_k».proof.Proof.Pay

@[expose] public section

noncomputable section

namespace Cert.ReferenceIdeal.Hand

open Cert.ReferenceIdeal Cert.ReferenceIdeal.Gen
open Idealize.ShloMosaic hiding ix1 ix2 ix3
open Idealize.ShloMosaic.TcCoe Idealize.ShloMosaic.ValueIdx

variable (x : FVec Ideal S18432x1408 .bf16) (s : FVec Ideal S18432 .f32) (o : Vec Ideal S65 .i32) (h : FVec Ideal S64x1408x1408 .f32) (n : Vec Ideal S64 .i32)

/-- An expert's first row, and the row past its last. -/
def lo (b : Fin 64) : BitVec 32 := o (ix1 (⟨b.val, by omega⟩ : Fin 65))
def hi (b : Fin 64) : BitVec 32 := o (ix1 (⟨b.val + 1, by omega⟩ : Fin 65))

/-- A scaled row, at a column. -/
def xs (r : Fin 18432) (j : Fin 1408) : EReal := (x (ix2 r j) : EReal) * (s (ix1 r) : EReal)

theorem slice_lo (b : Fin 64) : (extractStridedSlice S64 ![0] o slices_S65_S64_0 : Vec Ideal S64 .i32) (ix1 b) = lo o b :=
  extractStridedSlice_apply _ o _ (ix1 b) (ix1 (⟨b.val, by omega⟩ : Fin 65)) (fun a => by
    match a with | 0 => show b.val = 0 + b.val; omega)

theorem slice_hi (b : Fin 64) : (extractStridedSlice S64 ![1] o slices_S65_S64_1 : Vec Ideal S64 .i32) (ix1 b) = hi o b :=
  extractStridedSlice_apply _ o _ (ix1 b) (ix1 (⟨b.val + 1, by omega⟩ : Fin 65)) (fun a => by
    match a with | 0 => show b.val + 1 = 1 + b.val; omega)

theorem rCnt_at (b : Fin 64) : rCnt o n (ix1 b) = n (ix1 b) + (hi o b - lo o b) := by
  rw [← slice_lo, ← slice_hi]; rfl

theorem rXS_at (r : Fin 18432) (j : Fin 1408) : rXS x s (ix2 r j) = xs x s r j := by
  refine congrArg (fun v : EReal => (x (ix2 r j) : EReal) * v) ?_
  refine (broadcastInDim_apply _ _ _ (ix2 r j) (ix2 r (0 : Fin 1)) (fun a => by
    match a with | 0 => rfl | 1 => rfl)).trans ?_
  exact broadcastInDim_apply ![0] bcast_S18432_S18432x1_0 s (ix2 r (0 : Fin 1)) (ix1 r) (fun a => by match a with | 0 => rfl)

theorem row_bc (b : Fin 64) (r : Fin 18432) :
    (broadcastInDim S64x18432 ![0, 1] bcast_S1x18432_S64x18432_0_1 (broadcastInDim S1x18432 ![1] bcast_S18432_S1x18432_1 (iotaInDim S18432 32 0))) (ix2 b r)
      = BitVec.ofNat 32 r.val :=
  (broadcastInDim_apply _ _ _ (ix2 b r) (ix2 (0 : Fin 1) r) (fun a => by match a with | 0 => rfl | 1 => rfl)).trans
    (broadcastInDim_apply _ _ _ (ix2 (0 : Fin 1) r) (ix1 r) (fun a => by match a with | 0 => rfl))

theorem col_bc (v : Vec Ideal S64 .i32) (b : Fin 64) (r : Fin 18432) :
    (broadcastInDim S64x18432 ![0, 1] bcast_S64x1_S64x18432_0_1 (broadcastInDim S64x1 ![0] bcast_S64_S64x1_0 v)) (ix2 b r) = v (ix1 b) :=
  (broadcastInDim_apply _ _ _ (ix2 b r) (ix2 b (0 : Fin 1)) (fun a => by match a with | 0 => rfl | 1 => rfl)).trans
    (broadcastInDim_apply _ _ v (ix2 b (0 : Fin 1)) (ix1 b) (fun a => by match a with | 0 => rfl))

/-- Whether a row is an expert's. -/
theorem rMask_at (b : Fin 64) (r : Fin 18432) (hlo : (lo o b).toNat ≤ 18432) (hhi : (hi o b).toNat ≤ 18432) :
    rMask o (ix2 b r) = BitVec.ofBool (decide ((lo o b).toNat ≤ r.val ∧ r.val < (hi o b).toNat)) := by
  have e : (BitVec.ofNat 32 r.val).toNat = r.val := by rw [BitVec.toNat_ofNat]; have := r.isLt; omega
  have hr := r.isLt
  have h1 : rMask o (ix2 b r) = IntOp.andi (IntOp.cmpi .sge (BitVec.ofNat 32 r.val) (lo o b)) (IntOp.cmpi .slt (BitVec.ofNat 32 r.val) (hi o b)) := by
    unfold rMask
    exact congrArg₂ IntOp.andi
      (congrArg₂ (IntOp.cmpi .sge) (row_bc b r) ((col_bc _ b r).trans (slice_lo o b)))
      (congrArg₂ (IntOp.cmpi .slt) (row_bc b r) ((col_bc _ b r).trans (slice_hi o b)))
  rw [h1, WordCmp.cmpi_sge_of_lt (by omega) (by omega), WordCmp.cmpi_slt_of_lt (by omega) (by omega), e, WordCmp.andi_ofBool, ← Bool.decide_and]

/-- A scaled row, zero for the experts it is not of. -/
theorem rSel_at (b : Fin 64) (r : Fin 18432) (j : Fin 1408) (hlo : (lo o b).toNat ≤ 18432) (hhi : (hi o b).toNat ≤ 18432) :
    rSel x s o (ix3 b r j) = if (lo o b).toNat ≤ r.val ∧ r.val < (hi o b).toNat then xs x s r j else 0 := by
  have hm : (broadcastInDim S64x18432x1408 ![0, 1, 2] bcast_S64x18432x1_S64x18432x1408_0_1_2 (broadcastInDim S64x18432x1 ![0, 1] bcast_S64x18432_S64x18432x1_0_1 (rMask o))) (ix3 b r j)
      = BitVec.ofBool (decide ((lo o b).toNat ≤ r.val ∧ r.val < (hi o b).toNat)) :=
    ((broadcastInDim_apply _ _ _ (ix3 b r j) (ix3 b r (0 : Fin 1)) (fun a => by match a with | 0 => rfl | 1 => rfl | 2 => rfl)).trans
      (broadcastInDim_apply _ _ (rMask o) (ix3 b r (0 : Fin 1)) (ix2 b r) (fun a => by match a with | 0 => rfl | 1 => rfl))).trans (rMask_at o b r hlo hhi)
  have hx : (broadcastInDim S64x18432x1408 ![1, 2] bcast_S18432x1408_S64x18432x1408_1_2 (rXS x s)) (ix3 b r j) = xs x s r j :=
    (broadcastInDim_apply _ _ (rXS x s) (ix3 b r j) (ix2 r j) (fun a => by match a with | 0 => rfl | 1 => rfl)).trans (rXS_at x s r j)
  have hz : (broadcastInDim S64x18432x1408 ![1, 2] bcast_S18432x1408_S64x18432x1408_1_2 (broadcastInDim S18432x1408 ![] bcast_S_S18432x1408 (constant (F := Ideal) S_ .bf16 0x0000#16))) (ix3 b r j) = (0 : EReal) :=
    (broadcastInDim_apply _ _ _ (ix3 b r j) (ix2 r j) (fun a => by match a with | 0 => rfl | 1 => rfl)).trans
      ((broadcastInDim_apply _ _ _ (ix2 r j) (fun a => a.elim0) (fun a => a.elim0)).trans (Ideal.ofBits_zero_bf16))
  refine (congr (congrArg₂ Scalar.select hm hx) hz).trans ?_
  by_cases hc : (lo o b).toNat ≤ r.val ∧ r.val < (hi o b).toNat
  · rw [if_pos hc, decide_eq_true hc]; rfl
  · rw [if_neg hc, decide_eq_false hc]; rfl

/-- The sum of products, at a place. -/
theorem rDot_at (b : Fin 64) (d j : Fin 1408) :
    rDot x s o (ix3 b d j) = ∑ r : Fin 18432, (rSel x s o (ix3 b r d) : EReal) * (rXS x s (ix2 r j) : EReal) := by
  unfold rDot
  generalize rSel x s o = A
  generalize rXS x s = B
  simp only [pointwise]
  exact zero_add _

/-- A number per expert, at a place of its block. -/
theorem rBc_at (v : FVec Ideal S64 .f32) (b : Fin 64) (d j : Fin 1408) : rBc v (ix3 b d j) = v (ix1 b) :=
  (broadcastInDim_apply _ _ _ (ix3 b d j) (ix3 b (0 : Fin 1) (0 : Fin 1)) (fun a => by match a with | 0 => rfl | 1 => rfl | 2 => rfl)).trans
    (broadcastInDim_apply _ _ v (ix3 b (0 : Fin 1) (0 : Fin 1)) (ix1 b) (fun a => by match a with | 0 => rfl))

/-- A constant per expert. -/
theorem const_at (w : BitVec 32) (b : Fin 64) :
    (broadcastInDim S64 ![] bcast_S_S64 (constant (F := Ideal) S_ .f32 w)) (ix1 b) = Ideal.ofBits .f32 w :=
  broadcastInDim_apply _ _ _ (ix1 b) (fun a => a.elim0) (fun a => a.elim0)

theorem rCntF_at (b : Fin 64) : rCntF o n (ix1 b) = (((n (ix1 b) + (hi o b - lo o b)).toInt : ℝ) : EReal) := by
  rw [← rCnt_at]; rfl

theorem rTot_at (b : Fin 64) : rTot o n (ix1 b) = Cert.Kernel.Hand.total (n (ix1 b)) (lo o b) (hi o b) :=
  congrArg₂ (fun a b : EReal => max a b) (rCntF_at o n b) (const_at _ b)

/-- The test for an expert without samples. -/
def none' (b : Fin 64) : BitVec 1 := FloatOps.cmpf (F := Ideal) (φ := .f32) .oeq (((n (ix1 b) + (hi o b - lo o b)).toInt : ℝ) : EReal) (0 : EReal)

/-- The first result at a place. -/
theorem rOut_at (b : Fin 64) (d j : Fin 1408) (hlo : (lo o b).toNat ≤ 18432) (hhi : (hi o b).toNat ≤ 18432) :
    rOut x s o h n (ix3 b d j) = Scalar.select (none' o n b) (h (ix3 b d j) : EReal)
      ((h (ix3 b d j) : EReal) * Ideal.div (((n (ix1 b)).toInt : ℝ) : EReal) (Cert.Kernel.Hand.total (n (ix1 b)) (lo o b) (hi o b))
        + (∑ r : Fin 18432, if (lo o b).toNat ≤ r.val ∧ r.val < (hi o b).toNat then xs x s r d * xs x s r j else 0)
          * Ideal.div (Ideal.ofBits .f32 0x40000000#32) (Cert.Kernel.Hand.total (n (ix1 b)) (lo o b) (hi o b))) := by
  have hd : (rDot x s o (ix3 b d j) : EReal) = ∑ r : Fin 18432, if (lo o b).toNat ≤ r.val ∧ r.val < (hi o b).toNat then xs x s r d * xs x s r j else 0 := by
    refine (rDot_at x s o b d j).trans (Finset.sum_congr rfl fun r _ => ?_)
    refine (congrArg₂ (fun a b : EReal => a * b) (rSel_at x s o b r d hlo hhi) (rXS_at x s r j)).trans ?_
    by_cases hc : (lo o b).toNat ≤ r.val ∧ r.val < (hi o b).toNat
    · rw [if_pos hc, if_pos hc]
    · rw [if_neg hc, if_neg hc]; exact zero_mul _
  have hk : (rBc (Host.divf (sitofp .f32 n) (rTot o n)) (ix3 b d j) : EReal)
      = Ideal.div (((n (ix1 b)).toInt : ℝ) : EReal) (Cert.Kernel.Hand.total (n (ix1 b)) (lo o b) (hi o b)) :=
    (rBc_at _ b d j).trans (congrArg (Ideal.div (((n (ix1 b)).toInt : ℝ) : EReal)) (rTot_at o n b))
  have hn : (rBc (Host.divf (broadcastInDim S64 ![] bcast_S_S64 (constant (F := Ideal) S_ .f32 0x40000000#32)) (rTot o n)) (ix3 b d j) : EReal)
      = Ideal.div (Ideal.ofBits .f32 0x40000000#32) (Cert.Kernel.Hand.total (n (ix1 b)) (lo o b) (hi o b)) :=
    (rBc_at _ b d j).trans (congrArg₂ Ideal.div (const_at _ b) (rTot_at o n b))
  have hc : (broadcastInDim S64x1408x1408 ![0] bcast_S64_S64x1408x1408_0
      (cmpf .oeq (rCntF o n) (broadcastInDim S64 ![] bcast_S_S64 (constant (F := Ideal) S_ .f32 0x00000000#32)))) (ix3 b d j) = none' o n b :=
    (broadcastInDim_apply _ _ _ (ix3 b d j) (ix1 b) (fun a => by match a with | 0 => rfl)).trans
      (congrArg₂ (FloatOps.cmpf (F := Ideal) (φ := .f32) .oeq) (rCntF_at o n b) ((const_at _ b).trans Cert.Kernel.Hand.zero_f32))
  unfold rOut rNew
  exact congr (congrArg₂ Scalar.select hc rfl)
    (congrArg₂ (fun a b : EReal => a + b) (congrArg (fun v : EReal => (h (ix3 b d j) : EReal) * v) hk) (congrArg₂ (fun a b : EReal => a * b) hd hn))

end Cert.ReferenceIdeal.Hand

end
-- ==== Proof.RefRun.lean ====
/- A run of the reference over exact arithmetic: its two results in terms of its arguments. -/
module

public import proofs.«01_k».proof.Proof.RefVal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The arguments of core `c`. -/
def a0 (c : Dev nD) : FVec Ideal S18432x1408 .fp8e4m3 := m ((c : Thread nD τ).loc main_arg0)
def a1 (c : Dev nD) : FVec Ideal S18432 .f32 := m ((c : Thread nD τ).loc main_arg1)
def a2 (c : Dev nD) : Vec Ideal S65 .i32 := m ((c : Thread nD τ).loc main_arg2)
def a3 (c : Dev nD) : FVec Ideal S64x1408x1408 .f32 := m ((c : Thread nD τ).loc main_arg3)
def a4 (c : Dev nD) : Vec Ideal S64 .i32 := m ((c : Thread nD τ).loc main_arg4)

/-- The rows, widened. -/
def wide (c : Dev nD) : FVec Ideal S18432x1408 .bf16 := extf .bf16 (a0 m c) bitsLt_fp8e4m3_bf16

/-- What the body stores: its block, widened. -/
theorem out_wide (x0 : FVec Ideal S18432x1408 .fp8e4m3) (y : S18432x1408.Idx) : (out0_1 (F := Ideal) x0 y : EReal) = x0 y := by
  unfold out0_1
  refine View.canon_apply_of_pieces (Val := Elt Ideal) (S := S18432x1408) (e := .bf16) (fun i => x0 i) _ ?_ y (cover0_1 (F := Ideal) _ y)
  intro p hp z
  obtain rfl := List.mem_singleton.mp hp
  rfl

/-- What the region leaves: the rows, widened. -/
theorem arr_v0 (c : Dev nD) : (dats m 0 c).arrAt 1 cfg0.N = wide m c := by
  have e0 : ∀ (y : S18432x1408.Idx), ((cfg0.win 0).blk t0_0).view.emb y = y := fun y => by
    funext a
    match a with
    | ⟨0, _⟩ => exact Fin.ext (show 0 * 18432 + 1 * (y 0).val = (y 0).val by omega)
    | ⟨1, _⟩ => exact Fin.ext (show 0 * 1408 + 1 * (y 1).val = (y 1).val by omega)
  have e1 : ∀ (y : S18432x1408.Idx), ((cfg0.win 1).blk t0_0).view.emb y = y := fun y => by
    funext a
    match a with
    | ⟨0, _⟩ => exact Fin.ext (show 0 * 18432 + 1 * (y 0).val = (y 0).val by omega)
    | ⟨1, _⟩ => exact Fin.ext (show 0 * 1408 + 1 * (y 1).val = (y 1).val by omega)
  have hb : iblk m c 0 t0_0 = a0 m c := by
    funext (y : S18432x1408.Idx)
    show V m c main_arg0 (((cfg0.win 0).blk t0_0).view.emb y) = V m c main_arg0 y
    exact congrArg (V m c main_arg0) (e0 y)
  refine Pipeline.Dat.arrAt_eq_of_cover (dats m 0 c) 1 (wide m c) (fun t _ => ?_) (fun i => ⟨t0_0, flush0_1 t0_0, ?_⟩)
  · obtain rfl := fin_N0 t
    funext (y : S18432x1408.Idx)
    have h1 : (dats m 0 c).flushed 1 t0_0 y = out0_1 (iblk m c 0 t0_0) y := by rw [← after0_1 m c t0_0]; rfl
    have h2 : ((cfg0.win 1).blk t0_0).view.read (Elt Ideal) (wide m c) y = wide m c y := congrArg (wide m c) (e1 y)
    refine h1.trans (Eq.trans ?_ h2.symm)
    rw [hb]
    exact out_wide (a0 m c) y
  · exact Finset.mem_map.mpr ⟨i, Finset.mem_univ _, e1 i⟩

/-- The contents the lines after the region start from. -/
abbrev W0 (c : Dev nD) : Valuation τ sig (Elt Ideal) :=
  Pipeline.withArrays (cfgs 0).spec c (V0 m c) fun w => (dats m 0 c).arrAt w (cfgs 0).N

theorem W0_v0 (c : Dev nD) : W0 m c (Proc.devRef .tc main_v0) = wide m c :=
  (Pipeline.withArrays_arr (cfgs 0).spec (by decide) c (V0 m c) (fun w => (dats m 0 c).arrAt w (cfgs 0).N) 1).trans (arr_v0 m c)
theorem W0_arg1 (c : Dev nD) : W0 m c (Proc.devRef .tc main_arg1) = a1 m c :=
  Pipeline.withArrays_of_ne _ c (V0 m c) _ main_arg1 (by exact (by decide : ∀ w, Pipeline.arrRef spec0 w ≠ main_arg1))
theorem W0_arg2 (c : Dev nD) : W0 m c (Proc.devRef .tc main_arg2) = a2 m c :=
  Pipeline.withArrays_of_ne _ c (V0 m c) _ main_arg2 (by exact (by decide : ∀ w, Pipeline.arrRef spec0 w ≠ main_arg2))
theorem W0_arg3 (c : Dev nD) : W0 m c (Proc.devRef .tc main_arg3) = a3 m c :=
  Pipeline.withArrays_of_ne _ c (V0 m c) _ main_arg3 (by exact (by decide : ∀ w, Pipeline.arrRef spec0 w ≠ main_arg3))
theorem W0_arg4 (c : Dev nD) : W0 m c (Proc.devRef .tc main_arg4) = a4 m c :=
  Pipeline.withArrays_of_ne _ c (V0 m c) _ main_arg4 (by exact (by decide : ∀ w, Pipeline.arrRef spec0 w ≠ main_arg4))

theorem out_v40 (c : Dev nD) : Pipeline.afterTail₀ cfgs (dats m) 0 (V0 m) [hostOps1, hostOps1_1, hostOps1_2, hostOps1_3] c main_v40
    = rOut (wide m c) (a1 m c) (a2 m c) (a3 m c) (a4 m c) := by
  refine (tail_v40 (W0 m c)).trans ?_
  rw [W0_v0, W0_arg1, W0_arg2, W0_arg3, W0_arg4]

theorem out_v9 (c : Dev nD) : Pipeline.afterTail₀ cfgs (dats m) 0 (V0 m) [hostOps1, hostOps1_1, hostOps1_2, hostOps1_3] c main_v9
    = rCnt (a2 m c) (a4 m c) := by
  refine (tail_v9 (W0 m c)).trans ?_
  rw [W0_arg2, W0_arg4]

/-- A run ends with the two results. -/
theorem run_out : θ_run defs (onTc (τ := τ) (main (F := Ideal))) ⟨m, fun _ => 0, ρ⟩ (fun r => ∀ c : Dev nD,
      (r.2.mem ((c.tc : Thread nD τ).loc main_v40) = rOut (wide m c) (a1 m c) (a2 m c) (a3 m c) (a4 m c)
      ∧ r.2.mem ((c.tc : Thread nD τ).loc main_v9) = rCnt (a2 m c) (a4 m c))) :=
  (θ_run defs _ _).mono (fun _ h c =>
    ⟨((h c).2 main_v40 (Pipeline.mem_restRefs_of main_v40 (by decide) (by decide))).trans (out_v40 m c),
      ((h c).2 main_v9 (Pipeline.mem_restRefs_of main_v9 (by decide) (by decide))).trans (out_v9 m c)⟩) (run_main m ρ)

/-- A run ends with the two results, and the arguments as they were. -/
theorem run_ref : θ_run defs (onTc (τ := τ) (main (F := Ideal))) ⟨m, fun _ => 0, ρ⟩ (fun r => ∀ c : Dev nD,
      (r.2.mem ((c.tc : Thread nD τ).loc main_v40) = rOut (wide m c) (a1 m c) (a2 m c) (a3 m c) (a4 m c)
      ∧ r.2.mem ((c.tc : Thread nD τ).loc main_v9) = rCnt (a2 m c) (a4 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨h.1 c, h.2 c⟩) (θ_run_and (run_out m ρ) (unchanged m ρ))

end Cert.ReferenceIdeal.Hand

end
-- ==== Proof.Tie.lean ====
/- The results of the kernel are the results of the reference, at the same arguments. -/
module

public import proofs.«01_k».proof.Proof.BlockVal
public import proofs.«01_k».proof.Proof.RefRun
public import proofs.«01_k».proof.Proof.Kframe
public import Idealize.ShloMosaic.Lib.StableHlo.RunRead

@[expose] public section

noncomputable section

namespace Cert.Kernel.Hand

open Cert.Kernel Cert.Kernel.Gen Cert.Chunks
open Idealize.ShloMosaic hiding ix1 ix2 ix3
open Idealize.ShloMosaic.TcCoe Idealize.ShloMosaic.Tactic Idealize.ShloMosaic.ValueIdx

/-- An expert with rows has samples. -/
theorem cnt_ne (n l h : BitVec 32) (hn : 0 ≤ n.toInt) (hl : l.toNat < h.toNat) (hh : h.toNat ≤ 18432) : (n + (h - l)).toInt ≠ 0 := by
  intro e
  have e0 : n + (h - l) = 0#32 := BitVec.eq_of_toInt_eq (e.trans (by decide))
  have e1 := congrArg BitVec.toNat e0
  have hs := (WordCmp.toInt_nonneg_iff_lt_half _).mp hn
  rw [BitVec.toNat_add, BitVec.toNat_sub, BitVec.toNat_ofNat] at e1
  omega

/-- The test for no samples, at a number. -/
theorem none_eq (z : ℤ) : FloatOps.cmpf (F := Ideal) (φ := .f32) .oeq ((z : ℝ) : EReal) (0 : EReal) = BitVec.ofBool (decide (z = 0)) := by
  show BitVec.ofBool (decide (((z : ℝ) : EReal) = 0)) = _
  refine congrArg BitVec.ofBool (decide_eq_decide.mpr ?_)
  rw [EReal.coe_eq_zero, Int.cast_eq_zero]

theorem sel_true (a b : EReal) : Scalar.select (BitVec.ofBool true) a b = a := rfl
theorem sel_false (a b : EReal) : Scalar.select (BitVec.ofBool false) a b = b := rfl

/-- An expert with neither rows nor change of count: the scaled previous value is the previous value. -/
theorem keep_one (n l : BitVec 32) (hn : 0 ≤ n.toInt) (h0 : n.toInt ≠ 0) : Ideal.div ((n.toInt : ℝ) : EReal) (total n l l) = 1 := by
  have h1 : (1 : ℝ) ≤ (n.toInt : ℝ) := by exact_mod_cast (by omega : (1 : ℤ) ≤ n.toInt)
  have hz : n + (l - l) = n := by rw [BitVec.sub_self, BitVec.add_zero]
  rw [total_real, hz, max_eq_left h1, Ideal.div_coe (by positivity), ← EReal.coe_mul, mul_one_div_cancel (by positivity)]
  rfl

variable (m : (ℓ : Loc nD τ sig) → Buf (Elt Ideal) ℓ)

/-- The arguments of core `c`. -/
def b0 (c : Dev nD) : FVec Ideal S18432x1408 .fp8e4m3 := m ((c : Thread nD τ).loc main_arg0)
def b1 (c : Dev nD) : FVec Ideal S18432 .f32 := m ((c : Thread nD τ).loc main_arg1)
def b2 (c : Dev nD) : Vec Ideal S65 .i32 := m ((c : Thread nD τ).loc main_arg2)
def b3 (c : Dev nD) : FVec Ideal S64x1408x1408 .f32 := m ((c : Thread nD τ).loc main_arg3)
def b4 (c : Dev nD) : Vec Ideal S64 .i32 := m ((c : Thread nD τ).loc main_arg4)

/-- The rows, widened. -/
def bwide (c : Dev nD) : FVec Ideal S18432x1408 .bf16 := fun i => b0 m c i

theorem oW_at (c : Dev nD) (e : ℕ) (he : e < 65) : oW c (foM m c) e = b2 m c (ix1 (⟨e, he⟩ : Fin 65)) := by
  rw [foM_eq]
  refine congrArg (m ((c : Thread nD τ).loc main_arg2)) ?_
  funext a
  fin_cases a
  exact Fin.ext (Nat.mod_eq_of_lt he)

theorem oW_lo (c : Dev nD) (b : Fin 64) : oW c (foM m c) b.val = Cert.ReferenceIdeal.Hand.lo (b2 m c) b := oW_at m c b.val (by omega)
theorem oW_hi (c : Dev nD) (b : Fin 64) : oW c (foM m c) (b.val + 1) = Cert.ReferenceIdeal.Hand.hi (b2 m c) b := oW_at m c (b.val + 1) (by omega)

theorem nW_at (c : Dev nD) (b : Fin 64) : nW c (fnM m c) b.val = b4 m c (ix1 b) := by
  rw [fnM_eq]
  refine congrArg (m ((c : Thread nD τ).loc main_arg4)) ?_
  funext a
  fin_cases a
  exact Fin.ext (Nat.mod_eq_of_lt b.isLt)

theorem X_at (c : Dev nD) (r : Fin 18432) (j : Fin 1408) : X c (fxM m c) r j = b0 m c (ix2 r j) := by
  unfold fxM
  rw [V_main_arg0]
  rfl

theorem Hp_at (c : Dev nD) (b : Fin 64) (d j : Fin 1408) : Hp c (fHM m c) b d j = b3 m c (ix3 b d j) := by
  unfold fHM
  rw [V_main_arg3]
  rfl

theorem S_at (c : Dev nD) (r : Fin 18432) : S c (fsM m c) r = b1 m c (ix1 r) := by
  have hV : V m c main_v0 = (shapeCast S144x128 (b1 m c) shapeCasts_S18432_S144x128 : FVec Ideal S144x128 .f32) := by
    after_reads_simp
    rfl
  rw [fsM_eq, hV]
  refine shapeCast_apply (b1 m c) shapeCasts_S18432_S144x128 (ix2 (⟨r.val / 128, by omega⟩ : Fin 144) (⟨r.val % 128, by omega⟩ : Fin 128)) (ix1 r) ?_
  rw [Shape.rowMajor_val_two, Shape.rowMajor_val_one]
  show r.val = r.val / 128 * 128 + r.val % 128
  omega

theorem T_at (c : Dev nD) (r : Fin 18432) (d j : Fin 1408) :
    T c (fsM m c) (fxM m c) r d j = Cert.ReferenceIdeal.Hand.xs (bwide m c) (b1 m c) r d * Cert.ReferenceIdeal.Hand.xs (bwide m c) (b1 m c) r j := by
  unfold T
  rw [X_at, X_at, S_at]
  rfl

/-- A place of a block. -/
theorem block_tie (h : Good m) (c : Dev nD) (hp : ∀ i, 0 ≤ (b4 m c i).toInt) (b : Fin 64) (d j : Fin 1408) :
    OBM m (Good.ok m h) c b (ix2 d j)
      = Cert.ReferenceIdeal.Hand.rOut (bwide m c) (b1 m c) (b2 m c) (b3 m c) (b4 m c) (ix3 b d j) := by
  have ok := Good.ok m h c
  have hlo : (Cert.ReferenceIdeal.Hand.lo (b2 m c) b).toNat ≤ 18432 := by rw [← oW_lo]; exact ok.le _ (by omega)
  have hhi : (Cert.ReferenceIdeal.Hand.hi (b2 m c) b).toNat ≤ 18432 := by rw [← oW_hi]; exact ok.le _ (by omega)
  have hmono : (Cert.ReferenceIdeal.Hand.lo (b2 m c) b).toNat ≤ (Cert.ReferenceIdeal.Hand.hi (b2 m c) b).toNat := by
    rw [← oW_lo, ← oW_hi]; exact ok.mono _ b.isLt
  have hn : 0 ≤ (b4 m c (ix1 b)).toInt := hp _
  have href := Cert.ReferenceIdeal.Hand.rOut_at (bwide m c) (b1 m c) (b2 m c) (b3 m c) (b4 m c) b d j hlo hhi
  unfold Cert.ReferenceIdeal.Hand.none' at href
  rw [none_eq] at href
  refine Eq.trans ?_ href.symm
  by_cases hc : (Cert.ReferenceIdeal.Hand.lo (b2 m c) b).toNat < (Cert.ReferenceIdeal.Hand.hi (b2 m c) b).toNat
  · have h1 := OB_some c (foM m c) (fnM m c) (fsM m c) (fxM m c) (fHM m c) ok b d j (by rw [oW_lo, oW_hi]; exact hc)
    rw [decide_eq_false (cnt_ne _ _ _ hn hc hhi)]
    refine h1.trans ?_
    rw [oW_lo, oW_hi, nW_at, Hp_at, sel_false, keepAt, if_pos rfl, newAt]
    simp only [T_at]
  · have h1 := OB_none c (foM m c) (fnM m c) (fsM m c) (fxM m c) (fHM m c) ok b d j (by rw [oW_lo, oW_hi]; exact hc)
    refine h1.trans ?_
    rw [Hp_at]
    have he : Cert.ReferenceIdeal.Hand.hi (b2 m c) b = Cert.ReferenceIdeal.Hand.lo (b2 m c) b := BitVec.eq_of_toNat_eq (by omega)
    rw [he, BitVec.sub_self, BitVec.add_zero]
    by_cases h0 : (b4 m c (ix1 b)).toInt = 0
    · rw [decide_eq_true h0, sel_true]
    · rw [decide_eq_false h0, sel_false, keep_one _ _ hn h0, Finset.sum_eq_zero (fun r _ => if_neg (by omega)), zero_mul, mul_one, add_zero]

/-- The first results agree. -/
theorem out_tie (h : Good m) (c : Dev nD) (hp : ∀ i, 0 ≤ (b4 m c i).toInt) :
    gather c (OBM m (Good.ok m h) c) = Cert.ReferenceIdeal.Hand.rOut (bwide m c) (b1 m c) (b2 m c) (b3 m c) (b4 m c) := by
  funext (i : S64x1408x1408.Idx)
  have e2 : bidx i = ix2 (i 1 : Fin 1408) (i 2 : Fin 1408) := by funext a; match a with | ⟨0, _⟩ => rfl | ⟨1, _⟩ => rfl
  have e3 : i = ix3 (i 0 : Fin 64) (i 1 : Fin 1408) (i 2 : Fin 1408) := by funext a; match a with | ⟨0, _⟩ => rfl | ⟨1, _⟩ => rfl | ⟨2, _⟩ => rfl
  have h1 := block_tie m h c hp (i 0 : Fin 64) (i 1 : Fin 1408) (i 2 : Fin 1408)
  refine (congrArg (OBM m (Good.ok m h) c (i 0 : Fin 64)) e2).trans (h1.trans ?_)
  exact congrArg (Cert.ReferenceIdeal.Hand.rOut (bwide m c) (b1 m c) (b2 m c) (b3 m c) (b4 m c)) e3.symm

/-- The counts agree. -/
theorem cnt_tie (c : Dev nD) : cntM m c = Cert.ReferenceIdeal.Hand.rCnt (b2 m c) (b4 m c) := by
  funext (i : S64.Idx)
  obtain ⟨b, rfl⟩ : ∃ b : Fin 64, i = ix1 b := ⟨i 0, by funext a; match a with | ⟨0, _⟩ => rfl⟩
  refine Eq.trans ?_ (Cert.ReferenceIdeal.Hand.rCnt_at (b2 m c) (b4 m c) b).symm
  show nW c (fnM m c) b.val + (oW c (foM m c) (b.val + 1) - oW c (foM m c) b.val) = _
  rw [oW_lo, oW_hi, nW_at]

end Cert.Kernel.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_valid
public import proofs.«01_k».proof.Proof.Same
public import proofs.«01_k».proof.Proof.Tie

@[expose] public section

noncomputable section

namespace Cert.Proof

open Idealize.ShloMosaic Idealize.ShloMosaic.TcCoe Idealize.SL.Sem

/-- The kernel as printed returns from offsets in range with its arguments and semaphores as they were. -/
theorem frame_kernel : Cert.quiescent_Kernel (hKernel := Cert.Kernel.Gen.facts) (hPre_in_range := Cert.Valid.in_range_facts) :=
  fun m g h => (θ_run _ _ _).mono (fun _ k => ⟨fun c => (k.1 c).1, k.2⟩)
    (Cert.Kernel.Hand.run_good (F := Bits) m g fun c =>
      @Cert.Valid.of_in_range _ _ Cert.Valid.in_range_facts _ _ _ _ _ (h c))

/-- So does the kernel over exact arithmetic: it is the same program. -/
theorem frame_ideal : Cert.quiescent_KernelIdeal (hKernelIdeal := Cert.KernelIdeal.Gen.facts) (hPre_in_range := Cert.Valid.in_range_facts) := by
  intro m g h
  rw [Cert.Kernel.Hand.defs_same, Cert.Kernel.Hand.main_same]
  exact (θ_run _ _ _).mono (fun _ k => ⟨fun c => (k.1 c).1, k.2⟩)
    (Cert.Kernel.Hand.run_good (F := Ideal) m g fun c =>
      @Cert.Valid.of_in_range _ _ Cert.Valid.in_range_facts _ _ _ _ _ (h c))

/-- … from valid arguments too. -/
theorem frame_ideal_valid : Cert.quiescent_KernelIdeal_pre_valid (hKernelIdeal := Cert.KernelIdeal.Gen.facts) (hPre_valid := Cert.Pre_valid.Gen.facts) := by
  intro m g h
  rw [Cert.Kernel.Hand.defs_same, Cert.Kernel.Hand.main_same]
  exact (θ_run _ _ _).mono (fun _ k => ⟨fun c => (k.1 c).1, k.2⟩)
    (Cert.Kernel.Hand.run_good (F := Ideal) m g fun c => (Cert.Valid.of_fn _ _ _ _ _ (h c)).toSorted)

/-- So does the reference. -/
theorem frame_reference : Cert.quiescent_ReferenceIdeal (hReferenceIdeal := Cert.ReferenceIdeal.Gen.facts) :=
  fun m g _ => Cert.ReferenceIdeal.Gen.frame m g

/-- … from valid arguments too. -/
theorem frame_reference_valid : Cert.quiescent_ReferenceIdeal_pre_valid (hReferenceIdeal := Cert.ReferenceIdeal.Gen.facts) (hPre_valid := Cert.Pre_valid.Gen.facts) :=
  fun m g _ => Cert.ReferenceIdeal.Gen.frame m g

/-- The reference's results, from the arguments of the kernel. -/
theorem ref_out (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)
    (h0 : Cert.ReferenceIdeal.Hand.a0 m' c = Cert.Kernel.Hand.b0 m c) (h1 : Cert.ReferenceIdeal.Hand.a1 m' c = Cert.Kernel.Hand.b1 m c)
    (h2 : Cert.ReferenceIdeal.Hand.a2 m' c = Cert.Kernel.Hand.b2 m c) (h3 : Cert.ReferenceIdeal.Hand.a3 m' c = Cert.Kernel.Hand.b3 m c)
    (h4 : Cert.ReferenceIdeal.Hand.a4 m' c = Cert.Kernel.Hand.b4 m c) (h : Cert.Kernel.Hand.Good m)
    (hp : ∀ i, 0 ≤ (Cert.Kernel.Hand.b4 m c i).toInt) :
    Cert.ReferenceIdeal.Hand.rOut (Cert.ReferenceIdeal.Hand.wide m' c) (Cert.ReferenceIdeal.Hand.a1 m' c) (Cert.ReferenceIdeal.Hand.a2 m' c)
        (Cert.ReferenceIdeal.Hand.a3 m' c) (Cert.ReferenceIdeal.Hand.a4 m' c)
      = Cert.Kernel.Hand.gather c (Cert.Kernel.Hand.OBM m (Cert.Kernel.Hand.Good.ok m h) c) := by
  have hw : Cert.ReferenceIdeal.Hand.wide m' c = Cert.Kernel.Hand.bwide m c := by
    unfold Cert.ReferenceIdeal.Hand.wide
    rw [h0]
    rfl
  rw [hw, h1, h2, h3, h4]
  exact (Cert.Kernel.Hand.out_tie m h c hp).symm

theorem ref_cnt (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)
    (h2 : Cert.ReferenceIdeal.Hand.a2 m' c = Cert.Kernel.Hand.b2 m c) (h4 : Cert.ReferenceIdeal.Hand.a4 m' c = Cert.Kernel.Hand.b4 m c) :
    Cert.ReferenceIdeal.Hand.rCnt (Cert.ReferenceIdeal.Hand.a2 m' c) (Cert.ReferenceIdeal.Hand.a4 m' c) = Cert.Kernel.Hand.cntM m c := by
  rw [h2, h4]
  exact (Cert.Kernel.Hand.cnt_tie m c).symm

/-- Over exact arithmetic both results of the kernel are those of the reference. -/
theorem values : Cert.algebraic_KernelIdeal_ReferenceIdeal_pre_valid (hKernelIdeal := Cert.KernelIdeal.Gen.facts) (hReferenceIdeal := Cert.ReferenceIdeal.Gen.facts)
    (hPre_valid := Cert.Pre_valid.Gen.facts) := by
  intro m g m' g' h hagree
  have hsays := fun c => Cert.Valid.of_fn _ _ _ _ _ (h c)
  have hgood : Cert.Kernel.Hand.Good (F := Ideal) m := fun c => (hsays c).toSorted
  refine ⟨fun c => Cert.Kernel.Hand.gather c (Cert.Kernel.Hand.OBM m (Cert.Kernel.Hand.Good.ok m hgood) c), fun c => Cert.Kernel.Hand.cntM m c, ?_, ?_⟩
  · rw [Cert.Kernel.Hand.defs_same, Cert.Kernel.Hand.main_same]
    exact (θ_run _ _ _).mono (fun _ k c => ⟨(k.1 c).2.1, (k.1 c).2.2, (k.1 c).1⟩) (Cert.Kernel.Hand.run_good (F := Ideal) m g hgood)
  · exact (θ_run _ _ _).mono
      (fun _ k c => ⟨(k c).1.1.trans (ref_out m m' c (hagree c).1 (hagree c).2.1 (hagree c).2.2.1 (hagree c).2.2.2.1 (hagree c).2.2.2.2 hgood (hsays c).prev),
        (k c).1.2.trans (ref_cnt m m' c (hagree c).2.2.1 (hagree c).2.2.2.2), (k c).2⟩)
      (Cert.ReferenceIdeal.Hand.run_ref m' g')

theorem claim : Cert.Claim :=
  ⟨Cert.Kernel.Gen.facts, Cert.KernelIdeal.Gen.facts, Cert.ReferenceIdeal.Gen.facts, Cert.Valid.in_range_facts, Cert.Pre_valid.Gen.facts,
    frame_kernel, frame_ideal, frame_ideal_valid, frame_reference, frame_reference_valid, trivial, values⟩

end Cert.Proof

end
